-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_ctx_finite [hPre_ctx_finite : Cert.Pre_ctx_finite.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_ctx_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3)) (m ((c.tc : Thread Cert.CtxAttnIdeal.nD Cert.CtxAttnIdeal.τ).loc Cert.CtxAttnIdeal.main_arg4)) (m ((c.tc : Thread Cert.CtxAttnIdeal.nD Cert.CtxAttnIdeal.τ).loc Cert.CtxAttnIdeal.main_arg5)) (m ((c.tc : Thread Cert.CtxAttnIdeal.nD Cert.CtxAttnIdeal.τ).loc Cert.CtxAttnIdeal.main_arg6)) (m ((c.tc : Thread Cert.CtxAttnIdeal.nD Cert.CtxAttnIdeal.τ).loc Cert.CtxAttnIdeal.main_arg7)) (m ((c.tc : Thread Cert.CtxAttnIdeal.nD Cert.CtxAttnIdeal.τ).loc Cert.CtxAttnIdeal.main_arg8))) = (fun _ => 1#1)

def Pre_CtxAttnRefIdeal (m : (ℓ : Loc Cert.CtxAttnRefIdeal.nD Cert.CtxAttnRefIdeal.τ Cert.CtxAttnRefIdeal.sig) → Buf (Elt Ideal) ℓ) : Prop :=
  True

def Pre_CtxAttnRefIdeal_ctx_finite [hPre_ctx_finite : Cert.Pre_ctx_finite.Facts] (m : (ℓ : Loc Cert.CtxAttnRefIdeal.nD Cert.CtxAttnRefIdeal.τ Cert.CtxAttnRefIdeal.sig) → Buf (Elt Ideal) ℓ) : Prop :=
  ∀ c : Dev Cert.CtxAttnRefIdeal.nD,
    (Cert.Pre_ctx_finite.fn (F := Ideal) (m ((c.tc : Thread Cert.CtxAttnRefIdeal.nD Cert.CtxAttnRefIdeal.τ).loc Cert.CtxAttnRefIdeal.main_arg0)) (m ((c.tc : Thread Cert.CtxAttnRefIdeal.nD Cert.CtxAttnRefIdeal.τ).loc Cert.CtxAttnRefIdeal.main_arg1)) (m ((c.tc : Thread Cert.CtxAttnRefIdeal.nD Cert.CtxAttnRefIdeal.τ).loc Cert.CtxAttnRefIdeal.main_arg2)) (m ((c.tc : Thread Cert.CtxAttnRefIdeal.nD Cert.CtxAttnRefIdeal.τ).loc Cert.CtxAttnRefIdeal.main_arg3)) (m ((c.tc : Thread Cert.CtxAttnRefIdeal.nD Cert.CtxAttnRefIdeal.τ).loc Cert.CtxAttnRefIdeal.main_arg4)) (m ((c.tc : Thread Cert.CtxAttnRefIdeal.nD Cert.CtxAttnRefIdeal.τ).loc Cert.CtxAttnRefIdeal.main_arg5)) (m ((c.tc : Thread Cert.CtxAttnRefIdeal.nD Cert.CtxAttnRefIdeal.τ).loc Cert.CtxAttnRefIdeal.main_arg6)) (m ((c.tc : Thread Cert.CtxAttnRefIdeal.nD Cert.CtxAttnRefIdeal.τ).loc Cert.CtxAttnRefIdeal.main_arg7)) (m ((c.tc : Thread Cert.CtxAttnRefIdeal.nD Cert.CtxAttnRefIdeal.τ).loc Cert.CtxAttnRefIdeal.main_arg8))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4)
      ∧ r.2.mem ((c.tc : Thread Cert.Norms.nD Cert.Norms.τ).loc Cert.Norms.main_arg5) = m ((c.tc : Thread Cert.Norms.nD Cert.Norms.τ).loc Cert.Norms.main_arg5)
      ∧ r.2.mem ((c.tc : Thread Cert.Norms.nD Cert.Norms.τ).loc Cert.Norms.main_arg6) = m ((c.tc : Thread Cert.Norms.nD Cert.Norms.τ).loc Cert.Norms.main_arg6)
      ∧ r.2.mem ((c.tc : Thread Cert.Norms.nD Cert.Norms.τ).loc Cert.Norms.main_arg7) = m ((c.tc : Thread Cert.Norms.nD Cert.Norms.τ).loc Cert.Norms.main_arg7)
      ∧ r.2.mem ((c.tc : Thread Cert.Norms.nD Cert.Norms.τ).loc Cert.Norms.main_arg8) = m ((c.tc : Thread Cert.Norms.nD Cert.Norms.τ).loc Cert.Norms.main_arg8)
      ∧ r.2.mem ((c.tc : Thread Cert.Norms.nD Cert.Norms.τ).loc Cert.Norms.main_arg9) = m ((c.tc : Thread Cert.Norms.nD Cert.Norms.τ).loc Cert.Norms.main_arg9)
      ∧ r.2.mem ((c.tc : Thread Cert.Norms.nD Cert.Norms.τ).loc Cert.Norms.main_arg10) = m ((c.tc : Thread Cert.Norms.nD Cert.Norms.τ).loc Cert.Norms.main_arg10)
      ∧ r.2.mem ((c.tc : Thread Cert.Norms.nD Cert.Norms.τ).loc Cert.Norms.main_arg11) = m ((c.tc : Thread Cert.Norms.nD Cert.Norms.τ).loc Cert.Norms.main_arg11))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
      ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6)
      ∧ r.2.mem ((c.tc : Thread Cert.NormsIdeal.nD Cert.NormsIdeal.τ).loc Cert.NormsIdeal.main_arg7) = m ((c.tc : Thread Cert.NormsIdeal.nD Cert.NormsIdeal.τ).loc Cert.NormsIdeal.main_arg7)
      ∧ r.2.mem ((c.tc : Thread Cert.NormsIdeal.nD Cert.NormsIdeal.τ).loc Cert.NormsIdeal.main_arg8) = m ((c.tc : Thread Cert.NormsIdeal.nD Cert.NormsIdeal.τ).loc Cert.NormsIdeal.main_arg8)
      ∧ r.2.mem ((c.tc : Thread Cert.NormsIdeal.nD Cert.NormsIdeal.τ).loc Cert.NormsIdeal.main_arg9) = m ((c.tc : Thread Cert.NormsIdeal.nD Cert.NormsIdeal.τ).loc Cert.NormsIdeal.main_arg9)
      ∧ r.2.mem ((c.tc : Thread Cert.NormsIdeal.nD Cert.NormsIdeal.τ).loc Cert.NormsIdeal.main_arg10) = m ((c.tc : Thread Cert.NormsIdeal.nD Cert.NormsIdeal.τ).loc Cert.NormsIdeal.main_arg10)
      ∧ r.2.mem ((c.tc : Thread Cert.NormsIdeal.nD Cert.NormsIdeal.τ).loc Cert.NormsIdeal.main_arg11) = m ((c.tc : Thread Cert.NormsIdeal.nD Cert.NormsIdeal.τ).loc Cert.NormsIdeal.main_arg11))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4)
      ∧ r.2.mem ((c.tc : Thread Cert.NormsRefIdeal.nD Cert.NormsRefIdeal.τ).loc Cert.NormsRefIdeal.main_arg5) = m ((c.tc : Thread Cert.NormsRefIdeal.nD Cert.NormsRefIdeal.τ).loc Cert.NormsRefIdeal.main_arg5)
      ∧ r.2.mem ((c.tc : Thread Cert.NormsRefIdeal.nD Cert.NormsRefIdeal.τ).loc Cert.NormsRefIdeal.main_arg6) = m ((c.tc : Thread Cert.NormsRefIdeal.nD Cert.NormsRefIdeal.τ).loc Cert.NormsRefIdeal.main_arg6)
      ∧ r.2.mem ((c.tc : Thread Cert.NormsRefIdeal.nD Cert.NormsRefIdeal.τ).loc Cert.NormsRefIdeal.main_arg7) = m ((c.tc : Thread Cert.NormsRefIdeal.nD Cert.NormsRefIdeal.τ).loc Cert.NormsRefIdeal.main_arg7)
      ∧ r.2.mem ((c.tc : Thread Cert.NormsRefIdeal.nD Cert.NormsRefIdeal.τ).loc Cert.NormsRefIdeal.main_arg8) = m ((c.tc : Thread Cert.NormsRefIdeal.nD Cert.NormsRefIdeal.τ).loc Cert.NormsRefIdeal.main_arg8)
      ∧ r.2.mem ((c.tc : Thread Cert.NormsRefIdeal.nD Cert.NormsRefIdeal.τ).loc Cert.NormsRefIdeal.main_arg9) = m ((c.tc : Thread Cert.NormsRefIdeal.nD Cert.NormsRefIdeal.τ).loc Cert.NormsRefIdeal.main_arg9)
      ∧ r.2.mem ((c.tc : Thread Cert.NormsRefIdeal.nD Cert.NormsRefIdeal.τ).loc Cert.NormsRefIdeal.main_arg10) = m ((c.tc : Thread Cert.NormsRefIdeal.nD Cert.NormsRefIdeal.τ).loc Cert.NormsRefIdeal.main_arg10)
      ∧ r.2.mem ((c.tc : Thread Cert.NormsRefIdeal.nD Cert.NormsRefIdeal.τ).loc Cert.NormsRefIdeal.main_arg11) = m ((c.tc : Thread Cert.NormsRefIdeal.nD Cert.NormsRefIdeal.τ).loc Cert.NormsRefIdeal.main_arg11))
      ∧ r.2.sem = fun _ => 0)

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0)
      ∧ r.2.mem ((c.tc : Thread Cert.CtxAttn.nD Cert.CtxAttn.τ).loc Cert.CtxAttn.main_arg1) = m ((c.tc : Thread Cert.CtxAttn.nD Cert.CtxAttn.τ).loc Cert.CtxAttn.main_arg1)
      ∧ r.2.mem ((c.tc : Thread Cert.CtxAttn.nD Cert.CtxAttn.τ).loc Cert.CtxAttn.main_arg2) = m ((c.tc : Thread Cert.CtxAttn.nD Cert.CtxAttn.τ).loc Cert.CtxAttn.main_arg2)
      ∧ r.2.mem ((c.tc : Thread Cert.CtxAttn.nD Cert.CtxAttn.τ).loc Cert.CtxAttn.main_arg3) = m ((c.tc : Thread Cert.CtxAttn.nD Cert.CtxAttn.τ).loc Cert.CtxAttn.main_arg3)
      ∧ r.2.mem ((c.tc : Thread Cert.CtxAttn.nD Cert.CtxAttn.τ).loc Cert.CtxAttn.main_arg4) = m ((c.tc : Thread Cert.CtxAttn.nD Cert.CtxAttn.τ).loc Cert.CtxAttn.main_arg4)
      ∧ r.2.mem ((c.tc : Thread Cert.CtxAttn.nD Cert.CtxAttn.τ).loc Cert.CtxAttn.main_arg5) = m ((c.tc : Thread Cert.CtxAttn.nD Cert.CtxAttn.τ).loc Cert.CtxAttn.main_arg5)
      ∧ r.2.mem ((c.tc : Thread Cert.CtxAttn.nD Cert.CtxAttn.τ).loc Cert.CtxAttn.main_arg6) = m ((c.tc : Thread Cert.CtxAttn.nD Cert.CtxAttn.τ).loc Cert.CtxAttn.main_arg6)
      ∧ r.2.mem ((c.tc : Thread Cert.CtxAttn.nD Cert.CtxAttn.τ).loc Cert.CtxAttn.main_arg7) = m ((c.tc : Thread Cert.CtxAttn.nD Cert.CtxAttn.τ).loc Cert.CtxAttn.main_arg7)
      ∧ r.2.mem ((c.tc : Thread Cert.CtxAttn.nD Cert.CtxAttn.τ).loc Cert.CtxAttn.main_arg8) = m ((c.tc : Thread Cert.CtxAttn.nD Cert.CtxAttn.τ).loc Cert.CtxAttn.main_arg8))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3)
      ∧ r.2.mem ((c.tc : Thread Cert.CtxAttnIdeal.nD Cert.CtxAttnIdeal.τ).loc Cert.CtxAttnIdeal.main_arg4) = m ((c.tc : Thread Cert.CtxAttnIdeal.nD Cert.CtxAttnIdeal.τ).loc Cert.CtxAttnIdeal.main_arg4)
      ∧ r.2.mem ((c.tc : Thread Cert.CtxAttnIdeal.nD Cert.CtxAttnIdeal.τ).loc Cert.CtxAttnIdeal.main_arg5) = m ((c.tc : Thread Cert.CtxAttnIdeal.nD Cert.CtxAttnIdeal.τ).loc Cert.CtxAttnIdeal.main_arg5)
      ∧ r.2.mem ((c.tc : Thread Cert.CtxAttnIdeal.nD Cert.CtxAttnIdeal.τ).loc Cert.CtxAttnIdeal.main_arg6) = m ((c.tc : Thread Cert.CtxAttnIdeal.nD Cert.CtxAttnIdeal.τ).loc Cert.CtxAttnIdeal.main_arg6)
      ∧ r.2.mem ((c.tc : Thread Cert.CtxAttnIdeal.nD Cert.CtxAttnIdeal.τ).loc Cert.CtxAttnIdeal.main_arg7) = m ((c.tc : Thread Cert.CtxAttnIdeal.nD Cert.CtxAttnIdeal.τ).loc Cert.CtxAttnIdeal.main_arg7)
      ∧ r.2.mem ((c.tc : Thread Cert.CtxAttnIdeal.nD Cert.CtxAttnIdeal.τ).loc Cert.CtxAttnIdeal.main_arg8) = m ((c.tc : Thread Cert.CtxAttnIdeal.nD Cert.CtxAttnIdeal.τ).loc Cert.CtxAttnIdeal.main_arg8))
      ∧ r.2.sem = fun _ => 0)

def quiescent_CtxAttnIdeal_pre_ctx_finite [hCtxAttnIdeal : Cert.CtxAttnIdeal.Facts] [hPre_ctx_finite : Cert.Pre_ctx_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_ctx_finite m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3)
      ∧ r.2.mem ((c.tc : Thread Cert.CtxAttnIdeal.nD Cert.CtxAttnIdeal.τ).loc Cert.CtxAttnIdeal.main_arg4) = m ((c.tc : Thread Cert.CtxAttnIdeal.nD Cert.CtxAttnIdeal.τ).loc Cert.CtxAttnIdeal.main_arg4)
      ∧ r.2.mem ((c.tc : Thread Cert.CtxAttnIdeal.nD Cert.CtxAttnIdeal.τ).loc Cert.CtxAttnIdeal.main_arg5) = m ((c.tc : Thread Cert.CtxAttnIdeal.nD Cert.CtxAttnIdeal.τ).loc Cert.CtxAttnIdeal.main_arg5)
      ∧ r.2.mem ((c.tc : Thread Cert.CtxAttnIdeal.nD Cert.CtxAttnIdeal.τ).loc Cert.CtxAttnIdeal.main_arg6) = m ((c.tc : Thread Cert.CtxAttnIdeal.nD Cert.CtxAttnIdeal.τ).loc Cert.CtxAttnIdeal.main_arg6)
      ∧ r.2.mem ((c.tc : Thread Cert.CtxAttnIdeal.nD Cert.CtxAttnIdeal.τ).loc Cert.CtxAttnIdeal.main_arg7) = m ((c.tc : Thread Cert.CtxAttnIdeal.nD Cert.CtxAttnIdeal.τ).loc Cert.CtxAttnIdeal.main_arg7)
      ∧ r.2.mem ((c.tc : Thread Cert.CtxAttnIdeal.nD Cert.CtxAttnIdeal.τ).loc Cert.CtxAttnIdeal.main_arg8) = m ((c.tc : Thread Cert.CtxAttnIdeal.nD Cert.CtxAttnIdeal.τ).loc Cert.CtxAttnIdeal.main_arg8))
      ∧ r.2.sem = fun _ => 0)

def quiescent_CtxAttnRefIdeal [hCtxAttnRefIdeal : Cert.CtxAttnRefIdeal.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0)
      ∧ r.2.mem ((c.tc : Thread Cert.CtxAttnRefIdeal.nD Cert.CtxAttnRefIdeal.τ).loc Cert.CtxAttnRefIdeal.main_arg1) = m ((c.tc : Thread Cert.CtxAttnRefIdeal.nD Cert.CtxAttnRefIdeal.τ).loc Cert.CtxAttnRefIdeal.main_arg1)
      ∧ r.2.mem ((c.tc : Thread Cert.CtxAttnRefIdeal.nD Cert.CtxAttnRefIdeal.τ).loc Cert.CtxAttnRefIdeal.main_arg2) = m ((c.tc : Thread Cert.CtxAttnRefIdeal.nD Cert.CtxAttnRefIdeal.τ).loc Cert.CtxAttnRefIdeal.main_arg2)
      ∧ r.2.mem ((c.tc : Thread Cert.CtxAttnRefIdeal.nD Cert.CtxAttnRefIdeal.τ).loc Cert.CtxAttnRefIdeal.main_arg3) = m ((c.tc : Thread Cert.CtxAttnRefIdeal.nD Cert.CtxAttnRefIdeal.τ).loc Cert.CtxAttnRefIdeal.main_arg3)
      ∧ r.2.mem ((c.tc : Thread Cert.CtxAttnRefIdeal.nD Cert.CtxAttnRefIdeal.τ).loc Cert.CtxAttnRefIdeal.main_arg4) = m ((c.tc : Thread Cert.CtxAttnRefIdeal.nD Cert.CtxAttnRefIdeal.τ).loc Cert.CtxAttnRefIdeal.main_arg4)
      ∧ r.2.mem ((c.tc : Thread Cert.CtxAttnRefIdeal.nD Cert.CtxAttnRefIdeal.τ).loc Cert.CtxAttnRefIdeal.main_arg5) = m ((c.tc : Thread Cert.CtxAttnRefIdeal.nD Cert.CtxAttnRefIdeal.τ).loc Cert.CtxAttnRefIdeal.main_arg5)
      ∧ r.2.mem ((c.tc : Thread Cert.CtxAttnRefIdeal.nD Cert.CtxAttnRefIdeal.τ).loc Cert.CtxAttnRefIdeal.main_arg6) = m ((c.tc : Thread Cert.CtxAttnRefIdeal.nD Cert.CtxAttnRefIdeal.τ).loc Cert.CtxAttnRefIdeal.main_arg6)
      ∧ r.2.mem ((c.tc : Thread Cert.CtxAttnRefIdeal.nD Cert.CtxAttnRefIdeal.τ).loc Cert.CtxAttnRefIdeal.main_arg7) = m ((c.tc : Thread Cert.CtxAttnRefIdeal.nD Cert.CtxAttnRefIdeal.τ).loc Cert.CtxAttnRefIdeal.main_arg7)
      ∧ r.2.mem ((c.tc : Thread Cert.CtxAttnRefIdeal.nD Cert.CtxAttnRefIdeal.τ).loc Cert.CtxAttnRefIdeal.main_arg8) = m ((c.tc : Thread Cert.CtxAttnRefIdeal.nD Cert.CtxAttnRefIdeal.τ).loc Cert.CtxAttnRefIdeal.main_arg8))
      ∧ r.2.sem = fun _ => 0)

def quiescent_CtxAttnRefIdeal_pre_ctx_finite [hCtxAttnRefIdeal : Cert.CtxAttnRefIdeal.Facts] [hPre_ctx_finite : Cert.Pre_ctx_finite.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal_ctx_finite m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0)
      ∧ r.2.mem ((c.tc : Thread Cert.CtxAttnRefIdeal.nD Cert.CtxAttnRefIdeal.τ).loc Cert.CtxAttnRefIdeal.main_arg1) = m ((c.tc : Thread Cert.CtxAttnRefIdeal.nD Cert.CtxAttnRefIdeal.τ).loc Cert.CtxAttnRefIdeal.main_arg1)
      ∧ r.2.mem ((c.tc : Thread Cert.CtxAttnRefIdeal.nD Cert.CtxAttnRefIdeal.τ).loc Cert.CtxAttnRefIdeal.main_arg2) = m ((c.tc : Thread Cert.CtxAttnRefIdeal.nD Cert.CtxAttnRefIdeal.τ).loc Cert.CtxAttnRefIdeal.main_arg2)
      ∧ r.2.mem ((c.tc : Thread Cert.CtxAttnRefIdeal.nD Cert.CtxAttnRefIdeal.τ).loc Cert.CtxAttnRefIdeal.main_arg3) = m ((c.tc : Thread Cert.CtxAttnRefIdeal.nD Cert.CtxAttnRefIdeal.τ).loc Cert.CtxAttnRefIdeal.main_arg3)
      ∧ r.2.mem ((c.tc : Thread Cert.CtxAttnRefIdeal.nD Cert.CtxAttnRefIdeal.τ).loc Cert.CtxAttnRefIdeal.main_arg4) = m ((c.tc : Thread Cert.CtxAttnRefIdeal.nD Cert.CtxAttnRefIdeal.τ).loc Cert.CtxAttnRefIdeal.main_arg4)
      ∧ r.2.mem ((c.tc : Thread Cert.CtxAttnRefIdeal.nD Cert.CtxAttnRefIdeal.τ).loc Cert.CtxAttnRefIdeal.main_arg5) = m ((c.tc : Thread Cert.CtxAttnRefIdeal.nD Cert.CtxAttnRefIdeal.τ).loc Cert.CtxAttnRefIdeal.main_arg5)
      ∧ r.2.mem ((c.tc : Thread Cert.CtxAttnRefIdeal.nD Cert.CtxAttnRefIdeal.τ).loc Cert.CtxAttnRefIdeal.main_arg6) = m ((c.tc : Thread Cert.CtxAttnRefIdeal.nD Cert.CtxAttnRefIdeal.τ).loc Cert.CtxAttnRefIdeal.main_arg6)
      ∧ r.2.mem ((c.tc : Thread Cert.CtxAttnRefIdeal.nD Cert.CtxAttnRefIdeal.τ).loc Cert.CtxAttnRefIdeal.main_arg7) = m ((c.tc : Thread Cert.CtxAttnRefIdeal.nD Cert.CtxAttnRefIdeal.τ).loc Cert.CtxAttnRefIdeal.main_arg7)
      ∧ r.2.mem ((c.tc : Thread Cert.CtxAttnRefIdeal.nD Cert.CtxAttnRefIdeal.τ).loc Cert.CtxAttnRefIdeal.main_arg8) = m ((c.tc : Thread Cert.CtxAttnRefIdeal.nD Cert.CtxAttnRefIdeal.τ).loc Cert.CtxAttnRefIdeal.main_arg8))
      ∧ r.2.sem = fun _ => 0)

def preserves_Attn_AttnIdeal : Prop :=
  IdealRules.named_const.Statement Cert.AttnIdeal.κ "qscale" .f32 0x3E38AA3B#32 (((1 / 8) * (Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v163)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v163) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v207) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v15)) (v1 : (c : Dev Cert.InProjIdeal.nD) → Buf (Elt Ideal) ((c.tc : Thread Cert.InProjIdeal.nD Cert.InProjIdeal.τ).loc Cert.InProjIdeal.main_v16)) (v2 : (c : Dev Cert.InProjIdeal.nD) → Buf (Elt Ideal) ((c.tc : Thread Cert.InProjIdeal.nD Cert.InProjIdeal.τ).loc Cert.InProjIdeal.main_v17)) (v3 : (c : Dev Cert.InProjIdeal.nD) → Buf (Elt Ideal) ((c.tc : Thread Cert.InProjIdeal.nD Cert.InProjIdeal.τ).loc Cert.InProjIdeal.main_v24)) (v4 : (c : Dev Cert.InProjIdeal.nD) → Buf (Elt Ideal) ((c.tc : Thread Cert.InProjIdeal.nD Cert.InProjIdeal.τ).loc Cert.InProjIdeal.main_v25)) (v5 : (c : Dev Cert.InProjIdeal.nD) → Buf (Elt Ideal) ((c.tc : Thread Cert.InProjIdeal.nD Cert.InProjIdeal.τ).loc Cert.InProjIdeal.main_v18)) (v6 : (c : Dev Cert.InProjIdeal.nD) → Buf (Elt Ideal) ((c.tc : Thread Cert.InProjIdeal.nD Cert.InProjIdeal.τ).loc Cert.InProjIdeal.main_v19)) (v7 : (c : Dev Cert.InProjIdeal.nD) → Buf (Elt Ideal) ((c.tc : Thread Cert.InProjIdeal.nD Cert.InProjIdeal.τ).loc Cert.InProjIdeal.main_v20)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15) = v0 c
          ∧ r.2.mem ((c.tc : Thread Cert.InProjIdeal.nD Cert.InProjIdeal.τ).loc Cert.InProjIdeal.main_v16) = v1 c
          ∧ r.2.mem ((c.tc : Thread Cert.InProjIdeal.nD Cert.InProjIdeal.τ).loc Cert.InProjIdeal.main_v17) = v2 c
          ∧ r.2.mem ((c.tc : Thread Cert.InProjIdeal.nD Cert.InProjIdeal.τ).loc Cert.InProjIdeal.main_v24) = v3 c
          ∧ r.2.mem ((c.tc : Thread Cert.InProjIdeal.nD Cert.InProjIdeal.τ).loc Cert.InProjIdeal.main_v25) = v4 c
          ∧ r.2.mem ((c.tc : Thread Cert.InProjIdeal.nD Cert.InProjIdeal.τ).loc Cert.InProjIdeal.main_v18) = v5 c
          ∧ r.2.mem ((c.tc : Thread Cert.InProjIdeal.nD Cert.InProjIdeal.τ).loc Cert.InProjIdeal.main_v19) = v6 c
          ∧ r.2.mem ((c.tc : Thread Cert.InProjIdeal.nD Cert.InProjIdeal.τ).loc Cert.InProjIdeal.main_v20) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_v19) = v1 c
          ∧ r.2.mem ((c.tc : Thread Cert.InProjRefIdeal.nD Cert.InProjRefIdeal.τ).loc Cert.InProjRefIdeal.main_v20) = v2 c
          ∧ r.2.mem ((c.tc : Thread Cert.InProjRefIdeal.nD Cert.InProjRefIdeal.τ).loc Cert.InProjRefIdeal.main_v21) = v3 c
          ∧ r.2.mem ((c.tc : Thread Cert.InProjRefIdeal.nD Cert.InProjRefIdeal.τ).loc Cert.InProjRefIdeal.main_v22) = v4 c
          ∧ r.2.mem ((c.tc : Thread Cert.InProjRefIdeal.nD Cert.InProjRefIdeal.τ).loc Cert.InProjRefIdeal.main_v23) = v5 c
          ∧ r.2.mem ((c.tc : Thread Cert.InProjRefIdeal.nD Cert.InProjRefIdeal.τ).loc Cert.InProjRefIdeal.main_v24) = v6 c
          ∧ r.2.mem ((c.tc : Thread Cert.InProjRefIdeal.nD Cert.InProjRefIdeal.τ).loc Cert.InProjRefIdeal.main_v25) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v37)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v37) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v48) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v3)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v3) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v7) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)
      ∧ m' ((c.tc : Thread Cert.NormsRefIdeal.nD Cert.NormsRefIdeal.τ).loc Cert.NormsRefIdeal.main_arg4) = m ((c.tc : Thread Cert.NormsIdeal.nD Cert.NormsIdeal.τ).loc Cert.NormsIdeal.main_arg4)
      ∧ m' ((c.tc : Thread Cert.NormsRefIdeal.nD Cert.NormsRefIdeal.τ).loc Cert.NormsRefIdeal.main_arg5) = m ((c.tc : Thread Cert.NormsIdeal.nD Cert.NormsIdeal.τ).loc Cert.NormsIdeal.main_arg5)
      ∧ m' ((c.tc : Thread Cert.NormsRefIdeal.nD Cert.NormsRefIdeal.τ).loc Cert.NormsRefIdeal.main_arg6) = m ((c.tc : Thread Cert.NormsIdeal.nD Cert.NormsIdeal.τ).loc Cert.NormsIdeal.main_arg6)
      ∧ m' ((c.tc : Thread Cert.NormsRefIdeal.nD Cert.NormsRefIdeal.τ).loc Cert.NormsRefIdeal.main_arg7) = m ((c.tc : Thread Cert.NormsIdeal.nD Cert.NormsIdeal.τ).loc Cert.NormsIdeal.main_arg7)
      ∧ m' ((c.tc : Thread Cert.NormsRefIdeal.nD Cert.NormsRefIdeal.τ).loc Cert.NormsRefIdeal.main_arg8) = m ((c.tc : Thread Cert.NormsIdeal.nD Cert.NormsIdeal.τ).loc Cert.NormsIdeal.main_arg8)
      ∧ m' ((c.tc : Thread Cert.NormsRefIdeal.nD Cert.NormsRefIdeal.τ).loc Cert.NormsRefIdeal.main_arg9) = m ((c.tc : Thread Cert.NormsIdeal.nD Cert.NormsIdeal.τ).loc Cert.NormsIdeal.main_arg9)
      ∧ m' ((c.tc : Thread Cert.NormsRefIdeal.nD Cert.NormsRefIdeal.τ).loc Cert.NormsRefIdeal.main_arg10) = m ((c.tc : Thread Cert.NormsIdeal.nD Cert.NormsIdeal.τ).loc Cert.NormsIdeal.main_arg10)
      ∧ m' ((c.tc : Thread Cert.NormsRefIdeal.nD Cert.NormsRefIdeal.τ).loc Cert.NormsRefIdeal.main_arg11) = m ((c.tc : Thread Cert.NormsIdeal.nD Cert.NormsIdeal.τ).loc Cert.NormsIdeal.main_arg11)) →
    ∃ (v0 : (c : Dev Cert.NormsIdeal.nD) → Buf (Elt Ideal) ((c.tc : Thread Cert.NormsIdeal.nD Cert.NormsIdeal.τ).loc Cert.NormsIdeal.main_v57)) (v1 : (c : Dev Cert.NormsIdeal.nD) → Buf (Elt Ideal) ((c.tc : Thread Cert.NormsIdeal.nD Cert.NormsIdeal.τ).loc Cert.NormsIdeal.main_v76)) (v2 : (c : Dev Cert.NormsIdeal.nD) → Buf (Elt Ideal) ((c.tc : Thread Cert.NormsIdeal.nD Cert.NormsIdeal.τ).loc Cert.NormsIdeal.main_v78)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v57) = v0 c
          ∧ r.2.mem ((c.tc : Thread Cert.NormsIdeal.nD Cert.NormsIdeal.τ).loc Cert.NormsIdeal.main_v76) = v1 c
          ∧ r.2.mem ((c.tc : Thread Cert.NormsIdeal.nD Cert.NormsIdeal.τ).loc Cert.NormsIdeal.main_v78) = v2 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
          ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
          ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6)
          ∧ r.2.mem ((c.tc : Thread Cert.NormsIdeal.nD Cert.NormsIdeal.τ).loc Cert.NormsIdeal.main_arg7) = m ((c.tc : Thread Cert.NormsIdeal.nD Cert.NormsIdeal.τ).loc Cert.NormsIdeal.main_arg7)
          ∧ r.2.mem ((c.tc : Thread Cert.NormsIdeal.nD Cert.NormsIdeal.τ).loc Cert.NormsIdeal.main_arg8) = m ((c.tc : Thread Cert.NormsIdeal.nD Cert.NormsIdeal.τ).loc Cert.NormsIdeal.main_arg8)
          ∧ r.2.mem ((c.tc : Thread Cert.NormsIdeal.nD Cert.NormsIdeal.τ).loc Cert.NormsIdeal.main_arg9) = m ((c.tc : Thread Cert.NormsIdeal.nD Cert.NormsIdeal.τ).loc Cert.NormsIdeal.main_arg9)
          ∧ r.2.mem ((c.tc : Thread Cert.NormsIdeal.nD Cert.NormsIdeal.τ).loc Cert.NormsIdeal.main_arg10) = m ((c.tc : Thread Cert.NormsIdeal.nD Cert.NormsIdeal.τ).loc Cert.NormsIdeal.main_arg10)
          ∧ r.2.mem ((c.tc : Thread Cert.NormsIdeal.nD Cert.NormsIdeal.τ).loc Cert.NormsIdeal.main_arg11) = m ((c.tc : Thread Cert.NormsIdeal.nD Cert.NormsIdeal.τ).loc Cert.NormsIdeal.main_arg11))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v112) = v0 c
          ∧ r.2.mem ((c.tc : Thread Cert.NormsRefIdeal.nD Cert.NormsRefIdeal.τ).loc Cert.NormsRefIdeal.main_v113) = v1 c
          ∧ r.2.mem ((c.tc : Thread Cert.NormsRefIdeal.nD Cert.NormsRefIdeal.τ).loc Cert.NormsRefIdeal.main_v114) = v2 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3)
          ∧ r.2.mem ((c.tc : Thread Cert.NormsRefIdeal.nD Cert.NormsRefIdeal.τ).loc Cert.NormsRefIdeal.main_arg4) = m' ((c.tc : Thread Cert.NormsRefIdeal.nD Cert.NormsRefIdeal.τ).loc Cert.NormsRefIdeal.main_arg4)
          ∧ r.2.mem ((c.tc : Thread Cert.NormsRefIdeal.nD Cert.NormsRefIdeal.τ).loc Cert.NormsRefIdeal.main_arg5) = m' ((c.tc : Thread Cert.NormsRefIdeal.nD Cert.NormsRefIdeal.τ).loc Cert.NormsRefIdeal.main_arg5)
          ∧ r.2.mem ((c.tc : Thread Cert.NormsRefIdeal.nD Cert.NormsRefIdeal.τ).loc Cert.NormsRefIdeal.main_arg6) = m' ((c.tc : Thread Cert.NormsRefIdeal.nD Cert.NormsRefIdeal.τ).loc Cert.NormsRefIdeal.main_arg6)
          ∧ r.2.mem ((c.tc : Thread Cert.NormsRefIdeal.nD Cert.NormsRefIdeal.τ).loc Cert.NormsRefIdeal.main_arg7) = m' ((c.tc : Thread Cert.NormsRefIdeal.nD Cert.NormsRefIdeal.τ).loc Cert.NormsRefIdeal.main_arg7)
          ∧ r.2.mem ((c.tc : Thread Cert.NormsRefIdeal.nD Cert.NormsRefIdeal.τ).loc Cert.NormsRefIdeal.main_arg8) = m' ((c.tc : Thread Cert.NormsRefIdeal.nD Cert.NormsRefIdeal.τ).loc Cert.NormsRefIdeal.main_arg8)
          ∧ r.2.mem ((c.tc : Thread Cert.NormsRefIdeal.nD Cert.NormsRefIdeal.τ).loc Cert.NormsRefIdeal.main_arg9) = m' ((c.tc : Thread Cert.NormsRefIdeal.nD Cert.NormsRefIdeal.τ).loc Cert.NormsRefIdeal.main_arg9)
          ∧ r.2.mem ((c.tc : Thread Cert.NormsRefIdeal.nD Cert.NormsRefIdeal.τ).loc Cert.NormsRefIdeal.main_arg10) = m' ((c.tc : Thread Cert.NormsRefIdeal.nD Cert.NormsRefIdeal.τ).loc Cert.NormsRefIdeal.main_arg10)
          ∧ r.2.mem ((c.tc : Thread Cert.NormsRefIdeal.nD Cert.NormsRefIdeal.τ).loc Cert.NormsRefIdeal.main_arg11) = m' ((c.tc : Thread Cert.NormsRefIdeal.nD Cert.NormsRefIdeal.τ).loc Cert.NormsRefIdeal.main_arg11))

def preserves_CtxAttn_CtxAttnIdeal : Prop :=
  IdealRules.named_const.Statement Cert.CtxAttnIdeal.κ "qscale" .f32 0x3E38AA3B#32 (((1 / 8) * (Real.log 2)⁻¹ : ℝ) : EReal)

def algebraic_CtxAttnIdeal_CtxAttnRefIdeal_pre_ctx_finite [hCtxAttnIdeal : Cert.CtxAttnIdeal.Facts] [hCtxAttnRefIdeal : Cert.CtxAttnRefIdeal.Facts] [hPre_ctx_finite : Cert.Pre_ctx_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxAttnRefIdeal.nD Cert.CtxAttnRefIdeal.τ Cert.CtxAttnRefIdeal.sig) → Buf (Elt Ideal) ℓ) (g' : Dev Cert.CtxAttnRefIdeal.nD → PrngReg), Pre_CtxAttnIdeal_ctx_finite m →
    (∀ c : Dev Cert.CtxAttnIdeal.nD,
      m' ((c.tc : Thread Cert.CtxAttnRefIdeal.nD Cert.CtxAttnRefIdeal.τ).loc Cert.CtxAttnRefIdeal.main_arg0) = m ((c.tc : Thread Cert.CtxAttnIdeal.nD Cert.CtxAttnIdeal.τ).loc Cert.CtxAttnIdeal.main_arg0)
      ∧ m' ((c.tc : Thread Cert.CtxAttnRefIdeal.nD Cert.CtxAttnRefIdeal.τ).loc Cert.CtxAttnRefIdeal.main_arg1) = m ((c.tc : Thread Cert.CtxAttnIdeal.nD Cert.CtxAttnIdeal.τ).loc Cert.CtxAttnIdeal.main_arg1)
      ∧ m' ((c.tc : Thread Cert.CtxAttnRefIdeal.nD Cert.CtxAttnRefIdeal.τ).loc Cert.CtxAttnRefIdeal.main_arg2) = m ((c.tc : Thread Cert.CtxAttnIdeal.nD Cert.CtxAttnIdeal.τ).loc Cert.CtxAttnIdeal.main_arg2)
      ∧ m' ((c.tc : Thread Cert.CtxAttnRefIdeal.nD Cert.CtxAttnRefIdeal.τ).loc Cert.CtxAttnRefIdeal.main_arg3) = m ((c.tc : Thread Cert.CtxAttnIdeal.nD Cert.CtxAttnIdeal.τ).loc Cert.CtxAttnIdeal.main_arg3)
      ∧ m' ((c.tc : Thread Cert.CtxAttnRefIdeal.nD Cert.CtxAttnRefIdeal.τ).loc Cert.CtxAttnRefIdeal.main_arg4) = m ((c.tc : Thread Cert.CtxAttnIdeal.nD Cert.CtxAttnIdeal.τ).loc Cert.CtxAttnIdeal.main_arg4)
      ∧ m' ((c.tc : Thread Cert.CtxAttnRefIdeal.nD Cert.CtxAttnRefIdeal.τ).loc Cert.CtxAttnRefIdeal.main_arg5) = m ((c.tc : Thread Cert.CtxAttnIdeal.nD Cert.CtxAttnIdeal.τ).loc Cert.CtxAttnIdeal.main_arg5)
      ∧ m' ((c.tc : Thread Cert.CtxAttnRefIdeal.nD Cert.CtxAttnRefIdeal.τ).loc Cert.CtxAttnRefIdeal.main_arg6) = m ((c.tc : Thread Cert.CtxAttnIdeal.nD Cert.CtxAttnIdeal.τ).loc Cert.CtxAttnIdeal.main_arg6)
      ∧ m' ((c.tc : Thread Cert.CtxAttnRefIdeal.nD Cert.CtxAttnRefIdeal.τ).loc Cert.CtxAttnRefIdeal.main_arg7) = m ((c.tc : Thread Cert.CtxAttnIdeal.nD Cert.CtxAttnIdeal.τ).loc Cert.CtxAttnIdeal.main_arg7)
      ∧ m' ((c.tc : Thread Cert.CtxAttnRefIdeal.nD Cert.CtxAttnRefIdeal.τ).loc Cert.CtxAttnRefIdeal.main_arg8) = m ((c.tc : Thread Cert.CtxAttnIdeal.nD Cert.CtxAttnIdeal.τ).loc Cert.CtxAttnIdeal.main_arg8)) →
    ∃ (v0 : (c : Dev Cert.CtxAttnIdeal.nD) → Buf (Elt Ideal) ((c.tc : Thread Cert.CtxAttnIdeal.nD Cert.CtxAttnIdeal.τ).loc Cert.CtxAttnIdeal.main_v165)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v165) = v0 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
          ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
          ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
          ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3)
          ∧ r.2.mem ((c.tc : Thread Cert.CtxAttnIdeal.nD Cert.CtxAttnIdeal.τ).loc Cert.CtxAttnIdeal.main_arg4) = m ((c.tc : Thread Cert.CtxAttnIdeal.nD Cert.CtxAttnIdeal.τ).loc Cert.CtxAttnIdeal.main_arg4)
          ∧ r.2.mem ((c.tc : Thread Cert.CtxAttnIdeal.nD Cert.CtxAttnIdeal.τ).loc Cert.CtxAttnIdeal.main_arg5) = m ((c.tc : Thread Cert.CtxAttnIdeal.nD Cert.CtxAttnIdeal.τ).loc Cert.CtxAttnIdeal.main_arg5)
          ∧ r.2.mem ((c.tc : Thread Cert.CtxAttnIdeal.nD Cert.CtxAttnIdeal.τ).loc Cert.CtxAttnIdeal.main_arg6) = m ((c.tc : Thread Cert.CtxAttnIdeal.nD Cert.CtxAttnIdeal.τ).loc Cert.CtxAttnIdeal.main_arg6)
          ∧ r.2.mem ((c.tc : Thread Cert.CtxAttnIdeal.nD Cert.CtxAttnIdeal.τ).loc Cert.CtxAttnIdeal.main_arg7) = m ((c.tc : Thread Cert.CtxAttnIdeal.nD Cert.CtxAttnIdeal.τ).loc Cert.CtxAttnIdeal.main_arg7)
          ∧ r.2.mem ((c.tc : Thread Cert.CtxAttnIdeal.nD Cert.CtxAttnIdeal.τ).loc Cert.CtxAttnIdeal.main_arg8) = m ((c.tc : Thread Cert.CtxAttnIdeal.nD Cert.CtxAttnIdeal.τ).loc Cert.CtxAttnIdeal.main_arg8))
      ∧ θ_run (Cert.CtxAttnRefIdeal.defs (F := Ideal)) (onTc (τ := Cert.CtxAttnRefIdeal.τ) (Cert.CtxAttnRefIdeal.main (F := Ideal))) ⟨m', fun _ => 0, g'⟩ (fun r => ∀ c : Dev Cert.CtxAttnRefIdeal.nD,
          r.2.mem ((c.tc : Thread Cert.CtxAttnRefIdeal.nD Cert.CtxAttnRefIdeal.τ).loc Cert.CtxAttnRefIdeal.main_v79) = v0 c
          ∧ r.2.mem ((c.tc : Thread Cert.CtxAttnRefIdeal.nD Cert.CtxAttnRefIdeal.τ).loc Cert.CtxAttnRefIdeal.main_arg0) = m' ((c.tc : Thread Cert.CtxAttnRefIdeal.nD Cert.CtxAttnRefIdeal.τ).loc Cert.CtxAttnRefIdeal.main_arg0)
          ∧ r.2.mem ((c.tc : Thread Cert.CtxAttnRefIdeal.nD Cert.CtxAttnRefIdeal.τ).loc Cert.CtxAttnRefIdeal.main_arg1) = m' ((c.tc : Thread Cert.CtxAttnRefIdeal.nD Cert.CtxAttnRefIdeal.τ).loc Cert.CtxAttnRefIdeal.main_arg1)
          ∧ r.2.mem ((c.tc : Thread Cert.CtxAttnRefIdeal.nD Cert.CtxAttnRefIdeal.τ).loc Cert.CtxAttnRefIdeal.main_arg2) = m' ((c.tc : Thread Cert.CtxAttnRefIdeal.nD Cert.CtxAttnRefIdeal.τ).loc Cert.CtxAttnRefIdeal.main_arg2)
          ∧ r.2.mem ((c.tc : Thread Cert.CtxAttnRefIdeal.nD Cert.CtxAttnRefIdeal.τ).loc Cert.CtxAttnRefIdeal.main_arg3) = m' ((c.tc : Thread Cert.CtxAttnRefIdeal.nD Cert.CtxAttnRefIdeal.τ).loc Cert.CtxAttnRefIdeal.main_arg3)
          ∧ r.2.mem ((c.tc : Thread Cert.CtxAttnRefIdeal.nD Cert.CtxAttnRefIdeal.τ).loc Cert.CtxAttnRefIdeal.main_arg4) = m' ((c.tc : Thread Cert.CtxAttnRefIdeal.nD Cert.CtxAttnRefIdeal.τ).loc Cert.CtxAttnRefIdeal.main_arg4)
          ∧ r.2.mem ((c.tc : Thread Cert.CtxAttnRefIdeal.nD Cert.CtxAttnRefIdeal.τ).loc Cert.CtxAttnRefIdeal.main_arg5) = m' ((c.tc : Thread Cert.CtxAttnRefIdeal.nD Cert.CtxAttnRefIdeal.τ).loc Cert.CtxAttnRefIdeal.main_arg5)
          ∧ r.2.mem ((c.tc : Thread Cert.CtxAttnRefIdeal.nD Cert.CtxAttnRefIdeal.τ).loc Cert.CtxAttnRefIdeal.main_arg6) = m' ((c.tc : Thread Cert.CtxAttnRefIdeal.nD Cert.CtxAttnRefIdeal.τ).loc Cert.CtxAttnRefIdeal.main_arg6)
          ∧ r.2.mem ((c.tc : Thread Cert.CtxAttnRefIdeal.nD Cert.CtxAttnRefIdeal.τ).loc Cert.CtxAttnRefIdeal.main_arg7) = m' ((c.tc : Thread Cert.CtxAttnRefIdeal.nD Cert.CtxAttnRefIdeal.τ).loc Cert.CtxAttnRefIdeal.main_arg7)
          ∧ r.2.mem ((c.tc : Thread Cert.CtxAttnRefIdeal.nD Cert.CtxAttnRefIdeal.τ).loc Cert.CtxAttnRefIdeal.main_arg8) = m' ((c.tc : Thread Cert.CtxAttnRefIdeal.nD Cert.CtxAttnRefIdeal.τ).loc Cert.CtxAttnRefIdeal.main_arg8))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hQuery : Cert.Query.Facts) (hQueryIdeal : Cert.QueryIdeal.Facts) (hQueryRefIdeal : Cert.QueryRefIdeal.Facts) (hNorms : Cert.Norms.Facts) (hNormsIdeal : Cert.NormsIdeal.Facts) (hNormsRefIdeal : Cert.NormsRefIdeal.Facts) (hCtxAttn : Cert.CtxAttn.Facts) (hCtxAttnIdeal : Cert.CtxAttnIdeal.Facts) (hCtxAttnRefIdeal : Cert.CtxAttnRefIdeal.Facts) (hPre_attn_finite : Cert.Pre_attn_finite.Facts) (hPre_ctx_finite : Cert.Pre_ctx_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Query (hQuery := hQuery)
    ∧ quiescent_QueryIdeal (hQueryIdeal := hQueryIdeal)
    ∧ quiescent_QueryRefIdeal (hQueryRefIdeal := hQueryRefIdeal)
    ∧ quiescent_Norms (hNorms := hNorms)
    ∧ quiescent_NormsIdeal (hNormsIdeal := hNormsIdeal)
    ∧ quiescent_NormsRefIdeal (hNormsRefIdeal := hNormsRefIdeal)
    ∧ quiescent_CtxAttn (hCtxAttn := hCtxAttn)
    ∧ quiescent_CtxAttnIdeal (hCtxAttnIdeal := hCtxAttnIdeal)
    ∧ quiescent_CtxAttnIdeal_pre_ctx_finite (hCtxAttnIdeal := hCtxAttnIdeal) (hPre_ctx_finite := hPre_ctx_finite)
    ∧ quiescent_CtxAttnRefIdeal (hCtxAttnRefIdeal := hCtxAttnRefIdeal)
    ∧ quiescent_CtxAttnRefIdeal_pre_ctx_finite (hCtxAttnRefIdeal := hCtxAttnRefIdeal) (hPre_ctx_finite := hPre_ctx_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Query_QueryIdeal
    ∧ algebraic_QueryIdeal_QueryRefIdeal (hQueryIdeal := hQueryIdeal) (hQueryRefIdeal := hQueryRefIdeal)
    ∧ preserves_Norms_NormsIdeal
    ∧ algebraic_NormsIdeal_NormsRefIdeal (hNormsIdeal := hNormsIdeal) (hNormsRefIdeal := hNormsRefIdeal)
    ∧ preserves_CtxAttn_CtxAttnIdeal
    ∧ algebraic_CtxAttnIdeal_CtxAttnRefIdeal_pre_ctx_finite (hCtxAttnIdeal := hCtxAttnIdeal) (hCtxAttnRefIdeal := hCtxAttnRefIdeal) (hPre_ctx_finite := hPre_ctx_finite)
-- ==== Pre_attn_finite.lean ====
abbrev S8x256x3072 : Shape := ⟨3, ![8, 256, 3072]⟩
abbrev S8x4096x3072 : Shape := ⟨3, ![8, 4096, 3072]⟩
abbrev S64 : Shape := ⟨1, ![64]⟩
abbrev S128 : Shape := ⟨1, ![128]⟩
abbrev S_ : Shape := ⟨0, ![]⟩

class Facts : Prop where
  bcast_S_S8x256x3072 : S_.BroadcastsInDim S8x256x3072 (![] : Fin 0 → Fin S8x256x3072.rank)
  reducesTo_S8x256x3072_S_d0_1_2 : S8x256x3072.ReducesTo [0, 1, 2] S_
  h_S_ : 0 < S_.numel
  bcast_S_S8x4096x3072 : S_.BroadcastsInDim S8x4096x3072 (![] : Fin 0 → Fin S8x4096x3072.rank)
  reducesTo_S8x4096x3072_S_d0_1_2 : S8x4096x3072.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S8x256x3072 .f32) (main_arg1 : FVec F S8x4096x3072 .f32) (main_arg2 : FVec F S64 .f32) (main_arg3 : FVec F S64 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S8x256x3072 .f32 := Host.absf main_arg0
  let main_cst : FVec F S_ .f32 := constant S_ .f32 0x7F800000#32
  let main_v1 : FVec F S8x256x3072 .f32 := broadcastInDim S8x256x3072 ![] bcast_S_S8x256x3072 main_cst
  let main_v2 : IVec S8x256x3072 1 := cmpf .olt main_v0 main_v1
  let main_c : IVec S_ 1 := constantI S_ 1 1#1
  let main_v3 : IVec S_ 1 := (fun x v => Host.reduce IntOp.andi x v reducesTo_S8x256x3072_S_d0_1_2 h_S_) main_v2 main_c
  let main_v4 : FVec F S8x4096x3072 .f32 := Host.absf main_arg1
  let main_cst_0 : FVec F S_ .f32 := constant S_ .f32 0x7F800000#32
  let main_v5 : FVec F S8x4096x3072 .f32 := broadcastInDim S8x4096x3072 ![] bcast_S_S8x4096x3072 main_cst_0
  let main_v6 : IVec S8x4096x3072 1 := cmpf .olt main_v4 main_v5
  let main_c_1 : IVec S_ 1 := constantI S_ 1 1#1
  let main_v7 : IVec S_ 1 := (fun x v => Host.reduce IntOp.andi x v reducesTo_S8x4096x3072_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Pre_ctx_finite.lean ====
abbrev S8x256x3072 : Shape := ⟨3, ![8, 256, 3072]⟩
abbrev S8x4096x3072 : Shape := ⟨3, ![8, 4096, 3072]⟩
abbrev S64 : Shape := ⟨1, ![64]⟩
abbrev S128 : Shape := ⟨1, ![128]⟩
abbrev S_ : Shape := ⟨0, ![]⟩

class Facts : Prop where
  bcast_S_S8x256x3072 : S_.BroadcastsInDim S8x256x3072 (![] : Fin 0 → Fin S8x256x3072.rank)
  reducesTo_S8x256x3072_S_d0_1_2 : S8x256x3072.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x256x3072 .f32) (main_arg1 : FVec F S8x4096x3072 .f32) (main_arg2 : FVec F S64 .f32) (main_arg3 : FVec F S64 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S8x256x3072 .f32 := Host.absf main_arg0
  let main_cst : FVec F S_ .f32 := constant S_ .f32 0x7F800000#32
  let main_v1 : FVec F S8x256x3072 .f32 := broadcastInDim S8x256x3072 ![] bcast_S_S8x256x3072 main_cst
  let main_v2 : IVec S8x256x3072 1 := cmpf .olt main_v0 main_v1
  let main_c : IVec S_ 1 := constantI S_ 1 1#1
  let main_v3 : IVec S_ 1 := (fun x v => Host.reduce IntOp.andi x v reducesTo_S8x256x3072_S_d0_1_2 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Attn.lean ====
abbrev S8x256x3072 : Shape := ⟨3, ![8, 256, 3072]⟩
abbrev S8x4096x3072 : Shape := ⟨3, ![8, 4096, 3072]⟩
abbrev S64 : Shape := ⟨1, ![64]⟩
abbrev S128 : Shape := ⟨1, ![128]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S8x4352x3072 : Shape := ⟨3, ![8, 4352, 3072]⟩
abbrev S8x4352x1024 : Shape := ⟨3, ![8, 4352, 1024]⟩
abbrev S8x4352x8x2x64 : Shape := ⟨5, ![8, 4352, 8, 2, 64]⟩
abbrev S8x4352x8x2 : Shape := ⟨4, ![8, 4352, 8, 2]⟩
abbrev S8x4352x8x2x1 : Shape := ⟨5, ![8, 4352, 8, 2, 1]⟩
abbrev S1x1x1x1x64 : Shape := ⟨5, ![1, 1, 1, 1, 64]⟩
abbrev S8x256x8x2x64 : Shape := ⟨5, ![8, 256, 8, 2, 64]⟩
abbrev S8x4096x8x2x64 : Shape := ⟨5, ![8, 4096, 8, 2, 64]⟩
abbrev S8x4096x8x2x32 : Shape := ⟨5, ![8, 4096, 8, 2, 32]⟩
abbrev S8x4096x8x2x16 : Shape := ⟨5, ![8, 4096, 8, 2, 16]⟩
abbrev S4096x1x1x16 : Shape := ⟨4, ![4096, 1, 1, 16]⟩
abbrev S1x4096x1x1x16 : Shape := ⟨5, ![1, 4096, 1, 1, 16]⟩
abbrev S8x1024x4352 : Shape := ⟨3, ![8, 1024, 4352]⟩
abbrev S8x4096x1024 : Shape := ⟨3, ![8, 4096, 1024]⟩
abbrev S1 : Shape := ⟨1, ![1]⟩
abbrev S1x128 : Shape := ⟨2, ![1, 128]⟩
abbrev S1x256x128 : Shape := ⟨3, ![1, 256, 128]⟩
abbrev S1x128x4352 : Shape := ⟨3, ![1, 128, 4352]⟩
abbrev S1x4352x128 : Shape := ⟨3, ![1, 4352, 128]⟩
abbrev S256x128 : Shape := ⟨2, ![256, 128]⟩
abbrev S128x4352 : Shape := ⟨2, ![128, 4352]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩

abbrev nBuf : Space → Nat
  | .hbm => 184
  | .vmem => 9
  | .smem => 1
  | _ => 0

abbrev hbmTy0_0 (i : Nat) : BufTy := match i % 128 with
  | 0 => ⟨S8x256x3072, .f32⟩
  | 1 => ⟨S8x4096x3072, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S128, .f32⟩
  | 9 => ⟨S64, .f32⟩
  | 10 => ⟨S64x64, .f32⟩
  | 11 => ⟨S4096, .f32⟩
  | 12 => ⟨S64, .f32⟩
  | 13 => ⟨S1x64, .f32⟩
  | 14 => ⟨S64x64, .f32⟩
  | 15 => ⟨S4096, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x1, .f32⟩
  | 30 => ⟨S1x16, .f32⟩
  | 31 => ⟨S4096x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S4096x16, .f32⟩
  | 38 => ⟨S8x4352x3072, .f32⟩
  | 39 => ⟨S64, .f32⟩
  | 40 => ⟨S_, .f32⟩
  | 41 => ⟨S_, .f32⟩
  | 42 => ⟨S_, .f32⟩
  | 43 => ⟨S64, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S8x4352x1024, .f32⟩
  | 51 => ⟨S8x4352x1024, .f32⟩
  | 52 => ⟨S8x4352x1024, .f32⟩
  | 53 => ⟨S8x4352x8x2x64, .f32⟩
  | 54 => ⟨S8x4352x8x2x64, .f32⟩
  | 55 => ⟨S_, .f32⟩
  | 56 => ⟨S8x4352x8x2, .f32⟩
  | 57 => ⟨S8x4352x8x2x1, .f32⟩
  | 58 => ⟨S_, .f32⟩
  | 59 => ⟨S8x4352x8x2x1, .f32⟩
  | 60 => ⟨S8x4352x8x2x1, .f32⟩
  | 61 => ⟨S_, .f32⟩
  | 62 => ⟨S8x4352x8x2x1, .f32⟩
  | 63 => ⟨S8x4352x8x2x1, .f32⟩
  | 64 => ⟨S8x4352x8x2x1, .f32⟩
  | 65 => ⟨S8x4352x8x2x64, .f32⟩
  | 66 => ⟨S8x4352x8x2x64, .f32⟩
  | 67 => ⟨S1x1x1x1x64, .f32⟩
  | 68 => ⟨S8x4352x8x2x64, .f32⟩
  | 69 => ⟨S8x4352x8x2x64, .f32⟩
  | 70 => ⟨S8x256x8x2x64, .f32⟩
  | 71 => ⟨S8x4096x8x2x64, .f32⟩
  | 72 => ⟨S8x4096x8x2x32, .f32⟩
  | 73 => ⟨S8x4096x8x2x32, .f32⟩
  | 74 => ⟨S8x4096x8x2x16, .f32⟩
  | 75 => ⟨S8x4096x8x2x16, .f32⟩
  | 76 => ⟨S4096x1x1x16, .f32⟩
  | 77 => ⟨S4096x1x1x16, .f32⟩
  | 78 => ⟨S1x4096x1x1x16, .f32⟩
  | 79 => ⟨S8x4096x8x2x16, .f32⟩
  | 80 => ⟨S8x4096x8x2x16, .f32⟩
  | 81 => ⟨S1x4096x1x1x16, .f32⟩
  | 82 => ⟨S8x4096x8x2x16, .f32⟩
  | 83 => ⟨S8x4096x8x2x16, .f32⟩
  | 84 => ⟨S8x4096x8x2x16, .f32⟩
  | 85 => ⟨S1x4096x1x1x16, .f32⟩
  | 86 => ⟨S8x4096x8x2x16, .f32⟩
  | 87 => ⟨S8x4096x8x2x16, .f32⟩
  | 88 => ⟨S1x4096x1x1x16, .f32⟩
  | 89 => ⟨S8x4096x8x2x16, .f32⟩
  | 90 => ⟨S8x4096x8x2x16, .f32⟩
  | 91 => ⟨S8x4096x8x2x16, .f32⟩
  | 92 => ⟨S8x4096x8x2x32, .f32⟩
  | 93 => ⟨S8x4096x8x2x16, .f32⟩
  | 94 => ⟨S8x4096x8x2x16, .f32⟩
  | 95 => ⟨S4096x1x1x16, .f32⟩
  | 96 => ⟨S4096x1x1x16, .f32⟩
  | 97 => ⟨S1x4096x1x1x16, .f32⟩
  | 98 => ⟨S8x4096x8x2x16, .f32⟩
  | 99 => ⟨S8x4096x8x2x16, .f32⟩
  | 100 => ⟨S1x4096x1x1x16, .f32⟩
  | 101 => ⟨S8x4096x8x2x16, .f32⟩
  | 102 => ⟨S8x4096x8x2x16, .f32⟩
  | 103 => ⟨S8x4096x8x2x16, .f32⟩
  | 104 => ⟨S1x4096x1x1x16, .f32⟩
  | 105 => ⟨S8x4096x8x2x16, .f32⟩
  | 106 => ⟨S8x4096x8x2x16, .f32⟩
  | 107 => ⟨S1x4096x1x1x16, .f32⟩
  | 108 => ⟨S8x4096x8x2x16, .f32⟩
  | 109 => ⟨S8x4096x8x2x16, .f32⟩
  | 110 => ⟨S8x4096x8x2x16, .f32⟩
  | 111 => ⟨S8x4096x8x2x32, .f32⟩
  | 112 => ⟨S8x4096x8x2x64, .f32⟩
  | 113 => ⟨S8x4352x8x2x64, .f32⟩
  | 114 => ⟨S8x4352x1024, .f32⟩
  | 115 => ⟨S8x4352x8x2x64, .f32⟩
  | 116 => ⟨S8x4352x8x2x64, .f32⟩
  | 117 => ⟨S_, .f32⟩
  | 118 => ⟨S8x4352x8x2, .f32⟩
  | 119 => ⟨S8x4352x8x2x1, .f32⟩
  | 120 => ⟨S_, .f32⟩
  | 121 => ⟨S8x4352x8x2x1, .f32⟩
  | 122 => ⟨S8x4352x8x2x1, .f32⟩
  | 123 => ⟨S_, .f32⟩
  | 124 => ⟨S8x4352x8x2x1, .f32⟩
  | 125 => ⟨S8x4352x8x2x1, .f32⟩
  | 126 => ⟨S8x4352x8x2x1, .f32⟩
  | 127 => ⟨S8x4352x8x2x64, .f32⟩
  | _ => ⟨S8x256x3072, .f32⟩

abbrev hbmTy0_1 (i : Nat) : BufTy := match i % 128 with
  | 0 => ⟨S8x4352x8x2x64, .f32⟩
  | 1 => ⟨S1x1x1x1x64, .f32⟩
  | 2 => ⟨S8x4352x8x2x64, .f32⟩
  | 3 => ⟨S8x4352x8x2x64, .f32⟩
  | 4 => ⟨S8x256x8x2x64, .f32⟩
  | 5 => ⟨S8x4096x8x2x64, .f32⟩
  | 6 => ⟨S8x4096x8x2x32, .f32⟩
  | 7 => ⟨S8x4096x8x2x32, .f32⟩
  | 8 => ⟨S8x4096x8x2x16, .f32⟩
  | 9 => ⟨S8x4096x8x2x16, .f32⟩
  | 10 => ⟨S4096x1x1x16, .f32⟩
  | 11 => ⟨S4096x1x1x16, .f32⟩
  | 12 => ⟨S1x4096x1x1x16, .f32⟩
  | 13 => ⟨S8x4096x8x2x16, .f32⟩
  | 14 => ⟨S8x4096x8x2x16, .f32⟩
  | 15 => ⟨S1x4096x1x1x16, .f32⟩
  | 16 => ⟨S8x4096x8x2x16, .f32⟩
  | 17 => ⟨S8x4096x8x2x16, .f32⟩
  | 18 => ⟨S8x4096x8x2x16, .f32⟩
  | 19 => ⟨S1x4096x1x1x16, .f32⟩
  | 20 => ⟨S8x4096x8x2x16, .f32⟩
  | 21 => ⟨S8x4096x8x2x16, .f32⟩
  | 22 => ⟨S1x4096x1x1x16, .f32⟩
  | 23 => ⟨S8x4096x8x2x16, .f32⟩
  | 24 => ⟨S8x4096x8x2x16, .f32⟩
  | 25 => ⟨S8x4096x8x2x16, .f32⟩
  | 26 => ⟨S8x4096x8x2x32, .f32⟩
  | 27 => ⟨S8x4096x8x2x16, .f32⟩
  | 28 => ⟨S8x4096x8x2x16, .f32⟩
  | 29 => ⟨S4096x1x1x16, .f32⟩
  | 30 => ⟨S4096x1x1x16, .f32⟩
  | 31 => ⟨S1x4096x1x1x16, .f32⟩
  | 32 => ⟨S8x4096x8x2x16, .f32⟩
  | 33 => ⟨S8x4096x8x2x16, .f32⟩
  | 34 => ⟨S1x4096x1x1x16, .f32⟩
  | 35 => ⟨S8x4096x8x2x16, .f32⟩
  | 36 => ⟨S8x4096x8x2x16, .f32⟩
  | 37 => ⟨S8x4096x8x2x16, .f32⟩
  | 38 => ⟨S1x4096x1x1x16, .f32⟩
  | 39 => ⟨S8x4096x8x2x16, .f32⟩
  | 40 => ⟨S8x4096x8x2x16, .f32⟩
  | 41 => ⟨S1x4096x1x1x16, .f32⟩
  | 42 => ⟨S8x4096x8x2x16, .f32⟩
  | 43 => ⟨S8x4096x8x2x16, .f32⟩
  | 44 => ⟨S8x4096x8x2x16, .f32⟩
  | 45 => ⟨S8x4096x8x2x32, .f32⟩
  | 46 => ⟨S8x4096x8x2x64, .f32⟩
  | 47 => ⟨S8x4352x8x2x64, .f32⟩
  | 48 => ⟨S8x4352x1024, .f32⟩
  | 49 => ⟨S8x4352x1024, .bf16⟩
  | 50 => ⟨S8x1024x4352, .bf16⟩
  | 51 => ⟨S8x4352x1024, .bf16⟩
  | 52 => ⟨S8x4096x1024, .f32⟩
  | 53 => ⟨S1, .f32⟩
  | 54 => ⟨S1x128, .f32⟩
  | 55 => ⟨S8x4096x1024, .f32⟩
  | _ => ⟨S8x256x3072, .f32⟩

abbrev hbmTy (i : Nat) : BufTy := match i / 128 with
  | 0 => hbmTy0_0 i
  | 1 => hbmTy0_1 i
  | _ => ⟨S8x256x3072, .f32⟩

abbrev bufTy : (tb : Table) → Fin (tcTables nBuf tb) → BufTy
  | .hbm, ⟨i, _⟩ => hbmTy i
  | .local _ .vmem, ⟨0, _⟩ => ⟨S1x256x128, .f32⟩
  | .local _ .vmem, ⟨1, _⟩ => ⟨S1x256x128, .f32⟩
  | .local _ .vmem, ⟨2, _⟩ => ⟨S1x128x4352, .bf16⟩
  | .local _ .vmem, ⟨3, _⟩ => ⟨S1x128x4352, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x128, .f32⟩
  | .local _ .vmem, ⟨7, _⟩ => ⟨S1x256x128, .f32⟩
  | .local _ .vmem, ⟨8, _⟩ => ⟨S1x256x128, .f32⟩
  | .local _ .smem, ⟨0, _⟩ => ⟨S1, .f32⟩
  | _, _ => ⟨S8x256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_7 : Ref sig .tc := ⟨.hbm, 117, rfl⟩
abbrev main_v100 : Ref sig .tc := ⟨.hbm, 118, rfl⟩
abbrev main_v101 : Ref sig .tc := ⟨.hbm, 119, rfl⟩
abbrev main_cst_8 : Ref sig .tc := ⟨.hbm, 120, rfl⟩
abbrev main_v102 : Ref sig .tc := ⟨.hbm, 121, rfl⟩
abbrev main_v103 : Ref sig .tc := ⟨.hbm, 122, rfl⟩
abbrev main_cst_9 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 16], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "qscale" => some (((1 / 8) * (Real.log 2)⁻¹ : ℝ) : EReal)
  | _ => none
-- ==== AttnRefIdeal.lean ====
abbrev S8x256x3072 : Shape := ⟨3, ![8, 256, 3072]⟩
abbrev S8x4096x3072 : Shape := ⟨3, ![8, 4096, 3072]⟩
abbrev S64 : Shape := ⟨1, ![64]⟩
abbrev S128 : Shape := ⟨1, ![128]⟩
abbrev S8x256x1024 : Shape := ⟨3, ![8, 256, 1024]⟩
abbrev S8x4096x1024 : Shape := ⟨3, ![8, 4096, 1024]⟩
abbrev S8x256x16x64 : Shape := ⟨4, ![8, 256, 16, 64]⟩
abbrev S_ : Shape := ⟨0, ![]⟩
abbrev S8x256x16 : Shape := ⟨3, ![8, 256, 16]⟩
abbrev S8x256x16x1 : Shape := ⟨4, ![8, 256, 16, 1]⟩
abbrev S1x1x1x64 : Shape := ⟨4, ![1, 1, 1, 64]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S8x4096x16x32 : Shape := ⟨4, ![8, 4096, 16, 32]⟩
abbrev S8x4096x16x16 : Shape := ⟨4, ![8, 4096, 16, 16]⟩
abbrev S4096x1x16 : Shape := ⟨3, ![4096, 1, 16]⟩
abbrev S1x4096x1x16 : Shape := ⟨4, ![1, 4096, 1, 16]⟩
abbrev S8x4352x16x64 : Shape := ⟨4, ![8, 4352, 16, 64]⟩
abbrev S8x4352x1024 : Shape := ⟨3, ![8, 4352, 1024]⟩
abbrev S8x4352x8x128 : Shape := ⟨4, ![8, 4352, 8, 128]⟩
abbrev S8x16x4096x4352 : Shape := ⟨4, ![8, 16, 4096, 4352]⟩
abbrev S8x16x4096 : Shape := ⟨3, ![8, 16, 4096]⟩
abbrev S8x16x4096x1 : Shape := ⟨4, ![8, 16, 4096, 1]⟩
abbrev S8x8x2x4096x4352 : Shape := ⟨5, ![8, 8, 2, 4096, 4352]⟩
abbrev S8x8x1x4096x4352 : Shape := ⟨5, ![8, 8, 1, 4096, 4352]⟩
abbrev S8x8x4096x4352 : Shape := ⟨4, ![8, 8, 4096, 4352]⟩
abbrev S8x8x128x4096 : Shape := ⟨4, ![8, 8, 128, 4096]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 239
  | .vmem => 0
  | .smem => 0
  | _ => 0

abbrev hbmTy0_0 (i : Nat) : BufTy := match i % 128 with
  | 0 => ⟨S8x256x3072, .f32⟩
  | 1 => ⟨S8x4096x3072, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S128, .f32⟩
  | 9 => ⟨S8x256x1024, .f32⟩
  | 10 => ⟨S8x256x1024, .f32⟩
  | 11 => ⟨S8x256x1024, .f32⟩
  | 12 => ⟨S8x4096x1024, .f32⟩
  | 13 => ⟨S8x4096x1024, .f32⟩
  | 14 => ⟨S8x4096x1024, .f32⟩
  | 15 => ⟨S8x256x16x64, .f32⟩
  | 16 => ⟨S8x256x16x64, .f32⟩
  | 17 => ⟨S_, .f32⟩
  | 18 => ⟨S8x256x16, .f32⟩
  | 19 => ⟨S8x256x16x1, .f32⟩
  | 20 => ⟨S_, .f32⟩
  | 21 => ⟨S8x256x16x1, .f32⟩
  | 22 => ⟨S8x256x16x1, .f32⟩
  | 23 => ⟨S_, .f32⟩
  | 24 => ⟨S8x256x16x1, .f32⟩
  | 25 => ⟨S8x256x16x1, .f32⟩
  | 26 => ⟨S8x256x16x1, .f32⟩
  | 27 => ⟨S8x256x16x64, .f32⟩
  | 28 => ⟨S8x256x16x64, .f32⟩
  | 29 => ⟨S1x1x1x64, .f32⟩
  | 30 => ⟨S8x256x16x64, .f32⟩
  | 31 => ⟨S8x256x16x64, .f32⟩
  | 32 => ⟨S8x4096x16x64, .f32⟩
  | 33 => ⟨S8x4096x16x64, .f32⟩
  | 34 => ⟨S_, .f32⟩
  | 35 => ⟨S8x4096x16, .f32⟩
  | 36 => ⟨S8x4096x16x1, .f32⟩
  | 37 => ⟨S_, .f32⟩
  | 38 => ⟨S8x4096x16x1, .f32⟩
  | 39 => ⟨S8x4096x16x1, .f32⟩
  | 40 => ⟨S_, .f32⟩
  | 41 => ⟨S8x4096x16x1, .f32⟩
  | 42 => ⟨S8x4096x16x1, .f32⟩
  | 43 => ⟨S8x4096x16x1, .f32⟩
  | 44 => ⟨S8x4096x16x64, .f32⟩
  | 45 => ⟨S8x4096x16x64, .f32⟩
  | 46 => ⟨S1x1x1x64, .f32⟩
  | 47 => ⟨S8x4096x16x64, .f32⟩
  | 48 => ⟨S8x4096x16x64, .f32⟩
  | 49 => ⟨S8x4096x16x64, .f32⟩
  | 50 => ⟨S8x4096x16x64, .f32⟩
  | 51 => ⟨S_, .f32⟩
  | 52 => ⟨S8x4096x16, .f32⟩
  | 53 => ⟨S8x4096x16x1, .f32⟩
  | 54 => ⟨S_, .f32⟩
  | 55 => ⟨S8x4096x16x1, .f32⟩
  | 56 => ⟨S8x4096x16x1, .f32⟩
  | 57 => ⟨S_, .f32⟩
  | 58 => ⟨S8x4096x16x1, .f32⟩
  | 59 => ⟨S8x4096x16x1, .f32⟩
  | 60 => ⟨S8x4096x16x1, .f32⟩
  | 61 => ⟨S8x4096x16x64, .f32⟩
  | 62 => ⟨S8x4096x16x64, .f32⟩
  | 63 => ⟨S1x1x1x64, .f32⟩
  | 64 => ⟨S8x4096x16x64, .f32⟩
  | 65 => ⟨S8x4096x16x64, .f32⟩
  | 66 => ⟨S64, .f32⟩
  | 67 => ⟨S64x64, .f32⟩
  | 68 => ⟨S4096, .f32⟩
  | 69 => ⟨S64, .f32⟩
  | 70 => ⟨S1x64, .f32⟩
  | 71 => ⟨S64x64, .f32⟩
  | 72 => ⟨S4096, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S4096x1, .f32⟩
  | 82 => ⟨S1x16, .f32⟩
  | 83 => ⟨S4096x16, .f32⟩
  | 84 => ⟨S4096x16, .f32⟩
  | 85 => ⟨S4096x16, .f32⟩
  | 86 => ⟨S4096x1, .f32⟩
  | 87 => ⟨S1x16, .f32⟩
  | 88 => ⟨S4096x16, .f32⟩
  | 89 => ⟨S4096x16, .f32⟩
  | 90 => ⟨S4096x16, .f32⟩
  | 91 => ⟨S4096x16, .f32⟩
  | 92 => ⟨S4096x16, .f32⟩
  | 93 => ⟨S4096x16, .f32⟩
  | 94 => ⟨S4096x16, .f32⟩
  | 95 => ⟨S8x4096x16x32, .f32⟩
  | 96 => ⟨S8x4096x16x32, .f32⟩
  | 97 => ⟨S8x4096x16x16, .f32⟩
  | 98 => ⟨S8x4096x16x16, .f32⟩
  | 99 => ⟨S4096x1x16, .f32⟩
  | 100 => ⟨S4096x1x16, .f32⟩
  | 101 => ⟨S1x4096x1x16, .f32⟩
  | 102 => ⟨S8x4096x16x16, .f32⟩
  | 103 => ⟨S8x4096x16x16, .f32⟩
  | 104 => ⟨S1x4096x1x16, .f32⟩
  | 105 => ⟨S8x4096x16x16, .f32⟩
  | 106 => ⟨S8x4096x16x16, .f32⟩
  | 107 => ⟨S8x4096x16x16, .f32⟩
  | 108 => ⟨S1x4096x1x16, .f32⟩
  | 109 => ⟨S8x4096x16x16, .f32⟩
  | 110 => ⟨S8x4096x16x16, .f32⟩
  | 111 => ⟨S1x4096x1x16, .f32⟩
  | 112 => ⟨S8x4096x16x16, .f32⟩
  | 113 => ⟨S8x4096x16x16, .f32⟩
  | 114 => ⟨S8x4096x16x16, .f32⟩
  | 115 => ⟨S8x4096x16x32, .f32⟩
  | 116 => ⟨S8x4096x16x16, .f32⟩
  | 117 => ⟨S8x4096x16x16, .f32⟩
  | 118 => ⟨S4096x1x16, .f32⟩
  | 119 => ⟨S4096x1x16, .f32⟩
  | 120 => ⟨S1x4096x1x16, .f32⟩
  | 121 => ⟨S8x4096x16x16, .f32⟩
  | 122 => ⟨S8x4096x16x16, .f32⟩
  | 123 => ⟨S1x4096x1x16, .f32⟩
  | 124 => ⟨S8x4096x16x16, .f32⟩
  | 125 => ⟨S8x4096x16x16, .f32⟩
  | 126 => ⟨S8x4096x16x16, .f32⟩
  | 127 => ⟨S1x4096x1x16, .f32⟩
  | _ => ⟨S8x256x3072, .f32⟩

abbrev hbmTy0_1 (i : Nat) : BufTy := match i % 128 with
  | 0 => ⟨S8x4096x16x16, .f32⟩
  | 1 => ⟨S8x4096x16x16, .f32⟩
  | 2 => ⟨S1x4096x1x16, .f32⟩
  | 3 => ⟨S8x4096x16x16, .f32⟩
  | 4 => ⟨S8x4096x16x16, .f32⟩
  | 5 => ⟨S8x4096x16x16, .f32⟩
  | 6 => ⟨S8x4096x16x32, .f32⟩
  | 7 => ⟨S8x4096x16x64, .f32⟩
  | 8 => ⟨S8x4352x16x64, .f32⟩
  | 9 => ⟨S8x4352x1024, .f32⟩
  | 10 => ⟨S8x4352x8x128, .f32⟩
  | 11 => ⟨S8x4096x16x32, .f32⟩
  | 12 => ⟨S8x4096x16x32, .f32⟩
  | 13 => ⟨S8x4096x16x16, .f32⟩
  | 14 => ⟨S8x4096x16x16, .f32⟩
  | 15 => ⟨S4096x1x16, .f32⟩
  | 16 => ⟨S4096x1x16, .f32⟩
  | 17 => ⟨S1x4096x1x16, .f32⟩
  | 18 => ⟨S8x4096x16x16, .f32⟩
  | 19 => ⟨S8x4096x16x16, .f32⟩
  | 20 => ⟨S1x4096x1x16, .f32⟩
  | 21 => ⟨S8x4096x16x16, .f32⟩
  | 22 => ⟨S8x4096x16x16, .f32⟩
  | 23 => ⟨S8x4096x16x16, .f32⟩
  | 24 => ⟨S1x4096x1x16, .f32⟩
  | 25 => ⟨S8x4096x16x16, .f32⟩
  | 26 => ⟨S8x4096x16x16, .f32⟩
  | 27 => ⟨S1x4096x1x16, .f32⟩
  | 28 => ⟨S8x4096x16x16, .f32⟩
  | 29 => ⟨S8x4096x16x16, .f32⟩
  | 30 => ⟨S8x4096x16x16, .f32⟩
  | 31 => ⟨S8x4096x16x32, .f32⟩
  | 32 => ⟨S8x4096x16x16, .f32⟩
  | 33 => ⟨S8x4096x16x16, .f32⟩
  | 34 => ⟨S4096x1x16, .f32⟩
  | 35 => ⟨S4096x1x16, .f32⟩
  | 36 => ⟨S1x4096x1x16, .f32⟩
  | 37 => ⟨S8x4096x16x16, .f32⟩
  | 38 => ⟨S8x4096x16x16, .f32⟩
  | 39 => ⟨S1x4096x1x16, .f32⟩
  | 40 => ⟨S8x4096x16x16, .f32⟩
  | 41 => ⟨S8x4096x16x16, .f32⟩
  | 42 => ⟨S8x4096x16x16, .f32⟩
  | 43 => ⟨S1x4096x1x16, .f32⟩
  | 44 => ⟨S8x4096x16x16, .f32⟩
  | 45 => ⟨S8x4096x16x16, .f32⟩
  | 46 => ⟨S1x4096x1x16, .f32⟩
  | 47 => ⟨S8x4096x16x16, .f32⟩
  | 48 => ⟨S8x4096x16x16, .f32⟩
  | 49 => ⟨S8x4096x16x16, .f32⟩
  | 50 => ⟨S8x4096x16x32, .f32⟩
  | 51 => ⟨S8x4096x16x64, .f32⟩
  | 52 => ⟨S8x16x4096x4352, .f32⟩
  | 53 => ⟨S_, .f32⟩
  | 54 => ⟨S8x16x4096x4352, .f32⟩
  | 55 => ⟨S8x16x4096x4352, .f32⟩
  | 56 => ⟨S_, .f32⟩
  | 57 => ⟨S8x16x4096, .f32⟩
  | 58 => ⟨S_, .f32⟩
  | 59 => ⟨S8x16x4096, .f32⟩
  | 60 => ⟨S8x16x4096, .f32⟩
  | 61 => ⟨S8x16x4096x1, .f32⟩
  | 62 => ⟨S8x16x4096x4352, .f32⟩
  | 63 => ⟨S8x16x4096x4352, .f32⟩
  | 64 => ⟨S8x16x4096x4352, .f32⟩
  | 65 => ⟨S_, .f32⟩
  | 66 => ⟨S8x16x4096, .f32⟩
  | 67 => ⟨S8x16x4096x1, .f32⟩
  | 68 => ⟨S8x16x4096x4352, .f32⟩
  | 69 => ⟨S8x16x4096x4352, .f32⟩
  | 70 => ⟨S8x8x2x4096x4352, .f32⟩
  | 71 => ⟨S64, .f32⟩
  | 72 => ⟨S_, .f32⟩
  | 73 => ⟨S_, .f32⟩
  | 74 => ⟨S_, .f32⟩
  | 75 => ⟨S64, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8x8x1x4096x4352, .f32⟩
  | 83 => ⟨S8x8x4096x4352, .f32⟩
  | 84 => ⟨S8x8x1x4096x4352, .f32⟩
  | 85 => ⟨S8x8x4096x4352, .f32⟩
  | 86 => ⟨S8x8x4096x4352, .f32⟩
  | 87 => ⟨S8x8x4096x4352, .f32⟩
  | 88 => ⟨S8x8x4096x4352, .f32⟩
  | 89 => ⟨S8x8x128x4096, .f32⟩
  | 90 => ⟨S8x4096x8x128, .f32⟩
  | 91 => ⟨S8x4096x8x128, .f32⟩
  | 92 => ⟨S_, .f32⟩
  | 93 => ⟨S8x4096x8, .f32⟩
  | 94 => ⟨S8x4096x8x1, .f32⟩
  | 95 => ⟨S_, .f32⟩
  | 96 => ⟨S8x4096x8x1, .f32⟩
  | 97 => ⟨S8x4096x8x1, .f32⟩
  | 98 => ⟨S_, .f32⟩
  | 99 => ⟨S8x4096x8x1, .f32⟩
  | 100 => ⟨S8x4096x8x1, .f32⟩
  | 101 => ⟨S8x4096x8x1, .f32⟩
  | 102 => ⟨S8x4096x8x128, .f32⟩
  | 103 => ⟨S8x4096x8x128, .f32⟩
  | 104 => ⟨S1x1x1x128, .f32⟩
  | 105 => ⟨S8x4096x8x128, .f32⟩
  | 106 => ⟨S8x4096x8x128, .f32⟩
  | 107 => ⟨S_, .f32⟩
  | 108 => ⟨S8x4096x8x128, .f32⟩
  | 109 => ⟨S8x4096x8x128, .f32⟩
  | 110 => ⟨S8x4096x1024, .f32⟩
  | _ => ⟨S8x256x3072, .f32⟩

abbrev hbmTy (i : Nat) : BufTy := match i / 128 with
  | 0 => hbmTy0_0 i
  | 1 => hbmTy0_1 i
  | _ => ⟨S8x256x3072, .f32⟩

abbrev bufTy : (tb : Table) → Fin (tcTables nBuf tb) → BufTy
  | .hbm, ⟨i, _⟩ => hbmTy i
  | _, _ => ⟨S8x256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_cst_10 : Ref sig .tc := ⟨.hbm, 181, rfl⟩
abbrev main_v161 : Ref sig .tc := ⟨.hbm, 182, rfl⟩
abbrev main_v162 : Ref sig .tc := ⟨.hbm, 183, rfl⟩
abbrev main_cst_11 : Ref sig .tc := ⟨.hbm, 184, rfl⟩
abbrev main_v163 : Ref sig .tc := ⟨.hbm, 185, rfl⟩
abbrev main_cst_12 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_cst_13 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_cst_14 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_cst_15 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_cst_16 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_cst_17 : Ref sig .tc := ⟨.hbm, 220, rfl⟩
abbrev main_v193 : Ref sig .tc := ⟨.hbm, 221, rfl⟩
abbrev main_v194 : Ref sig .tc := ⟨.hbm, 222, rfl⟩
abbrev main_cst_18 : Ref sig .tc := ⟨.hbm, 223, rfl⟩
abbrev main_v195 : Ref sig .tc := ⟨.hbm, 224, rfl⟩
abbrev main_v196 : Ref sig .tc := ⟨.hbm, 225, rfl⟩
abbrev main_cst_19 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_cst_20 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩

abbrev nD : Nat := 1
abbrev τ : Topo := Topo.v7x

variable {F : FTy → Type} [FloatOps F]
-- ==== InProj.lean ====
abbrev S8x256x1024 : Shape := ⟨3, ![8, 256, 1024]⟩
abbrev S8x4096x1024 : Shape := ⟨3, ![8, 4096, 1024]⟩
abbrev S1024x12320 : Shape := ⟨2, ![1024, 12320]⟩
abbrev S8x4352x1024 : Shape := ⟨3, ![8, 4352, 1024]⟩
abbrev S1024x3072 : Shape := ⟨2, ![1024, 3072]⟩
abbrev S1024x1024 : Shape := ⟨2, ![1024, 1024]⟩
abbrev S1024x12288 : Shape := ⟨2, ![1024, 12288]⟩
abbrev S1024x32 : Shape := ⟨2, ![1024, 32]⟩
abbrev S_ : Shape := ⟨0, ![]⟩
abbrev S1024x128 : Shape := ⟨2, ![1024, 128]⟩
abbrev S34816x1024 : Shape := ⟨2, ![34816, 1024]⟩
abbrev S34816x12288 : Shape := ⟨2, ![34816, 12288]⟩
abbrev S8x4352x12288 : Shape := ⟨3, ![8, 4352, 12288]⟩
abbrev S8x4352x3072 : Shape := ⟨3, ![8, 4352, 3072]⟩
abbrev S34816x128 : Shape := ⟨2, ![34816, 128]⟩
abbrev S8x4352x128 : Shape := ⟨3, ![8, 4352, 128]⟩
abbrev S8x4352x16 : Shape := ⟨3, ![8, 4352, 16]⟩

abbrev nBuf : Space → Nat
  | .hbm => 31
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1024x12320, .f32⟩
  | .hbm, ⟨3, _⟩ => ⟨S8x4352x1024, .f32⟩
  | .hbm, ⟨4, _⟩ => ⟨S1024x3072, .f32⟩
  | .hbm, ⟨5, _⟩ => ⟨S1024x3072, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x3072, .f32⟩
  | .hbm, ⟨10, _⟩ => ⟨S1024x12288, .f32⟩
  | .hbm, ⟨11, _⟩ => ⟨S1024x12288, .bf16⟩
  | .hbm, ⟨12, _⟩ => ⟨S1024x32, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S34816x1024, .f32⟩
  | .hbm, ⟨18, _⟩ => ⟨S34816x12288, .f32⟩
  | .hbm, ⟨19, _⟩ => ⟨S8x4352x12288, .f32⟩
  | .hbm, ⟨20, _⟩ => ⟨S8x4352x3072, .f32⟩
  | .hbm, ⟨21, _⟩ => ⟨S8x4352x3072, .f32⟩
  | .hbm, ⟨22, _⟩ => ⟨S8x4352x1024, .f32⟩
  | .hbm, ⟨23, _⟩ => ⟨S8x4352x1024, .f32⟩
  | .hbm, ⟨24, _⟩ => ⟨S8x4352x1024, .f32⟩
  | .hbm, ⟨25, _⟩ => ⟨S8x4352x3072, .f32⟩
  | .hbm, ⟨26, _⟩ => ⟨S34816x1024, .f32⟩
  | .hbm, ⟨27, _⟩ => ⟨S34816x128, .f32⟩
  | .hbm, ⟨28, _⟩ => ⟨S8x4352x128, .f32⟩
  | .hbm, ⟨29, _⟩ => ⟨S8x4352x16, .f32⟩
  | .hbm, ⟨30, _⟩ => ⟨S8x4352x16, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x128, .bf16⟩
  | .local _ .vmem, ⟨9, _⟩ => ⟨S1024x128, .f32⟩
  | .local _ .vmem, ⟨10, _⟩ => ⟨S1024x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![34, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![34, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InProjRefIdeal.lean ====
abbrev S8x256x1024 : Shape := ⟨3, ![8, 256, 1024]⟩
abbrev S8x4096x1024 : Shape := ⟨3, ![8, 4096, 1024]⟩
abbrev S1024x12320 : Shape := ⟨2, ![1024, 12320]⟩
abbrev S8x256x12320 : Shape := ⟨3, ![8, 256, 12320]⟩
abbrev S8x256x3072 : Shape := ⟨3, ![8, 256, 3072]⟩
abbrev S8x256x16 : Shape := ⟨3, ![8, 256, 16]⟩
abbrev S8x4096x12320 : Shape := ⟨3, ![8, 4096, 12320]⟩
abbrev S8x4096x3072 : Shape := ⟨3, ![8, 4096, 3072]⟩
abbrev S8x4096x16 : Shape := ⟨3, ![8, 4096, 16]⟩
abbrev S8x4352x3072 : Shape := ⟨3, ![8, 4352, 3072]⟩
abbrev S8x4352x1024 : Shape := ⟨3, ![8, 4352, 1024]⟩
abbrev S8x4352x16 : Shape := ⟨3, ![8, 4352, 16]⟩

abbrev nBuf : Space → Nat
  | .hbm => 29
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1024x12320, .f32⟩
  | .hbm, ⟨3, _⟩ => ⟨S8x256x12320, .f32⟩
  | .hbm, ⟨4, _⟩ => ⟨S8x256x3072, .f32⟩
  | .hbm, ⟨5, _⟩ => ⟨S8x256x3072, .f32⟩
  | .hbm, ⟨6, _⟩ => ⟨S8x256x1024, .f32⟩
  | .hbm, ⟨7, _⟩ => ⟨S8x256x16, .f32⟩
  | .hbm, ⟨8, _⟩ => ⟨S8x256x16, .f32⟩
  | .hbm, ⟨9, _⟩ => ⟨S8x256x1024, .f32⟩
  | .hbm, ⟨10, _⟩ => ⟨S8x256x1024, .f32⟩
  | .hbm, ⟨11, _⟩ => ⟨S8x256x3072, .f32⟩
  | .hbm, ⟨12, _⟩ => ⟨S8x4096x12320, .f32⟩
  | .hbm, ⟨13, _⟩ => ⟨S8x4096x3072, .f32⟩
  | .hbm, ⟨14, _⟩ => ⟨S8x4096x3072, .f32⟩
  | .hbm, ⟨15, _⟩ => ⟨S8x4096x1024, .f32⟩
  | .hbm, ⟨16, _⟩ => ⟨S8x4096x16, .f32⟩
  | .hbm, ⟨17, _⟩ => ⟨S8x4096x16, .f32⟩
  | .hbm, ⟨18, _⟩ => ⟨S8x4096x1024, .f32⟩
  | .hbm, ⟨19, _⟩ => ⟨S8x4096x1024, .f32⟩
  | .hbm, ⟨20, _⟩ => ⟨S8x4096x3072, .f32⟩
  | .hbm, ⟨21, _⟩ => ⟨S8x4352x3072, .f32⟩
  | .hbm, ⟨22, _⟩ => ⟨S8x4352x3072, .f32⟩
  | .hbm, ⟨23, _⟩ => ⟨S8x4352x1024, .f32⟩
  | .hbm, ⟨24, _⟩ => ⟨S8x4352x16, .f32⟩
  | .hbm, ⟨25, _⟩ => ⟨S8x4352x16, .f32⟩
  | .hbm, ⟨26, _⟩ => ⟨S8x4352x1024, .f32⟩
  | .hbm, ⟨27, _⟩ => ⟨S8x4352x1024, .f32⟩
  | .hbm, ⟨28, _⟩ => ⟨S8x4352x3072, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩

abbrev nD : Nat := 1
abbrev τ : Topo := Topo.v7x

variable {F : FTy → Type} [FloatOps F]
-- ==== Merge.lean ====
abbrev S8x256x1024 : Shape := ⟨3, ![8, 256, 1024]⟩
abbrev S8x4096x1024 : Shape := ⟨3, ![8, 4096, 1024]⟩
abbrev S8x256x3072 : Shape := ⟨3, ![8, 256, 3072]⟩
abbrev S8x4096x3072 : Shape := ⟨3, ![8, 4096, 3072]⟩
abbrev S3x1024x1024 : Shape := ⟨3, ![3, 1024, 1024]⟩
abbrev S1024x1024 : Shape := ⟨2, ![1024, 1024]⟩
abbrev S8x4352x1024 : Shape := ⟨3, ![8, 4352, 1024]⟩
abbrev S8x4352x3072 : Shape := ⟨3, ![8, 4352, 3072]⟩
abbrev S_ : Shape := ⟨0, ![]⟩
abbrev S1x1024x1024 : Shape := ⟨3, ![1, 1024, 1024]⟩
abbrev S34816x1024 : Shape := ⟨2, ![34816, 1024]⟩

abbrev nBuf : Space → Nat
  | .hbm => 50
  | .vmem => 20
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x1024, .f32⟩
  | .hbm, ⟨3, _⟩ => ⟨S8x4096x1024, .f32⟩
  | .hbm, ⟨4, _⟩ => ⟨S8x256x1024, .f32⟩
  | .hbm, ⟨5, _⟩ => ⟨S8x4096x1024, .f32⟩
  | .hbm, ⟨6, _⟩ => ⟨S8x256x3072, .f32⟩
  | .hbm, ⟨7, _⟩ => ⟨S8x4096x3072, .f32⟩
  | .hbm, ⟨8, _⟩ => ⟨S3x1024x1024, .f32⟩
  | .hbm, ⟨9, _⟩ => ⟨S1024x1024, .f32⟩
  | .hbm, ⟨10, _⟩ => ⟨S8x4352x1024, .f32⟩
  | .hbm, ⟨11, _⟩ => ⟨S8x4352x1024, .f32⟩
  | .hbm, ⟨12, _⟩ => ⟨S8x4352x1024, .f32⟩
  | .hbm, ⟨13, _⟩ => ⟨S8x4352x3072, .f32⟩
  | .hbm, ⟨14, _⟩ => ⟨S3x1024x1024, .bf16⟩
  | .hbm, ⟨15, _⟩ => ⟨S8x4352x3072, .f32⟩
  | .hbm, ⟨16, _⟩ => ⟨S8x4352x3072, .f32⟩
  | .hbm, ⟨17, _⟩ => ⟨S_, .f32⟩
  | .hbm, ⟨18, _⟩ => ⟨S8x4352x3072, .f32⟩
  | .hbm, ⟨19, _⟩ => ⟨S8x4352x3072, .f32⟩
  | .hbm, ⟨20, _⟩ => ⟨S_, .f32⟩
  | .hbm, ⟨21, _⟩ => ⟨S8x4352x3072, .f32⟩
  | .hbm, ⟨22, _⟩ => ⟨S8x4352x3072, .f32⟩
  | .hbm, ⟨23, _⟩ => ⟨S8x4352x1024, .f32⟩
  | .hbm, ⟨24, _⟩ => ⟨S8x4352x1024, .f32⟩
  | .hbm, ⟨25, _⟩ => ⟨S8x4352x1024, .f32⟩
  | .hbm, ⟨26, _⟩ => ⟨S1x1024x1024, .bf16⟩
  | .hbm, ⟨27, _⟩ => ⟨S1024x1024, .bf16⟩
  | .hbm, ⟨28, _⟩ => ⟨S34816x1024, .f32⟩
  | .hbm, ⟨29, _⟩ => ⟨S34816x1024, .f32⟩
  | .hbm, ⟨30, _⟩ => ⟨S8x4352x1024, .f32⟩
  | .hbm, ⟨31, _⟩ => ⟨S8x4352x1024, .f32⟩
  | .hbm, ⟨32, _⟩ => ⟨S1x1024x1024, .bf16⟩
  | .hbm, ⟨33, _⟩ => ⟨S1024x1024, .bf16⟩
  | .hbm, ⟨34, _⟩ => ⟨S34816x1024, .f32⟩
  | .hbm, ⟨35, _⟩ => ⟨S34816x1024, .f32⟩
  | .hbm, ⟨36, _⟩ => ⟨S8x4352x1024, .f32⟩
  | .hbm, ⟨37, _⟩ => ⟨S8x4352x1024, .f32⟩
  | .hbm, ⟨38, _⟩ => ⟨S8x4352x1024, .f32⟩
  | .hbm, ⟨39, _⟩ => ⟨S1x1024x1024, .bf16⟩
  | .hbm, ⟨40, _⟩ => ⟨S1024x1024, .bf16⟩
  | .hbm, ⟨41, _⟩ => ⟨S34816x1024, .f32⟩
  | .hbm, ⟨42, _⟩ => ⟨S34816x1024, .f32⟩
  | .hbm, ⟨43, _⟩ => ⟨S8x4352x1024, .f32⟩
  | .hbm, ⟨44, _⟩ => ⟨S8x4352x1024, .f32⟩
  | .hbm, ⟨45, _⟩ => ⟨S8x4352x1024, .f32⟩
  | .hbm, ⟨46, _⟩ => ⟨S1024x1024, .bf16⟩
  | .hbm, ⟨47, _⟩ => ⟨S34816x1024, .f32⟩
  | .hbm, ⟨48, _⟩ => ⟨S34816x1024, .f32⟩
  | .hbm, ⟨49, _⟩ => ⟨S8x4352x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![34, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![34, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![34, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== MergeRefIdeal.lean ====
abbrev S8x256x1024 : Shape := ⟨3, ![8, 256, 1024]⟩
abbrev S8x4096x1024 : Shape := ⟨3, ![8, 4096, 1024]⟩
abbrev S8x256x3072 : Shape := ⟨3, ![8, 256, 3072]⟩
abbrev S8x4096x3072 : Shape := ⟨3, ![8, 4096, 3072]⟩
abbrev S3x1024x1024 : Shape := ⟨3, ![3, 1024, 1024]⟩
abbrev S1024x1024 : Shape := ⟨2, ![1024, 1024]⟩
abbrev S_ : Shape := ⟨0, ![]⟩
abbrev S1x1024x1024 : Shape := ⟨3, ![1, 1024, 1024]⟩
abbrev S8x4352x1024 : Shape := ⟨3, ![8, 4352, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S8x256x1024, .f32⟩
  | .hbm, ⟨3, _⟩ => ⟨S8x4096x1024, .f32⟩
  | .hbm, ⟨4, _⟩ => ⟨S8x256x1024, .f32⟩
  | .hbm, ⟨5, _⟩ => ⟨S8x4096x1024, .f32⟩
  | .hbm, ⟨6, _⟩ => ⟨S8x256x3072, .f32⟩
  | .hbm, ⟨7, _⟩ => ⟨S8x4096x3072, .f32⟩
  | .hbm, ⟨8, _⟩ => ⟨S3x1024x1024, .f32⟩
  | .hbm, ⟨9, _⟩ => ⟨S1024x1024, .f32⟩
  | .hbm, ⟨10, _⟩ => ⟨S8x4096x3072, .f32⟩
  | .hbm, ⟨11, _⟩ => ⟨S8x4096x3072, .f32⟩
  | .hbm, ⟨12, _⟩ => ⟨S_, .f32⟩
  | .hbm, ⟨13, _⟩ => ⟨S8x4096x3072, .f32⟩
  | .hbm, ⟨14, _⟩ => ⟨S8x4096x3072, .f32⟩
  | .hbm, ⟨15, _⟩ => ⟨S_, .f32⟩
  | .hbm, ⟨16, _⟩ => ⟨S8x4096x3072, .f32⟩
  | .hbm, ⟨17, _⟩ => ⟨S8x4096x3072, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S1x1024x1024, .f32⟩
  | .hbm, ⟨22, _⟩ => ⟨S1024x1024, .f32⟩
  | .hbm, ⟨23, _⟩ => ⟨S8x4096x1024, .f32⟩
  | .hbm, ⟨24, _⟩ => ⟨S8x4096x1024, .f32⟩
  | .hbm, ⟨25, _⟩ => ⟨S1x1024x1024, .f32⟩
  | .hbm, ⟨26, _⟩ => ⟨S1024x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S1x1024x1024, .f32⟩
  | .hbm, ⟨31, _⟩ => ⟨S1024x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x256x3072, .f32⟩
  | .hbm, ⟨37, _⟩ => ⟨S8x256x3072, .f32⟩
  | .hbm, ⟨38, _⟩ => ⟨S_, .f32⟩
  | .hbm, ⟨39, _⟩ => ⟨S8x256x3072, .f32⟩
  | .hbm, ⟨40, _⟩ => ⟨S8x256x3072, .f32⟩
  | .hbm, ⟨41, _⟩ => ⟨S_, .f32⟩
  | .hbm, ⟨42, _⟩ => ⟨S8x256x3072, .f32⟩
  | .hbm, ⟨43, _⟩ => ⟨S8x256x3072, .f32⟩
  | .hbm, ⟨44, _⟩ => ⟨S8x256x1024, .f32⟩
  | .hbm, ⟨45, _⟩ => ⟨S8x256x1024, .f32⟩
  | .hbm, ⟨46, _⟩ => ⟨S8x256x1024, .f32⟩
  | .hbm, ⟨47, _⟩ => ⟨S1x1024x1024, .f32⟩
  | .hbm, ⟨48, _⟩ => ⟨S1024x1024, .f32⟩
  | .hbm, ⟨49, _⟩ => ⟨S8x256x1024, .f32⟩
  | .hbm, ⟨50, _⟩ => ⟨S8x256x1024, .f32⟩
  | .hbm, ⟨51, _⟩ => ⟨S1x1024x1024, .f32⟩
  | .hbm, ⟨52, _⟩ => ⟨S1024x1024, .f32⟩
  | .hbm, ⟨53, _⟩ => ⟨S8x256x1024, .f32⟩
  | .hbm, ⟨54, _⟩ => ⟨S8x256x1024, .f32⟩
  | .hbm, ⟨55, _⟩ => ⟨S8x256x1024, .f32⟩
  | .hbm, ⟨56, _⟩ => ⟨S1x1024x1024, .f32⟩
  | .hbm, ⟨57, _⟩ => ⟨S1024x1024, .f32⟩
  | .hbm, ⟨58, _⟩ => ⟨S8x256x1024, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S8x4352x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Query.lean ====
abbrev S8x256x1024 : Shape := ⟨3, ![8, 256, 1024]⟩
abbrev S8x4096x1024 : Shape := ⟨3, ![8, 4096, 1024]⟩
abbrev S1024x2048 : Shape := ⟨2, ![1024, 2048]⟩
abbrev S8x4352x1024 : Shape := ⟨3, ![8, 4352, 1024]⟩
abbrev S34816x1024 : Shape := ⟨2, ![34816, 1024]⟩
abbrev S34816x2048 : Shape := ⟨2, ![34816, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1024x2048, .f32⟩
  | .hbm, ⟨3, _⟩ => ⟨S8x4352x1024, .f32⟩
  | .hbm, ⟨4, _⟩ => ⟨S34816x1024, .f32⟩
  | .hbm, ⟨5, _⟩ => ⟨S1024x2048, .bf16⟩
  | .hbm, ⟨6, _⟩ => ⟨S34816x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S8x256x1024 : Shape := ⟨3, ![8, 256, 1024]⟩
abbrev S8x4096x1024 : Shape := ⟨3, ![8, 4096, 1024]⟩
abbrev S1024x2048 : Shape := ⟨2, ![1024, 2048]⟩
abbrev S32768x1024 : Shape := ⟨2, ![32768, 1024]⟩
abbrev S32768x2048 : Shape := ⟨2, ![32768, 2048]⟩
abbrev S8x4096x2048 : Shape := ⟨3, ![8, 4096, 2048]⟩
abbrev S2048x1024 : Shape := ⟨2, ![2048, 1024]⟩
abbrev S2048x2048 : Shape := ⟨2, ![2048, 2048]⟩
abbrev S8x256x2048 : Shape := ⟨3, ![8, 256, 2048]⟩
abbrev S8x4352x2048 : Shape := ⟨3, ![8, 4352, 2048]⟩
abbrev S34816x2048 : Shape := ⟨2, ![34816, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S1024x2048, .f32⟩
  | .hbm, ⟨3, _⟩ => ⟨S32768x1024, .f32⟩
  | .hbm, ⟨4, _⟩ => ⟨S32768x2048, .f32⟩
  | .hbm, ⟨5, _⟩ => ⟨S8x4096x2048, .f32⟩
  | .hbm, ⟨6, _⟩ => ⟨S2048x1024, .f32⟩
  | .hbm, ⟨7, _⟩ => ⟨S2048x2048, .f32⟩
  | .hbm, ⟨8, _⟩ => ⟨S8x256x2048, .f32⟩
  | .hbm, ⟨9, _⟩ => ⟨S8x4352x2048, .f32⟩
  | .hbm, ⟨10, _⟩ => ⟨S34816x2048, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Norms.lean ====
abbrev S8x4096x1024 : Shape := ⟨3, ![8, 4096, 1024]⟩
abbrev S8x256x1024 : Shape := ⟨3, ![8, 256, 1024]⟩
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S8x4352x1024 : Shape := ⟨3, ![8, 4352, 1024]⟩
abbrev S4352 : Shape := ⟨1, ![4352]⟩
abbrev S_ : Shape := ⟨0, ![]⟩
abbrev S1x4352x1 : Shape := ⟨3, ![1, 4352, 1]⟩
abbrev S8x6144 : Shape := ⟨2, ![8, 6144]⟩
abbrev S1024x1024 : Shape := ⟨2, ![1024, 1024]⟩
abbrev S1x6144 : Shape := ⟨2, ![1, 6144]⟩
abbrev S8x1x6144 : Shape := ⟨3, ![8, 1, 6144]⟩
abbrev S8x1x1024 : Shape := ⟨3, ![8, 1, 1024]⟩
abbrev S1x1024 : Shape := ⟨2, ![1, 1024]⟩
abbrev S1x1x6144 : Shape := ⟨3, ![1, 1, 6144]⟩
abbrev S1x1x1024 : Shape := ⟨3, ![1, 1, 1024]⟩
abbrev S8x4352 : Shape := ⟨2, ![8, 4352]⟩
abbrev S8x4352x1 : Shape := ⟨3, ![8, 4352, 1]⟩

abbrev nBuf : Space → Nat
  | .hbm => 138
  | .vmem => 10
  | .smem => 0
  | _ => 0

abbrev hbmTy0_0 (i : Nat) : BufTy := match i % 128 with
  | 0 => ⟨S8x4096x1024, .f32⟩
  | 1 => ⟨S8x256x1024, .f32⟩
  | 2 => ⟨S8x4096x1024, .f32⟩
  | 3 => ⟨S8x256x1024, .f32⟩
  | 4 => ⟨S8x4096x1024, .f32⟩
  | 5 => ⟨S8x256x1024, .f32⟩
  | 6 => ⟨S8x1024, .f32⟩
  | 7 => ⟨S1024, .f32⟩
  | 8 => ⟨S1024x6144, .f32⟩
  | 9 => ⟨S6144, .f32⟩
  | 10 => ⟨S1024, .f32⟩
  | 11 => ⟨S1024, .f32⟩
  | 12 => ⟨S8x4352x1024, .f32⟩
  | 13 => ⟨S8x4352x1024, .f32⟩
  | 14 => ⟨S4352, .i32⟩
  | 15 => ⟨S_, .i32⟩
  | 16 => ⟨S4352, .i32⟩
  | 17 => ⟨S4352, .i1⟩
  | 18 => ⟨S1x4352x1, .i1⟩
  | 19 => ⟨S8x4352x1024, .f32⟩
  | 20 => ⟨S1024x6144, .bf16⟩
  | 21 => ⟨S8x1024, .f32⟩
  | 22 => ⟨S8x1024, .f32⟩
  | 23 => ⟨S_, .f32⟩
  | 24 => ⟨S8x1024, .f32⟩
  | 25 => ⟨S8x1024, .f32⟩
  | 26 => ⟨S_, .f32⟩
  | 27 => ⟨S8x1024, .f32⟩
  | 28 => ⟨S8x1024, .f32⟩
  | 29 => ⟨S8x1024, .f32⟩
  | 30 => ⟨S_, .i32⟩
  | 31 => ⟨S_, .f32⟩
  | 32 => ⟨S8x1024, .f32⟩
  | 33 => ⟨S8x6144, .f32⟩
  | 34 => ⟨S1x6144, .f32⟩
  | 35 => ⟨S8x6144, .f32⟩
  | 36 => ⟨S8x6144, .f32⟩
  | 37 => ⟨S8x1x6144, .f32⟩
  | 38 => ⟨S8x1x1024, .f32⟩
  | 39 => ⟨S8x1x1024, .f32⟩
  | 40 => ⟨S8x1x1024, .f32⟩
  | 41 => ⟨S8x1x1024, .f32⟩
  | 42 => ⟨S8x1x1024, .f32⟩
  | 43 => ⟨S8x1x1024, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .i32⟩
  | 55 => ⟨S_, .f32⟩
  | 56 => ⟨S8x1024, .f32⟩
  | 57 => ⟨S8x6144, .f32⟩
  | 58 => ⟨S1x6144, .f32⟩
  | 59 => ⟨S1x6144, .f32⟩
  | 60 => ⟨S1x6144, .f32⟩
  | 61 => ⟨S1x1x6144, .f32⟩
  | 62 => ⟨S1x1x1024, .f32⟩
  | 63 => ⟨S1x1x1024, .f32⟩
  | 64 => ⟨S1x1x1024, .f32⟩
  | 65 => ⟨S1x1x1024, .f32⟩
  | 66 => ⟨S1x1x1024, .f32⟩
  | 67 => ⟨S1x1x1024, .f32⟩
  | 68 => ⟨S8x4352x1024, .i1⟩
  | 69 => ⟨S8x4352x1024, .f32⟩
  | 70 => ⟨S8x4352x1024, .f32⟩
  | 71 => ⟨S8x4352x1024, .f32⟩
  | 72 => ⟨S8x4352x1024, .i1⟩
  | 73 => ⟨S8x4352x1024, .f32⟩
  | 74 => ⟨S8x4352x1024, .f32⟩
  | 75 => ⟨S8x4352x1024, .f32⟩
  | 76 => ⟨S8x4352x1024, .i1⟩
  | 77 => ⟨S8x4352x1024, .f32⟩
  | 78 => ⟨S8x4352x1024, .f32⟩
  | 79 => ⟨S8x4352x1024, .f32⟩
  | 80 => ⟨S8x4352x1024, .i1⟩
  | 81 => ⟨S8x4352x1024, .f32⟩
  | 82 => ⟨S8x4352x1024, .f32⟩
  | 83 => ⟨S8x4352x1024, .f32⟩
  | 84 => ⟨S8x4352x1024, .i1⟩
  | 85 => ⟨S8x4352x1024, .f32⟩
  | 86 => ⟨S8x4352x1024, .f32⟩
  | 87 => ⟨S8x4352x1024, .f32⟩
  | 88 => ⟨S8x4352x1024, .i1⟩
  | 89 => ⟨S8x4352x1024, .f32⟩
  | 90 => ⟨S8x4352x1024, .f32⟩
  | 91 => ⟨S8x4352x1024, .f32⟩
  | 92 => ⟨S8x4352x1024, .f32⟩
  | 93 => ⟨S_, .f32⟩
  | 94 => ⟨S8x4352, .f32⟩
  | 95 => ⟨S8x4352x1, .f32⟩
  | 96 => ⟨S_, .f32⟩
  | 97 => ⟨S8x4352x1, .f32⟩
  | 98 => ⟨S8x4352x1, .f32⟩
  | 99 => ⟨S_, .f32⟩
  | 100 => ⟨S8x4352x1, .f32⟩
  | 101 => ⟨S8x4352x1, .f32⟩
  | 102 => ⟨S8x4352x1, .f32⟩
  | 103 => ⟨S8x4352x1024, .f32⟩
  | 104 => ⟨S8x4352x1024, .f32⟩
  | 105 => ⟨S1x1x1024, .f32⟩
  | 106 => ⟨S8x4352x1024, .f32⟩
  | 107 => ⟨S8x4352x1024, .f32⟩
  | 108 => ⟨S_, .f32⟩
  | 109 => ⟨S8x4352x1024, .f32⟩
  | 110 => ⟨S8x4352x1024, .f32⟩
  | 111 => ⟨S8x4352x1024, .f32⟩
  | 112 => ⟨S8x4352x1024, .f32⟩
  | 113 => ⟨S8x4352x1024, .f32⟩
  | 114 => ⟨S8x4352x1024, .f32⟩
  | 115 => ⟨S8x4352x1024, .f32⟩
  | 116 => ⟨S_, .f32⟩
  | 117 => ⟨S8x4352, .f32⟩
  | 118 => ⟨S8x4352x1, .f32⟩
  | 119 => ⟨S_, .f32⟩
  | 120 => ⟨S8x4352x1, .f32⟩
  | 121 => ⟨S8x4352x1, .f32⟩
  | 122 => ⟨S_, .f32⟩
  | 123 => ⟨S8x4352x1, .f32⟩
  | 124 => ⟨S8x4352x1, .f32⟩
  | 125 => ⟨S8x4352x1, .f32⟩
  | 126 => ⟨S8x4352x1024, .f32⟩
  | 127 => ⟨S8x4352x1024, .f32⟩
  | _ => ⟨S8x4096x1024, .f32⟩

abbrev hbmTy0_1 (i : Nat) : BufTy := match i % 128 with
  | 0 => ⟨S1x1x1024, .f32⟩
  | 1 => ⟨S8x4352x1024, .f32⟩
  | 2 => ⟨S8x4352x1024, .f32⟩
  | 3 => ⟨S_, .f32⟩
  | 4 => ⟨S8x4352x1024, .f32⟩
  | 5 => ⟨S8x4352x1024, .f32⟩
  | 6 => ⟨S8x4352x1024, .f32⟩
  | 7 => ⟨S8x4352x1024, .f32⟩
  | 8 => ⟨S8x4352x1024, .f32⟩
  | 9 => ⟨S8x4352x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x1024, .f32⟩
  | .local _ .vmem, ⟨9, _⟩ => ⟨S8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_c_0 : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v22 : Ref sig .tc := ⟨.hbm, 53, rfl⟩
abbrev main_c_1 : Ref sig .tc := ⟨.hbm, 54, rfl⟩
abbrev main_call3_v0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v35 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_v36 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_v37 : Ref sig .tc := ⟨.hbm, 79, rfl⟩
abbrev main_call7_v0 : Ref sig .tc := ⟨.hbm, 80, rfl⟩
abbrev main_call7_v1 : Ref sig .tc := ⟨.hbm, 81, rfl⟩
abbrev main_call7_v2 : Ref sig .tc := ⟨.hbm, 82, rfl⟩
abbrev main_v38 : Ref sig .tc := ⟨.hbm, 83, rfl⟩
abbrev main_call8_v0 : Ref sig .tc := ⟨.hbm, 84, rfl⟩
abbrev main_call8_v1 : Ref sig .tc := ⟨.hbm, 85, rfl⟩
abbrev main_call8_v2 : Ref sig .tc := ⟨.hbm, 86, rfl⟩
abbrev main_v39 : Ref sig .tc := ⟨.hbm, 87, rfl⟩
abbrev main_call9_v0 : Ref sig .tc := ⟨.hbm, 88, rfl⟩
abbrev main_call9_v1 : Ref sig .tc := ⟨.hbm, 89, rfl⟩
abbrev main_call9_v2 : Ref sig .tc := ⟨.hbm, 90, rfl⟩
abbrev main_v40 : Ref sig .tc := ⟨.hbm, 91, rfl⟩
abbrev main_v41 : Ref sig .tc := ⟨.hbm, 92, rfl⟩
abbrev main_cst : Ref sig .tc := ⟨.hbm, 93, rfl⟩
abbrev main_v42 : Ref sig .tc := ⟨.hbm, 94, rfl⟩
abbrev main_v43 : Ref sig .tc := ⟨.hbm, 95, rfl⟩
abbrev main_cst_2 : Ref sig .tc := ⟨.hbm, 96, rfl⟩
abbrev main_v44 : Ref sig .tc := ⟨.hbm, 97, rfl⟩
abbrev main_v45 : Ref sig .tc := ⟨.hbm, 98, rfl⟩
abbrev main_cst_3 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_4 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_5 : Ref sig .tc := ⟨.hbm, 116, rfl⟩
abbrev main_v61 : Ref sig .tc := ⟨.hbm, 117, rfl⟩
abbrev main_v62 : Ref sig .tc := ⟨.hbm, 118, rfl⟩
abbrev main_cst_6 : Ref sig .tc := ⟨.hbm, 119, rfl⟩
abbrev main_v63 : Ref sig .tc := ⟨.hbm, 120, rfl⟩
abbrev main_v64 : Ref sig .tc := ⟨.hbm, 121, rfl⟩
abbrev main_cst_7 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_8 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== NormsRefIdeal.lean ====
abbrev S8x4096x1024 : Shape := ⟨3, ![8, 4096, 1024]⟩
abbrev S8x256x1024 : Shape := ⟨3, ![8, 256, 1024]⟩
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S8x1x6144 : Shape := ⟨3, ![8, 1, 6144]⟩
abbrev S8x1x1024 : Shape := ⟨3, ![8, 1, 1024]⟩
abbrev S1x1024 : Shape := ⟨2, ![1, 1024]⟩
abbrev S1x1x6144 : Shape := ⟨3, ![1, 1, 6144]⟩
abbrev S1x1x1024 : Shape := ⟨3, ![1, 1, 1024]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x4352x1024 : Shape := ⟨3, ![8, 4352, 1024]⟩

abbrev nBuf : Space → Nat
  | .hbm => 159
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x4096x1024, .f32⟩
  | 3 => ⟨S8x256x1024, .f32⟩
  | 4 => ⟨S8x4096x1024, .f32⟩
  | 5 => ⟨S8x256x1024, .f32⟩
  | 6 => ⟨S8x1024, .f32⟩
  | 7 => ⟨S1024, .f32⟩
  | 8 => ⟨S1024x6144, .f32⟩
  | 9 => ⟨S6144, .f32⟩
  | 10 => ⟨S1024, .f32⟩
  | 11 => ⟨S1024, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S_, .f32⟩
  | 18 => ⟨S8x1024, .f32⟩
  | 19 => ⟨S8x1024, .f32⟩
  | 20 => ⟨S8x1024, .f32⟩
  | 21 => ⟨S8x6144, .f32⟩
  | 22 => ⟨S1x6144, .f32⟩
  | 23 => ⟨S8x6144, .f32⟩
  | 24 => ⟨S8x6144, .f32⟩
  | 25 => ⟨S8x1x6144, .f32⟩
  | 26 => ⟨S8x1x1024, .f32⟩
  | 27 => ⟨S8x1x1024, .f32⟩
  | 28 => ⟨S8x1x1024, .f32⟩
  | 29 => ⟨S8x1x1024, .f32⟩
  | 30 => ⟨S8x1x1024, .f32⟩
  | 31 => ⟨S8x1x1024, .f32⟩
  | 32 => ⟨S1x1024, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S1x6144, .f32⟩
  | 43 => ⟨S1x6144, .f32⟩
  | 44 => ⟨S1x6144, .f32⟩
  | 45 => ⟨S1x1x6144, .f32⟩
  | 46 => ⟨S1x1x1024, .f32⟩
  | 47 => ⟨S1x1x1024, .f32⟩
  | 48 => ⟨S1x1x1024, .f32⟩
  | 49 => ⟨S1x1x1024, .f32⟩
  | 50 => ⟨S1x1x1024, .f32⟩
  | 51 => ⟨S1x1x1024, .f32⟩
  | 52 => ⟨S8x4096x1024, .f32⟩
  | 53 => ⟨S_, .f32⟩
  | 54 => ⟨S8x4096, .f32⟩
  | 55 => ⟨S8x4096x1, .f32⟩
  | 56 => ⟨S_, .f32⟩
  | 57 => ⟨S8x4096x1, .f32⟩
  | 58 => ⟨S8x4096x1, .f32⟩
  | 59 => ⟨S_, .f32⟩
  | 60 => ⟨S8x4096x1, .f32⟩
  | 61 => ⟨S8x4096x1, .f32⟩
  | 62 => ⟨S8x4096x1, .f32⟩
  | 63 => ⟨S8x4096x1024, .f32⟩
  | 64 => ⟨S8x4096x1024, .f32⟩
  | 65 => ⟨S1x1x1024, .f32⟩
  | 66 => ⟨S8x4096x1024, .f32⟩
  | 67 => ⟨S8x4096x1024, .f32⟩
  | 68 => ⟨S_, .f32⟩
  | 69 => ⟨S8x1x1024, .f32⟩
  | 70 => ⟨S8x1x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x256x1024, .f32⟩
  | 76 => ⟨S_, .f32⟩
  | 77 => ⟨S8x256, .f32⟩
  | 78 => ⟨S8x256x1, .f32⟩
  | 79 => ⟨S_, .f32⟩
  | 80 => ⟨S8x256x1, .f32⟩
  | 81 => ⟨S8x256x1, .f32⟩
  | 82 => ⟨S_, .f32⟩
  | 83 => ⟨S8x256x1, .f32⟩
  | 84 => ⟨S8x256x1, .f32⟩
  | 85 => ⟨S8x256x1, .f32⟩
  | 86 => ⟨S8x256x1024, .f32⟩
  | 87 => ⟨S8x256x1024, .f32⟩
  | 88 => ⟨S1x1x1024, .f32⟩
  | 89 => ⟨S8x256x1024, .f32⟩
  | 90 => ⟨S8x256x1024, .f32⟩
  | 91 => ⟨S_, .f32⟩
  | 92 => ⟨S1x1x1024, .f32⟩
  | 93 => ⟨S1x1x1024, .f32⟩
  | 94 => ⟨S8x256x1024, .f32⟩
  | 95 => ⟨S8x256x1024, .f32⟩
  | 96 => ⟨S8x256x1024, .f32⟩
  | 97 => ⟨S8x256x1024, .f32⟩
  | 98 => ⟨S8x4096x1024, .f32⟩
  | 99 => ⟨S8x4096x1024, .f32⟩
  | 100 => ⟨S8x4096x1024, .f32⟩
  | 101 => ⟨S8x256x1024, .f32⟩
  | 102 => ⟨S8x256x1024, .f32⟩
  | 103 => ⟨S8x256x1024, .f32⟩
  | 104 => ⟨S8x4096x1024, .f32⟩
  | 105 => ⟨S_, .f32⟩
  | 106 => ⟨S8x4096, .f32⟩
  | 107 => ⟨S8x4096x1, .f32⟩
  | 108 => ⟨S_, .f32⟩
  | 109 => ⟨S8x4096x1, .f32⟩
  | 110 => ⟨S8x4096x1, .f32⟩
  | 111 => ⟨S_, .f32⟩
  | 112 => ⟨S8x4096x1, .f32⟩
  | 113 => ⟨S8x4096x1, .f32⟩
  | 114 => ⟨S8x4096x1, .f32⟩
  | 115 => ⟨S8x4096x1024, .f32⟩
  | 116 => ⟨S8x4096x1024, .f32⟩
  | 117 => ⟨S1x1x1024, .f32⟩
  | 118 => ⟨S8x4096x1024, .f32⟩
  | 119 => ⟨S8x4096x1024, .f32⟩
  | 120 => ⟨S_, .f32⟩
  | 121 => ⟨S8x1x1024, .f32⟩
  | 122 => ⟨S8x1x1024, .f32⟩
  | 123 => ⟨S8x4096x1024, .f32⟩
  | 124 => ⟨S8x4096x1024, .f32⟩
  | 125 => ⟨S8x4096x1024, .f32⟩
  | 126 => ⟨S8x4096x1024, .f32⟩
  | 127 => ⟨S8x256x1024, .f32⟩
  | _ => ⟨S8x4096x1024, .f32⟩

abbrev hbmTy0_1 (i : Nat) : BufTy := match i % 128 with
  | 0 => ⟨S_, .f32⟩
  | 1 => ⟨S8x256, .f32⟩
  | 2 => ⟨S8x256x1, .f32⟩
  | 3 => ⟨S_, .f32⟩
  | 4 => ⟨S8x256x1, .f32⟩
  | 5 => ⟨S8x256x1, .f32⟩
  | 6 => ⟨S_, .f32⟩
  | 7 => ⟨S8x256x1, .f32⟩
  | 8 => ⟨S8x256x1, .f32⟩
  | 9 => ⟨S8x256x1, .f32⟩
  | 10 => ⟨S8x256x1024, .f32⟩
  | 11 => ⟨S8x256x1024, .f32⟩
  | 12 => ⟨S1x1x1024, .f32⟩
  | 13 => ⟨S8x256x1024, .f32⟩
  | 14 => ⟨S8x256x1024, .f32⟩
  | 15 => ⟨S_, .f32⟩
  | 16 => ⟨S1x1x1024, .f32⟩
  | 17 => ⟨S1x1x1024, .f32⟩
  | 18 => ⟨S8x256x1024, .f32⟩
  | 19 => ⟨S8x256x1024, .f32⟩
  | 20 => ⟨S8x256x1024, .f32⟩
  | 21 => ⟨S8x256x1024, .f32⟩
  | 22 => ⟨S8x4096x1024, .f32⟩
  | 23 => ⟨S8x4096x1024, .f32⟩
  | 24 => ⟨S8x4096x1024, .f32⟩
  | 25 => ⟨S8x256x1024, .f32⟩
  | 26 => ⟨S8x256x1024, .f32⟩
  | 27 => ⟨S8x256x1024, .f32⟩
  | 28 => ⟨S8x4352x1024, .f32⟩
  | 29 => ⟨S8x4352x1024, .f32⟩
  | 30 => ⟨S8x4352x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst : Ref sig .tc := ⟨.hbm, 53, rfl⟩
abbrev main_v25 : Ref sig .tc := ⟨.hbm, 54, rfl⟩
abbrev main_v26 : Ref sig .tc := ⟨.hbm, 55, rfl⟩
abbrev main_cst_0 : Ref sig .tc := ⟨.hbm, 56, rfl⟩
abbrev main_v27 : Ref sig .tc := ⟨.hbm, 57, rfl⟩
abbrev main_v28 : Ref sig .tc := ⟨.hbm, 58, rfl⟩
abbrev main_cst_1 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_2 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_3 : Ref sig .tc := ⟨.hbm, 76, rfl⟩
abbrev main_v44 : Ref sig .tc := ⟨.hbm, 77, rfl⟩
abbrev main_v45 : Ref sig .tc := ⟨.hbm, 78, rfl⟩
abbrev main_cst_4 : Ref sig .tc := ⟨.hbm, 79, rfl⟩
abbrev main_v46 : Ref sig .tc := ⟨.hbm, 80, rfl⟩
abbrev main_v47 : Ref sig .tc := ⟨.hbm, 81, rfl⟩
abbrev main_cst_5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_6 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_7 : Ref sig .tc := ⟨.hbm, 105, rfl⟩
abbrev main_v69 : Ref sig .tc := ⟨.hbm, 106, rfl⟩
abbrev main_v70 : Ref sig .tc := ⟨.hbm, 107, rfl⟩
abbrev main_cst_8 : Ref sig .tc := ⟨.hbm, 108, rfl⟩
abbrev main_v71 : Ref sig .tc := ⟨.hbm, 109, rfl⟩
abbrev main_v72 : Ref sig .tc := ⟨.hbm, 110, rfl⟩
abbrev main_cst_9 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_10 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_11 : Ref sig .tc := ⟨.hbm, 128, rfl⟩
abbrev main_v88 : Ref sig .tc := ⟨.hbm, 129, rfl⟩
abbrev main_v89 : Ref sig .tc := ⟨.hbm, 130, rfl⟩
abbrev main_cst_12 : Ref sig .tc := ⟨.hbm, 131, rfl⟩
abbrev main_v90 : Ref sig .tc := ⟨.hbm, 132, rfl⟩
abbrev main_v91 : Ref sig .tc := ⟨.hbm, 133, rfl⟩
abbrev main_cst_13 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_14 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]
-- ==== CtxAttn.lean ====
abbrev S8x256x3072 : Shape := ⟨3, ![8, 256, 3072]⟩
abbrev S8x4096x3072 : Shape := ⟨3, ![8, 4096, 3072]⟩
abbrev S64 : Shape := ⟨1, ![64]⟩
abbrev S128 : Shape := ⟨1, ![128]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S8x4352x3072 : Shape := ⟨3, ![8, 4352, 3072]⟩
abbrev S8x4352x1024 : Shape := ⟨3, ![8, 4352, 1024]⟩
abbrev S8x4352x8x2x64 : Shape := ⟨5, ![8, 4352, 8, 2, 64]⟩
abbrev S8x4352x8x2 : Shape := ⟨4, ![8, 4352, 8, 2]⟩
abbrev S8x4352x8x2x1 : Shape := ⟨5, ![8, 4352, 8, 2, 1]⟩
abbrev S1x1x1x1x64 : Shape := ⟨5, ![1, 1, 1, 1, 64]⟩
abbrev S8x256x8x2x64 : Shape := ⟨5, ![8, 256, 8, 2, 64]⟩
abbrev S8x4096x8x2x64 : Shape := ⟨5, ![8, 4096, 8, 2, 64]⟩
abbrev S8x4096x8x2x32 : Shape := ⟨5, ![8, 4096, 8, 2, 32]⟩
abbrev S8x4096x8x2x16 : Shape := ⟨5, ![8, 4096, 8, 2, 16]⟩
abbrev S4096x1x1x16 : Shape := ⟨4, ![4096, 1, 1, 16]⟩
abbrev S1x4096x1x1x16 : Shape := ⟨5, ![1, 4096, 1, 1, 16]⟩
abbrev S8x1024x4352 : Shape := ⟨3, ![8, 1024, 4352]⟩
abbrev S8x256x1024 : Shape := ⟨3, ![8, 256, 1024]⟩
abbrev S8x1024x256 : Shape := ⟨3, ![8, 1024, 256]⟩
abbrev S1 : Shape := ⟨1, ![1]⟩
abbrev S1x128 : Shape := ⟨2, ![1, 128]⟩
abbrev S1x256x128 : Shape := ⟨3, ![1, 256, 128]⟩
abbrev S1x128x256 : Shape := ⟨3, ![1, 128, 256]⟩
abbrev S256x128 : Shape := ⟨2, ![256, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩

abbrev nBuf : Space → Nat
  | .hbm => 186
  | .vmem => 9
  | .smem => 1
  | _ => 0

abbrev hbmTy0_0 (i : Nat) : BufTy := match i % 128 with
  | 0 => ⟨S8x256x3072, .f32⟩
  | 1 => ⟨S8x4096x3072, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S128, .f32⟩
  | 9 => ⟨S64, .f32⟩
  | 10 => ⟨S64x64, .f32⟩
  | 11 => ⟨S4096, .f32⟩
  | 12 => ⟨S64, .f32⟩
  | 13 => ⟨S1x64, .f32⟩
  | 14 => ⟨S64x64, .f32⟩
  | 15 => ⟨S4096, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x1, .f32⟩
  | 30 => ⟨S1x16, .f32⟩
  | 31 => ⟨S4096x16, .f32⟩
  | 32 => ⟨S4096x16, .f32⟩
  | 33 => ⟨S4096x16, .f32⟩
  | 34 => ⟨S4096x16, .f32⟩
  | 35 => ⟨S4096x16, .f32⟩
  | 36 => ⟨S4096x16, .f32⟩
  | 37 => ⟨S4096x16, .f32⟩
  | 38 => ⟨S8x4352x3072, .f32⟩
  | 39 => ⟨S64, .f32⟩
  | 40 => ⟨S_, .f32⟩
  | 41 => ⟨S_, .f32⟩
  | 42 => ⟨S_, .f32⟩
  | 43 => ⟨S64, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S8x4352x1024, .f32⟩
  | 51 => ⟨S8x4352x1024, .f32⟩
  | 52 => ⟨S8x4352x1024, .f32⟩
  | 53 => ⟨S8x4352x8x2x64, .f32⟩
  | 54 => ⟨S8x4352x8x2x64, .f32⟩
  | 55 => ⟨S_, .f32⟩
  | 56 => ⟨S8x4352x8x2, .f32⟩
  | 57 => ⟨S8x4352x8x2x1, .f32⟩
  | 58 => ⟨S_, .f32⟩
  | 59 => ⟨S8x4352x8x2x1, .f32⟩
  | 60 => ⟨S8x4352x8x2x1, .f32⟩
  | 61 => ⟨S_, .f32⟩
  | 62 => ⟨S8x4352x8x2x1, .f32⟩
  | 63 => ⟨S8x4352x8x2x1, .f32⟩
  | 64 => ⟨S8x4352x8x2x1, .f32⟩
  | 65 => ⟨S8x4352x8x2x64, .f32⟩
  | 66 => ⟨S8x4352x8x2x64, .f32⟩
  | 67 => ⟨S1x1x1x1x64, .f32⟩
  | 68 => ⟨S8x4352x8x2x64, .f32⟩
  | 69 => ⟨S8x4352x8x2x64, .f32⟩
  | 70 => ⟨S8x256x8x2x64, .f32⟩
  | 71 => ⟨S8x4096x8x2x64, .f32⟩
  | 72 => ⟨S8x4096x8x2x32, .f32⟩
  | 73 => ⟨S8x4096x8x2x32, .f32⟩
  | 74 => ⟨S8x4096x8x2x16, .f32⟩
  | 75 => ⟨S8x4096x8x2x16, .f32⟩
  | 76 => ⟨S4096x1x1x16, .f32⟩
  | 77 => ⟨S4096x1x1x16, .f32⟩
  | 78 => ⟨S1x4096x1x1x16, .f32⟩
  | 79 => ⟨S8x4096x8x2x16, .f32⟩
  | 80 => ⟨S8x4096x8x2x16, .f32⟩
  | 81 => ⟨S1x4096x1x1x16, .f32⟩
  | 82 => ⟨S8x4096x8x2x16, .f32⟩
  | 83 => ⟨S8x4096x8x2x16, .f32⟩
  | 84 => ⟨S8x4096x8x2x16, .f32⟩
  | 85 => ⟨S1x4096x1x1x16, .f32⟩
  | 86 => ⟨S8x4096x8x2x16, .f32⟩
  | 87 => ⟨S8x4096x8x2x16, .f32⟩
  | 88 => ⟨S1x4096x1x1x16, .f32⟩
  | 89 => ⟨S8x4096x8x2x16, .f32⟩
  | 90 => ⟨S8x4096x8x2x16, .f32⟩
  | 91 => ⟨S8x4096x8x2x16, .f32⟩
  | 92 => ⟨S8x4096x8x2x32, .f32⟩
  | 93 => ⟨S8x4096x8x2x16, .f32⟩
  | 94 => ⟨S8x4096x8x2x16, .f32⟩
  | 95 => ⟨S4096x1x1x16, .f32⟩
  | 96 => ⟨S4096x1x1x16, .f32⟩
  | 97 => ⟨S1x4096x1x1x16, .f32⟩
  | 98 => ⟨S8x4096x8x2x16, .f32⟩
  | 99 => ⟨S8x4096x8x2x16, .f32⟩
  | 100 => ⟨S1x4096x1x1x16, .f32⟩
  | 101 => ⟨S8x4096x8x2x16, .f32⟩
  | 102 => ⟨S8x4096x8x2x16, .f32⟩
  | 103 => ⟨S8x4096x8x2x16, .f32⟩
  | 104 => ⟨S1x4096x1x1x16, .f32⟩
  | 105 => ⟨S8x4096x8x2x16, .f32⟩
  | 106 => ⟨S8x4096x8x2x16, .f32⟩
  | 107 => ⟨S1x4096x1x1x16, .f32⟩
  | 108 => ⟨S8x4096x8x2x16, .f32⟩
  | 109 => ⟨S8x4096x8x2x16, .f32⟩
  | 110 => ⟨S8x4096x8x2x16, .f32⟩
  | 111 => ⟨S8x4096x8x2x32, .f32⟩
  | 112 => ⟨S8x4096x8x2x64, .f32⟩
  | 113 => ⟨S8x4352x8x2x64, .f32⟩
  | 114 => ⟨S8x4352x1024, .f32⟩
  | 115 => ⟨S8x4352x8x2x64, .f32⟩
  | 116 => ⟨S8x4352x8x2x64, .f32⟩
  | 117 => ⟨S_, .f32⟩
  | 118 => ⟨S8x4352x8x2, .f32⟩
  | 119 => ⟨S8x4352x8x2x1, .f32⟩
  | 120 => ⟨S_, .f32⟩
  | 121 => ⟨S8x4352x8x2x1, .f32⟩
  | 122 => ⟨S8x4352x8x2x1, .f32⟩
  | 123 => ⟨S_, .f32⟩
  | 124 => ⟨S8x4352x8x2x1, .f32⟩
  | 125 => ⟨S8x4352x8x2x1, .f32⟩
  | 126 => ⟨S8x4352x8x2x1, .f32⟩
  | 127 => ⟨S8x4352x8x2x64, .f32⟩
  | _ => ⟨S8x256x3072, .f32⟩

abbrev hbmTy0_1 (i : Nat) : BufTy := match i % 128 with
  | 0 => ⟨S8x4352x8x2x64, .f32⟩
  | 1 => ⟨S1x1x1x1x64, .f32⟩
  | 2 => ⟨S8x4352x8x2x64, .f32⟩
  | 3 => ⟨S8x4352x8x2x64, .f32⟩
  | 4 => ⟨S8x256x8x2x64, .f32⟩
  | 5 => ⟨S8x4096x8x2x64, .f32⟩
  | 6 => ⟨S8x4096x8x2x32, .f32⟩
  | 7 => ⟨S8x4096x8x2x32, .f32⟩
  | 8 => ⟨S8x4096x8x2x16, .f32⟩
  | 9 => ⟨S8x4096x8x2x16, .f32⟩
  | 10 => ⟨S4096x1x1x16, .f32⟩
  | 11 => ⟨S4096x1x1x16, .f32⟩
  | 12 => ⟨S1x4096x1x1x16, .f32⟩
  | 13 => ⟨S8x4096x8x2x16, .f32⟩
  | 14 => ⟨S8x4096x8x2x16, .f32⟩
  | 15 => ⟨S1x4096x1x1x16, .f32⟩
  | 16 => ⟨S8x4096x8x2x16, .f32⟩
  | 17 => ⟨S8x4096x8x2x16, .f32⟩
  | 18 => ⟨S8x4096x8x2x16, .f32⟩
  | 19 => ⟨S1x4096x1x1x16, .f32⟩
  | 20 => ⟨S8x4096x8x2x16, .f32⟩
  | 21 => ⟨S8x4096x8x2x16, .f32⟩
  | 22 => ⟨S1x4096x1x1x16, .f32⟩
  | 23 => ⟨S8x4096x8x2x16, .f32⟩
  | 24 => ⟨S8x4096x8x2x16, .f32⟩
  | 25 => ⟨S8x4096x8x2x16, .f32⟩
  | 26 => ⟨S8x4096x8x2x32, .f32⟩
  | 27 => ⟨S8x4096x8x2x16, .f32⟩
  | 28 => ⟨S8x4096x8x2x16, .f32⟩
  | 29 => ⟨S4096x1x1x16, .f32⟩
  | 30 => ⟨S4096x1x1x16, .f32⟩
  | 31 => ⟨S1x4096x1x1x16, .f32⟩
  | 32 => ⟨S8x4096x8x2x16, .f32⟩
  | 33 => ⟨S8x4096x8x2x16, .f32⟩
  | 34 => ⟨S1x4096x1x1x16, .f32⟩
  | 35 => ⟨S8x4096x8x2x16, .f32⟩
  | 36 => ⟨S8x4096x8x2x16, .f32⟩
  | 37 => ⟨S8x4096x8x2x16, .f32⟩
  | 38 => ⟨S1x4096x1x1x16, .f32⟩
  | 39 => ⟨S8x4096x8x2x16, .f32⟩
  | 40 => ⟨S8x4096x8x2x16, .f32⟩
  | 41 => ⟨S1x4096x1x1x16, .f32⟩
  | 42 => ⟨S8x4096x8x2x16, .f32⟩
  | 43 => ⟨S8x4096x8x2x16, .f32⟩
  | 44 => ⟨S8x4096x8x2x16, .f32⟩
  | 45 => ⟨S8x4096x8x2x32, .f32⟩
  | 46 => ⟨S8x4096x8x2x64, .f32⟩
  | 47 => ⟨S8x4352x8x2x64, .f32⟩
  | 48 => ⟨S8x4352x1024, .f32⟩
  | 49 => ⟨S8x4352x1024, .bf16⟩
  | 50 => ⟨S8x1024x4352, .bf16⟩
  | 51 => ⟨S8x4352x1024, .bf16⟩
  | 52 => ⟨S8x256x1024, .f32⟩
  | 53 => ⟨S8x1024x256, .bf16⟩
  | 54 => ⟨S8x256x1024, .bf16⟩
  | 55 => ⟨S1, .f32⟩
  | 56 => ⟨S1x128, .f32⟩
  | 57 => ⟨S8x256x1024, .f32⟩
  | _ => ⟨S8x256x3072, .f32⟩

abbrev hbmTy (i : Nat) : BufTy := match i / 128 with
  | 0 => hbmTy0_0 i
  | 1 => hbmTy0_1 i
  | _ => ⟨S8x256x3072, .f32⟩

abbrev bufTy : (tb : Table) → Fin (tcTables nBuf tb) → BufTy
  | .hbm, ⟨i, _⟩ => hbmTy i
  | .local _ .vmem, ⟨0, _⟩ => ⟨S1x256x128, .f32⟩
  | .local _ .vmem, ⟨1, _⟩ => ⟨S1x256x128, .f32⟩
  | .local _ .vmem, ⟨2, _⟩ => ⟨S1x128x256, .bf16⟩
  | .local _ .vmem, ⟨3, _⟩ => ⟨S1x128x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x128, .f32⟩
  | .local _ .vmem, ⟨7, _⟩ => ⟨S1x256x128, .f32⟩
  | .local _ .vmem, ⟨8, _⟩ => ⟨S1x256x128, .f32⟩
  | .local _ .smem, ⟨0, _⟩ => ⟨S1, .f32⟩
  | _, _ => ⟨S8x256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_7 : Ref sig .tc := ⟨.hbm, 117, rfl⟩
abbrev main_v100 : Ref sig .tc := ⟨.hbm, 118, rfl⟩
abbrev main_v101 : Ref sig .tc := ⟨.hbm, 119, rfl⟩
abbrev main_cst_8 : Ref sig .tc := ⟨.hbm, 120, rfl⟩
abbrev main_v102 : Ref sig .tc := ⟨.hbm, 121, rfl⟩
abbrev main_v103 : Ref sig .tc := ⟨.hbm, 122, rfl⟩
abbrev main_cst_9 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== CtxAttnIdeal.lean ====
variable {F : FTy → Type} [FloatOps F] [Named F]
def κ : String → Option EReal := fun
  | "qscale" => some (((1 / 8) * (Real.log 2)⁻¹ : ℝ) : EReal)
  | _ => none
-- ==== CtxAttnRefIdeal.lean ====
abbrev S8x256x3072 : Shape := ⟨3, ![8, 256, 3072]⟩
abbrev S8x4096x3072 : Shape := ⟨3, ![8, 4096, 3072]⟩
abbrev S64 : Shape := ⟨1, ![64]⟩
abbrev S128 : Shape := ⟨1, ![128]⟩
abbrev S8x256x1024 : Shape := ⟨3, ![8, 256, 1024]⟩
abbrev S8x256x16x64 : Shape := ⟨4, ![8, 256, 16, 64]⟩
abbrev S_ : Shape := ⟨0, ![]⟩
abbrev S8x256x16 : Shape := ⟨3, ![8, 256, 16]⟩
abbrev S8x256x16x1 : Shape := ⟨4, ![8, 256, 16, 1]⟩
abbrev S1x1x1x64 : Shape := ⟨4, ![1, 1, 1, 64]⟩
abbrev S8x16x256x256 : Shape := ⟨4, ![8, 16, 256, 256]⟩
abbrev S8x16x256 : Shape := ⟨3, ![8, 16, 256]⟩
abbrev S8x16x256x1 : Shape := ⟨4, ![8, 16, 256, 1]⟩
abbrev S8x8x2x256x256 : Shape := ⟨5, ![8, 8, 2, 256, 256]⟩
abbrev S8x8x1x256x256 : Shape := ⟨5, ![8, 8, 1, 256, 256]⟩
abbrev S8x8x256x256 : Shape := ⟨4, ![8, 8, 256, 256]⟩
abbrev S8x256x8x128 : Shape := ⟨4, ![8, 256, 8, 128]⟩
abbrev S8x8x128x256 : Shape := ⟨4, ![8, 8, 128, 256]⟩
abbrev S8x256x8 : Shape := ⟨3, ![8, 256, 8]⟩
abbrev S8x256x8x1 : Shape := ⟨4, ![8, 256, 8, 1]⟩
abbrev S1x1x1x128 : Shape := ⟨4, ![1, 1, 1, 128]⟩

abbrev nBuf : Space → Nat
  | .hbm => 106
  | .vmem => 0
  | .smem => 0
  | _ => 0

abbrev bufTy : (tb : Table) → Fin (tcTables nBuf tb) → BufTy
  | .hbm, ⟨0, _⟩ => ⟨S8x256x3072, .f32⟩
  | .hbm, ⟨1, _⟩ => ⟨S8x4096x3072, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S8x256x1024, .f32⟩
  | .hbm, ⟨10, _⟩ => ⟨S8x256x1024, .f32⟩
  | .hbm, ⟨11, _⟩ => ⟨S8x256x1024, .f32⟩
  | .hbm, ⟨12, _⟩ => ⟨S8x256x16x64, .f32⟩
  | .hbm, ⟨13, _⟩ => ⟨S8x256x16x64, .f32⟩
  | .hbm, ⟨14, _⟩ => ⟨S_, .f32⟩
  | .hbm, ⟨15, _⟩ => ⟨S8x256x16, .f32⟩
  | .hbm, ⟨16, _⟩ => ⟨S8x256x16x1, .f32⟩
  | .hbm, ⟨17, _⟩ => ⟨S_, .f32⟩
  | .hbm, ⟨18, _⟩ => ⟨S8x256x16x1, .f32⟩
  | .hbm, ⟨19, _⟩ => ⟨S8x256x16x1, .f32⟩
  | .hbm, ⟨20, _⟩ => ⟨S_, .f32⟩
  | .hbm, ⟨21, _⟩ => ⟨S8x256x16x1, .f32⟩
  | .hbm, ⟨22, _⟩ => ⟨S8x256x16x1, .f32⟩
  | .hbm, ⟨23, _⟩ => ⟨S8x256x16x1, .f32⟩
  | .hbm, ⟨24, _⟩ => ⟨S8x256x16x64, .f32⟩
  | .hbm, ⟨25, _⟩ => ⟨S8x256x16x64, .f32⟩
  | .hbm, ⟨26, _⟩ => ⟨S1x1x1x64, .f32⟩
  | .hbm, ⟨27, _⟩ => ⟨S8x256x16x64, .f32⟩
  | .hbm, ⟨28, _⟩ => ⟨S8x256x16x64, .f32⟩
  | .hbm, ⟨29, _⟩ => ⟨S8x256x16x64, .f32⟩
  | .hbm, ⟨30, _⟩ => ⟨S8x256x16x64, .f32⟩
  | .hbm, ⟨31, _⟩ => ⟨S_, .f32⟩
  | .hbm, ⟨32, _⟩ => ⟨S8x256x16, .f32⟩
  | .hbm, ⟨33, _⟩ => ⟨S8x256x16x1, .f32⟩
  | .hbm, ⟨34, _⟩ => ⟨S_, .f32⟩
  | .hbm, ⟨35, _⟩ => ⟨S8x256x16x1, .f32⟩
  | .hbm, ⟨36, _⟩ => ⟨S8x256x16x1, .f32⟩
  | .hbm, ⟨37, _⟩ => ⟨S_, .f32⟩
  | .hbm, ⟨38, _⟩ => ⟨S8x256x16x1, .f32⟩
  | .hbm, ⟨39, _⟩ => ⟨S8x256x16x1, .f32⟩
  | .hbm, ⟨40, _⟩ => ⟨S8x256x16x1, .f32⟩
  | .hbm, ⟨41, _⟩ => ⟨S8x256x16x64, .f32⟩
  | .hbm, ⟨42, _⟩ => ⟨S8x256x16x64, .f32⟩
  | .hbm, ⟨43, _⟩ => ⟨S1x1x1x64, .f32⟩
  | .hbm, ⟨44, _⟩ => ⟨S8x256x16x64, .f32⟩
  | .hbm, ⟨45, _⟩ => ⟨S8x256x16x64, .f32⟩
  | .hbm, ⟨46, _⟩ => ⟨S8x16x256x256, .f32⟩
  | .hbm, ⟨47, _⟩ => ⟨S_, .f32⟩
  | .hbm, ⟨48, _⟩ => ⟨S8x16x256x256, .f32⟩
  | .hbm, ⟨49, _⟩ => ⟨S8x16x256x256, .f32⟩
  | .hbm, ⟨50, _⟩ => ⟨S_, .f32⟩
  | .hbm, ⟨51, _⟩ => ⟨S8x16x256, .f32⟩
  | .hbm, ⟨52, _⟩ => ⟨S_, .f32⟩
  | .hbm, ⟨53, _⟩ => ⟨S8x16x256, .f32⟩
  | .hbm, ⟨54, _⟩ => ⟨S8x16x256, .f32⟩
  | .hbm, ⟨55, _⟩ => ⟨S8x16x256x1, .f32⟩
  | .hbm, ⟨56, _⟩ => ⟨S8x16x256x256, .f32⟩
  | .hbm, ⟨57, _⟩ => ⟨S8x16x256x256, .f32⟩
  | .hbm, ⟨58, _⟩ => ⟨S8x16x256x256, .f32⟩
  | .hbm, ⟨59, _⟩ => ⟨S_, .f32⟩
  | .hbm, ⟨60, _⟩ => ⟨S8x16x256, .f32⟩
  | .hbm, ⟨61, _⟩ => ⟨S8x16x256x1, .f32⟩
  | .hbm, ⟨62, _⟩ => ⟨S8x16x256x256, .f32⟩
  | .hbm, ⟨63, _⟩ => ⟨S8x16x256x256, .f32⟩
  | .hbm, ⟨64, _⟩ => ⟨S8x8x2x256x256, .f32⟩
  | .hbm, ⟨65, _⟩ => ⟨S64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8x8x1x256x256, .f32⟩
  | .hbm, ⟨77, _⟩ => ⟨S8x8x256x256, .f32⟩
  | .hbm, ⟨78, _⟩ => ⟨S8x8x1x256x256, .f32⟩
  | .hbm, ⟨79, _⟩ => ⟨S8x8x256x256, .f32⟩
  | .hbm, ⟨80, _⟩ => ⟨S8x8x256x256, .f32⟩
  | .hbm, ⟨81, _⟩ => ⟨S8x8x256x256, .f32⟩
  | .hbm, ⟨82, _⟩ => ⟨S8x8x256x256, .f32⟩
  | .hbm, ⟨83, _⟩ => ⟨S8x256x8x128, .f32⟩
  | .hbm, ⟨84, _⟩ => ⟨S8x8x128x256, .f32⟩
  | .hbm, ⟨85, _⟩ => ⟨S8x256x8x128, .f32⟩
  | .hbm, ⟨86, _⟩ => ⟨S8x256x8x128, .f32⟩
  | .hbm, ⟨87, _⟩ => ⟨S_, .f32⟩
  | .hbm, ⟨88, _⟩ => ⟨S8x256x8, .f32⟩
  | .hbm, ⟨89, _⟩ => ⟨S8x256x8x1, .f32⟩
  | .hbm, ⟨90, _⟩ => ⟨S_, .f32⟩
  | .hbm, ⟨91, _⟩ => ⟨S8x256x8x1, .f32⟩
  | .hbm, ⟨92, _⟩ => ⟨S8x256x8x1, .f32⟩
  | .hbm, ⟨93, _⟩ => ⟨S_, .f32⟩
  | .hbm, ⟨94, _⟩ => ⟨S8x256x8x1, .f32⟩
  | .hbm, ⟨95, _⟩ => ⟨S8x256x8x1, .f32⟩
  | .hbm, ⟨96, _⟩ => ⟨S8x256x8x1, .f32⟩
  | .hbm, ⟨97, _⟩ => ⟨S8x256x8x128, .f32⟩
  | .hbm, ⟨98, _⟩ => ⟨S8x256x8x128, .f32⟩
  | .hbm, ⟨99, _⟩ => ⟨S1x1x1x128, .f32⟩
  | .hbm, ⟨100, _⟩ => ⟨S8x256x8x128, .f32⟩
  | .hbm, ⟨101, _⟩ => ⟨S8x256x8x128, .f32⟩
  | .hbm, ⟨102, _⟩ => ⟨S_, .f32⟩
  | .hbm, ⟨103, _⟩ => ⟨S8x256x8x128, .f32⟩
  | .hbm, ⟨104, _⟩ => ⟨S8x256x8x128, .f32⟩
  | .hbm, ⟨105, _⟩ => ⟨S8x256x1024, .f32⟩
  | _, _ => ⟨S8x256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_15 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Proof.Attn.Math.lean ====
/- The arithmetic of the differential attention on extended reals: which operations keep a value real, and the
   identity between the kernel's base-two softmax, divided once at the end, and the reference's softmax. -/
module

public import Idealize.ShloMosaic.Lib.Pointwise
public import Idealize.ShloMosaic.Lib.IdealHost

@[expose] public section

noncomputable section

namespace Cert.AttnMath

open Idealize.ShloMosaic

/-- The extended real is a real number. -/
def IsR (x : EReal) : Prop := ∃ r : ℝ, x = (r : EReal)

/-- A real number is real. -/
theorem isR_coe (r : ℝ) : IsR (r : EReal) := ⟨r, rfl⟩

/-- Zero is real. -/
theorem isR_zero : IsR (0 : EReal) := ⟨0, by simp⟩

/-- A sum of two reals is real. -/
theorem IsR.add {x y : EReal} (hx : IsR x) (hy : IsR y) : IsR (x + y) := by
  obtain ⟨a, rfl⟩ := hx; obtain ⟨b, rfl⟩ := hy
  exact ⟨a + b, by push_cast; rfl⟩

/-- A difference of two reals is real. -/
theorem IsR.sub {x y : EReal} (hx : IsR x) (hy : IsR y) : IsR (x - y) := by
  obtain ⟨a, rfl⟩ := hx; obtain ⟨b, rfl⟩ := hy
  exact ⟨a - b, by push_cast; rfl⟩

/-- A product of two reals is real. -/
theorem IsR.mul {x y : EReal} (hx : IsR x) (hy : IsR y) : IsR (x * y) := by
  obtain ⟨a, rfl⟩ := hx; obtain ⟨b, rfl⟩ := hy
  exact ⟨a * b, by push_cast; rfl⟩

/-- The negative of a real is real. -/
theorem IsR.neg {x : EReal} (hx : IsR x) : IsR (-x) := by
  obtain ⟨a, rfl⟩ := hx
  exact ⟨-a, by push_cast; rfl⟩

/-- A finite sum of real numbers, as an extended real, is the sum of them as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A finite sum of reals is real. -/
theorem isR_sum {ι : Type*} (s : Finset ι) (f : ι → EReal) (h : ∀ i, IsR (f i)) : IsR (∑ i ∈ s, f i) := by
  choose r hr using h
  refine ⟨∑ i ∈ s, r i, ?_⟩
  rw [coe_sum]
  exact Finset.sum_congr rfl fun i _ => hr i

/-- A real divided by a nonzero real is their real quotient. -/
theorem div_coe_ne {a b : ℝ} (hb : b ≠ 0) : Ideal.div (a : EReal) (b : EReal) = ((a / b : ℝ) : EReal) := by
  have : (b : EReal) ≠ 0 := by exact_mod_cast hb
  rw [Ideal.div, if_neg this, div_eq_mul_inv, EReal.coe_mul, EReal.coe_inv]

/-- The exponential of a real is real. -/
theorem IsR.exp {x : EReal} (hx : IsR x) : IsR (Ideal.exp x) := by
  obtain ⟨a, rfl⟩ := hx
  exact ⟨Real.exp a, rfl⟩

/-- The cosine of a real is real. -/
theorem IsR.cos {x : EReal} (hx : IsR x) : IsR (Ideal.cos x) := by
  obtain ⟨a, rfl⟩ := hx
  exact ⟨Real.cos a, rfl⟩

/-- The sine of a real is real. -/
theorem IsR.sin {x : EReal} (hx : IsR x) : IsR (Ideal.sin x) := by
  obtain ⟨a, rfl⟩ := hx
  exact ⟨Real.sin a, rfl⟩

/-- A real power of a real is real. -/
theorem IsR.pow {x y : EReal} (hx : IsR x) (hy : IsR y) : IsR (Ideal.pow x y) := by
  obtain ⟨a, rfl⟩ := hx; obtain ⟨b, rfl⟩ := hy
  exact ⟨Real.rpow a b, rfl⟩

/-- The reciprocal root of a mean of squares of reals plus a positive number is real. -/
theorem isR_rsqrt_mean {n : ℕ} (f : Fin n → EReal) (h : ∀ i, IsR (f i)) (N e : ℝ) (hN : 0 < N) (he : 0 < e) :
    IsR (Ideal.rsqrt (Ideal.div (∑ i, f i * f i) (N : EReal) + (e : EReal))) := by
  choose r hr using h
  have hs : (∑ i, f i * f i) = ((∑ i, r i * r i : ℝ) : EReal) := by
    rw [coe_sum]
    exact Finset.sum_congr rfl fun i _ => by rw [hr i]; push_cast; rfl
  rw [hs, div_coe_ne hN.ne', ← EReal.coe_add]
  have h0 : 0 ≤ ∑ i, r i * r i := Finset.sum_nonneg fun i _ => mul_self_nonneg _
  have hp : 0 < (∑ i, r i * r i) / N + e := by positivity
  refine ⟨(Real.sqrt ((∑ i, r i * r i) / N + e))⁻¹, ?_⟩
  show (if _ < (0 : ℝ) then (⊥ : EReal) else if _ = (0 : ℝ) then ⊤ else _) = _
  rw [if_neg (not_lt.mpr hp.le), if_neg hp.ne']

/-- The greatest of finitely many extended reals, taken from below by steps, is the one that bounds the others. -/
theorem fold_max_eq {n : ℕ} (f : Fin n → EReal) (k : Fin n) (h : ∀ j, f j ≤ f k) :
    Finset.univ.fold max (⊥ : EReal) f = f k := by
  apply le_antisymm
  · exact Finset.fold_max_le _ |>.mpr ⟨bot_le, fun j _ => h j⟩
  · exact (Finset.le_fold_max _).mpr (Or.inr ⟨k, Finset.mem_univ _, le_rfl⟩)

/-- The kernel's weights, powers of two of the scaled scores less their greatest, are exponentials of the differences of
    the scores. -/
theorem exp2_sub_max {n : ℕ} (σ : Fin n → ℝ) (k : Fin n) (hk : ∀ j, σ j ≤ σ k) (j : Fin n) :
    Ideal.exp2 (((σ j * (Real.log 2)⁻¹ : ℝ) : EReal)
        - Finset.univ.fold max (⊥ : EReal) fun j => ((σ j * (Real.log 2)⁻¹ : ℝ) : EReal))
      = ((Real.exp (σ j - σ k) : ℝ) : EReal) := by
  have hl : 0 < Real.log 2 := Real.log_pos (by norm_num)
  rw [fold_max_eq (fun j => ((σ j * (Real.log 2)⁻¹ : ℝ) : EReal)) k
    fun j => EReal.coe_le_coe_iff.mpr (mul_le_mul_of_nonneg_right (hk j) (inv_nonneg.mpr hl.le)), ← EReal.coe_sub]
  show ((Real.rpow 2 _ : ℝ) : EReal) = _
  congr 1
  rw [show Real.rpow 2 (σ j * (Real.log 2)⁻¹ - σ k * (Real.log 2)⁻¹)
      = (2 : ℝ) ^ (σ j * (Real.log 2)⁻¹ - σ k * (Real.log 2)⁻¹) from rfl, Real.rpow_def_of_pos (by norm_num)]
  congr 1
  field_simp

/-- The reference's weights before they are divided. -/
theorem exp_sub_max {n : ℕ} (σ : Fin n → ℝ) (k : Fin n) (hk : ∀ j, σ j ≤ σ k) (j : Fin n) :
    Ideal.exp ((σ j : EReal) - Finset.univ.fold max (⊥ : EReal) fun j => (σ j : EReal))
      = ((Real.exp (σ j - σ k) : ℝ) : EReal) := by
  rw [fold_max_eq (fun j => (σ j : EReal)) k fun j => EReal.coe_le_coe_iff.mpr (hk j), ← EReal.coe_sub]
  rfl

/-- One softmax times the values, as the kernel computes it: powers of two of the scores less their greatest, the
    weighted sum of the values divided by the sum of the weights. -/
def smv {n : ℕ} (S v : Fin n → EReal) : EReal :=
  Ideal.div (∑ j, Ideal.exp2 (S j - Finset.univ.fold max (⊥ : EReal) S) * v j)
    (∑ j, Ideal.exp2 (S j - Finset.univ.fold max (⊥ : EReal) S))

/-- One softmax weight, as the reference computes it. -/
def smw {n : ℕ} (S : Fin n → EReal) (j : Fin n) : EReal :=
  Ideal.div (Ideal.exp (S j - Finset.univ.fold max (⊥ : EReal) S))
    (∑ j, Ideal.exp (S j - Finset.univ.fold max (⊥ : EReal) S))

/-- The difference of two softmax products of the kernel is the reference's sum over the values with the difference of
    the softmax weights, for real scores, values and factor; the kernel's scores are the reference's over `log 2`. -/
theorem diff_attn {n : ℕ} [NeZero n] (s₀ s₁ v : Fin n → EReal) (lam : EReal) (σ₀ σ₁ w : Fin n → ℝ) (μ : ℝ)
    (S₀ S₁ : Fin n → EReal) (h₀ : ∀ j, s₀ j = ((σ₀ j : ℝ) : EReal)) (h₁ : ∀ j, s₁ j = ((σ₁ j : ℝ) : EReal))
    (hv : ∀ j, v j = ((w j : ℝ) : EReal)) (hl : lam = (μ : EReal))
    (k₀ : ∀ j, S₀ j = ((σ₀ j * (Real.log 2)⁻¹ : ℝ) : EReal)) (k₁ : ∀ j, S₁ j = ((σ₁ j * (Real.log 2)⁻¹ : ℝ) : EReal)) :
    smv S₀ v - lam * smv S₁ v = ∑ j, v j * (smw s₀ j - lam * smw s₁ j) := by
  obtain ⟨m₀, hm₀⟩ := Finite.exists_max σ₀
  obtain ⟨m₁, hm₁⟩ := Finite.exists_max σ₁
  obtain rfl : S₀ = fun j => ((σ₀ j * (Real.log 2)⁻¹ : ℝ) : EReal) := funext k₀
  obtain rfl : S₁ = fun j => ((σ₁ j * (Real.log 2)⁻¹ : ℝ) : EReal) := funext k₁
  obtain rfl : s₀ = fun j => ((σ₀ j : ℝ) : EReal) := funext h₀
  obtain rfl : s₁ = fun j => ((σ₁ j : ℝ) : EReal) := funext h₁
  obtain rfl : v = fun j => ((w j : ℝ) : EReal) := funext hv
  subst hl
  have p₀ : 0 < ∑ j, Real.exp (σ₀ j - σ₀ m₀) := Finset.sum_pos (fun j _ => Real.exp_pos _) Finset.univ_nonempty
  have p₁ : 0 < ∑ j, Real.exp (σ₁ j - σ₁ m₁) := Finset.sum_pos (fun j _ => Real.exp_pos _) Finset.univ_nonempty
  have e₀ : smv (fun j => ((σ₀ j * (Real.log 2)⁻¹ : ℝ) : EReal)) (fun j => ((w j : ℝ) : EReal))
      = (((∑ j, Real.exp (σ₀ j - σ₀ m₀) * w j) / ∑ j, Real.exp (σ₀ j - σ₀ m₀) : ℝ) : EReal) := by
    rw [← div_coe_ne p₀.ne', coe_sum, coe_sum]
    simp only [smv, exp2_sub_max σ₀ m₀ hm₀]
    simp only [EReal.coe_mul]
  have e₁ : smv (fun j => ((σ₁ j * (Real.log 2)⁻¹ : ℝ) : EReal)) (fun j => ((w j : ℝ) : EReal))
      = (((∑ j, Real.exp (σ₁ j - σ₁ m₁) * w j) / ∑ j, Real.exp (σ₁ j - σ₁ m₁) : ℝ) : EReal) := by
    rw [← div_coe_ne p₁.ne', coe_sum, coe_sum]
    simp only [smv, exp2_sub_max σ₁ m₁ hm₁]
    simp only [EReal.coe_mul]
  have f₀ : ∀ j, smw (fun j => ((σ₀ j : ℝ) : EReal)) j
      = ((Real.exp (σ₀ j - σ₀ m₀) / ∑ j, Real.exp (σ₀ j - σ₀ m₀) : ℝ) : EReal) := fun j => by
    rw [← div_coe_ne p₀.ne', coe_sum]
    simp only [smw, exp_sub_max σ₀ m₀ hm₀]
  have f₁ : ∀ j, smw (fun j => ((σ₁ j : ℝ) : EReal)) j
      = ((Real.exp (σ₁ j - σ₁ m₁) / ∑ j, Real.exp (σ₁ j - σ₁ m₁) : ℝ) : EReal) := fun j => by
    rw [← div_coe_ne p₁.ne', coe_sum]
    simp only [smw, exp_sub_max σ₁ m₁ hm₁]
  simp only [e₀, e₁, f₀, f₁, ← EReal.coe_mul, ← EReal.coe_sub, ← coe_sum]
  congr 1
  rw [Finset.sum_div, Finset.sum_div, Finset.mul_sum, ← Finset.sum_sub_distrib]
  refine Finset.sum_congr rfl fun j _ => ?_
  ring

/-- The kernel's scaled and masked score over both halves of the lanes is the reference's score over its half, over
    `log 2`: lanes outside the half add nothing. -/
theorem score_eq {n : ℕ} (a b : Fin n → ℝ) :
    (∑ d, ((a d : EReal) * (((1 / 8) * (Real.log 2)⁻¹ : ℝ) : EReal)) * (b d : EReal))
      = (((∑ d, a d * b d) * (1 / 8) * (Real.log 2)⁻¹ : ℝ) : EReal) := by
  simp only [← EReal.coe_mul, ← coe_sum]
  congr 1
  rw [Finset.sum_mul, Finset.sum_mul]
  exact Finset.sum_congr rfl fun d _ => by ring

/-- The scale of the queries: an eighth, over `log 2` for the powers of two. -/
def qsc : EReal := (((1 / 8) * (Real.log 2)⁻¹ : ℝ) : EReal)

/-- The kernel's score of the first branch: the lanes below 64 alone. -/
def scoreLo (q k : Fin 128 → EReal) : EReal := ∑ d : Fin 128, if d.val < 64 then q d * qsc * k d else 0

/-- The kernel's score of the second branch: the lanes from 64 on alone. -/
def scoreHi (q k : Fin 128 → EReal) : EReal := ∑ d : Fin 128, if 64 ≤ d.val then q d * qsc * k d else 0

/-- The root mean square norm over the 128 lanes of a head, its gain and the last factor. -/
def finish (o : Fin 128 → EReal) (g : EReal) (e : Fin 128) : EReal :=
  o e * Ideal.rsqrt (Ideal.div (∑ i, o i * o i) (Ideal.ofBits .f32 0x43000000#32) + Ideal.ofBits .f32 0x358637BD#32) * g
    * Ideal.ofBits .f32 0x3F4CCCCD#32

end Cert.AttnMath

end
-- ==== Proof.Attn.Blocks.lean ====
/- The blocks a grid point of the attention kernel reads, as elements of the launched arrays. -/
module
public import proofs.«01_k».proof.Proof.Gen.AttnIdeal.Value
public import proofs.«01_k».proof.Proof.Attn.Math
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.AttnIdeal.Value
open Cert.AttnIdeal Cert.AttnIdeal.Gen Cert.AttnMath
variable (m : (ℓ : Loc nD τ sig) → Buf (Elt Ideal) ℓ)

/-- The block index of each window at each grid point. -/
theorem idx : ∀ t : Fin cfg0.N, win0_0.index t = ![0] ∧ win0_1.index t = ![t.val / 128, t.val % 16, t.val / 16 % 8]
    ∧ win0_2.index t = ![t.val / 128, t.val / 16 % 8, 0] ∧ win0_3.index t = ![t.val / 128, 0, t.val / 16 % 8]
    ∧ win0_4.index t = ![0, 0] ∧ win0_5.index t = ![t.val / 128, t.val % 16, t.val / 16 % 8] :=
  (by decide +kernel : ∀ t : Fin grid0.N, _)

/-- The number of grid points. -/
theorem tlt (t : Fin cfg0.N) : t.val < 1024 := lt_of_lt_of_eq t.isLt (by decide +kernel)

/-- A query block's element, of any array. -/
theorem rd1 (A : FVec Ideal S8x4096x1024 .f32) (t : Fin cfg0.N) (r : Fin 256) (d : Fin 128) :
    ((cfg0.win 1).blk t).view.read (Elt Ideal) A (ix3 0 r d)
      = A (ix3 ⟨t.val / 128, by have := tlt t; omega⟩ ⟨t.val % 16 * 256 + r.val, by omega⟩ ⟨t.val / 16 % 8 * 128 + d.val, by omega⟩) := by
  blk_ext [idx t]

/-- A key block's element, of any array. -/
theorem rd2 (A : FVec Ideal S8x1024x4352 .bf16) (t : Fin cfg0.N) (d : Fin 128) (j : Fin 4352) :
    ((cfg0.win 2).blk t).view.read (Elt Ideal) A (ix3 0 d j)
      = A (ix3 ⟨t.val / 128, by have := tlt t; omega⟩ ⟨t.val / 16 % 8 * 128 + d.val, by omega⟩ j) := by
  blk_ext [idx t]

/-- A value block's element, of any array. -/
theorem rd3 (A : FVec Ideal S8x4352x1024 .bf16) (t : Fin cfg0.N) (j : Fin 4352) (e : Fin 128) :
    ((cfg0.win 3).blk t).view.read (Elt Ideal) A (ix3 0 j e)
      = A (ix3 ⟨t.val / 128, by have := tlt t; omega⟩ j ⟨t.val / 16 % 8 * 128 + e.val, by omega⟩) := by
  blk_ext [idx t]

/-- The gain block's element, of any array. -/
theorem rd4 (A : FVec Ideal S1x128 .f32) (t : Fin cfg0.N) (e : Fin 128) :
    ((cfg0.win 4).blk t).view.read (Elt Ideal) A (ix2 0 e) = A (ix2 0 e) := by
  blk_ext [idx t]

/-- The factor's element, of any array. -/
theorem rd0 (A : FVec Ideal S1 .f32) (t : Fin cfg0.N) (h : 0 < S1.numel) :
    View.ld (((cfg0.win 0).blk t).view.read (Elt Ideal) A) (Rect.unit ![0] ![1] inb_S1_S1_0) (Shape.Idx.first h) = A (ix1 0) := by
  exact congrArg A (funext fun a => match a with | ⟨0, _⟩ => Subsingleton.elim (α := Fin 1) _ _)

/-- A query of a point's block. -/
theorem blk1 (c : Dev nD) (t : Fin cfg0.N) (r : Fin 256) (d : Fin 128) : (iblk m c 1 t : FVec Ideal S1x256x128 .f32) (ix3 0 r d)
    = V m c main_v160 (ix3 ⟨t.val / 128, by have := tlt t; omega⟩ ⟨t.val % 16 * 256 + r.val, by omega⟩ ⟨t.val / 16 % 8 * 128 + d.val, by omega⟩) := rd1 (V m c main_v160) t r d

/-- A key of a point's block. -/
theorem blk2 (c : Dev nD) (t : Fin cfg0.N) (d : Fin 128) (j : Fin 4352) : (iblk m c 2 t : FVec Ideal S1x128x4352 .bf16) (ix3 0 d j)
    = V m c main_v158 (ix3 ⟨t.val / 128, by have := tlt t; omega⟩ ⟨t.val / 16 % 8 * 128 + d.val, by omega⟩ j) := rd2 (V m c main_v158) t d j

/-- A value of a point's block. -/
theorem blk3 (c : Dev nD) (t : Fin cfg0.N) (j : Fin 4352) (e : Fin 128) : (iblk m c 3 t : FVec Ideal S1x4352x128 .bf16) (ix3 0 j e)
    = V m c main_v159 (ix3 ⟨t.val / 128, by have := tlt t; omega⟩ j ⟨t.val / 16 % 8 * 128 + e.val, by omega⟩) := rd3 (V m c main_v159) t j e

/-- The gain of a point's block. -/
theorem blk4 (c : Dev nD) (t : Fin cfg0.N) (e : Fin 128) : (iblk m c 4 t : FVec Ideal S1x128 .f32) (ix2 0 e)
    = V m c main_v162 (ix2 0 e) := rd4 (V m c main_v162) t e

/-- The factor of a point's block. -/
theorem blk0 (c : Dev nD) (t : Fin cfg0.N) (h : 0 < S1.numel) :
    View.ld (iblk m c 0 t : FVec Ideal S1 .f32) (Rect.unit ![0] ![1] inb_S1_S1_0) (Shape.Idx.first h)
      = V m c main_v161 (ix1 0) := rd0 (V m c main_v161) t h

end Cert.AttnIdeal.Value
-- ==== Proof.Attn.Consts.lean ====
/- The float constants of the attention's two programs, as the extended reals their words denote. -/
module

public import Idealize.ShloMosaic.PureOps.Ideal

@[expose] public section

noncomputable section

namespace Cert.AttnMath

open Idealize.ShloMosaic

/-- The word of minus infinity, from which a greatest element is taken. -/
theorem word_ninf : Ideal.ofBits .f32 0xFF800000#32 = ⊥ := by
  simp [Ideal.ofBits, Ideal.ieee, -EReal.coe_mul]

/-- The word of sixty-four. -/
theorem word_64 : Ideal.ofBits .f32 0x42800000#32 = ((64 : ℝ) : EReal) := by
  simp [Ideal.ofBits, Ideal.ieee, -EReal.coe_mul]; norm_num

/-- The word of an eighth. -/
theorem word_eighth : Ideal.ofBits .f32 0x3E000000#32 = ((1 / 8 : ℝ) : EReal) := by
  simp [Ideal.ofBits, Ideal.ieee, -EReal.coe_mul]; norm_num

/-- The word of sixteen. -/
theorem word_16 : Ideal.ofBits .f32 0x41800000#32 = ((16 : ℝ) : EReal) := by
  simp [Ideal.ofBits, Ideal.ieee, -EReal.coe_mul]; norm_num

/-- The word of the base of the rotary frequencies. -/
theorem word_10000 : Ideal.ofBits .f32 0x461C4000#32 = ((10000 : ℝ) : EReal) := by
  simp [Ideal.ofBits, Ideal.ieee, -EReal.coe_mul]; norm_num

/-- The number added under the root of a norm is real and positive. -/
theorem word_eps : ∃ r : ℝ, 0 < r ∧ Ideal.ofBits .f32 0x358637BD#32 = ((r : ℝ) : EReal) := by
  refine ⟨8796093 * 2 ^ (-43 : ℤ), by positivity, ?_⟩
  simp [Ideal.ofBits, Ideal.ieee, -EReal.coe_mul]

/-- The first part of lambda is real. -/
theorem word_lam : ∃ r : ℝ, Ideal.ofBits .f32 0x3E4CCCCD#32 = ((r : ℝ) : EReal) := by
  simp only [Ideal.ofBits, Ideal.ieee]
  exact ⟨_, rfl⟩

end Cert.AttnMath

end
-- ==== Proof.Attn.Block.lean ====
/- What one grid point of the attention kernel stores, over the blocks it reads. -/
module
public import proofs.«01_k».proof.Proof.Gen.AttnIdeal.Value
public import proofs.«01_k».proof.Proof.Attn.Math
public import proofs.«01_k».proof.Proof.Attn.Consts
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.AttnIdeal.Value
open Cert.AttnIdeal Cert.AttnIdeal.Gen Cert.AttnMath
variable (m : (ℓ : Loc nD τ sig) → Buf (Elt Ideal) ℓ)

/-- A choice on the lanes below 64. -/
theorem sel_lt (k : Fin 128) (a b : EReal) :
    Scalar.select (α := EReal) (IntOp.cmpi .slt (BitVec.ofNat 32 k.val) 64#32) a b = if k.val < 64 then a else b := by
  have h : ∀ k : Fin 128, IntOp.cmpi .slt (BitVec.ofNat 32 k.val) 64#32 = if k.val < 64 then 1#1 else 0#1 := by
    decide +kernel
  rw [h]; split <;> rfl

/-- A choice on the lanes from 64 on. -/
theorem sel_ge (k : Fin 128) (a b : EReal) :
    Scalar.select (α := EReal) (IntOp.cmpi .sge (BitVec.ofNat 32 k.val) 64#32) a b = if 64 ≤ k.val then a else b := by
  have h : ∀ k : Fin 128, IntOp.cmpi .sge (BitVec.ofNat 32 k.val) 64#32 = if 64 ≤ k.val then 1#1 else 0#1 := by
    decide +kernel
  rw [h]; split <;> rfl

/-- One lane of the block a grid point stores: the difference of the two softmax products, normed. -/
theorem point (x0 : Vec Ideal S1 .f32) (x1 : Vec Ideal S1x256x128 .f32) (x2 : Vec Ideal S1x128x4352 .bf16)
    (x3 : Vec Ideal S1x4352x128 .bf16) (x4 : Vec Ideal S1x128 .f32) (lam : Elt Ideal .f32) (r : Fin 256) (e : Fin 128) :
    k0_pay1 (F := Ideal) (k0_pay4 x3) (k0_pay6 x1 x2 x3) lam (k0_pay7 x1 x2) x4 (ix3 0 r e)
      = finish (fun e => smv (fun j => scoreLo (fun d => x1 (ix3 0 r d)) fun d => x2 (ix3 0 d j)) (fun j => x3 (ix3 0 j e))
          - lam * smv (fun j => scoreHi (fun d => x1 (ix3 0 r d)) fun d => x2 (ix3 0 d j)) (fun j => x3 (ix3 0 j e)))
          (x4 (ix2 0 e)) e := by
  pointwise [k0_pay1, k0_pay2,k0_pay3,k0_pay4, k0_pay5, k0_pay6, k0_pay7]
  simp only [sel_lt, sel_ge]
  rw [word_ninf]
  rfl

end Cert.AttnIdeal.Value
-- ==== Proof.Attn.Spec.lean ====
/- What the differential attention computes, element by element: normed and rotated queries and keys, values, the factor
   lambda, each as a function of the argument arrays. -/
module

public import proofs.«01_k».proof.Proof.Gen.AttnIdeal
public import proofs.«01_k».proof.Proof.Attn.Math

@[expose] public section

set_option maxRecDepth 16384

noncomputable section

namespace Cert.AttnMath

open Idealize.ShloMosaic Cert.AttnIdeal

/-- The root mean square norm of 64 lanes with its gain. -/
def nrm (x g : Fin 64 → EReal) (d : Fin 64) : EReal :=
  x d * Ideal.rsqrt (Ideal.div (∑ e, x e * x e) (Ideal.ofBits .f32 0x42800000#32) + Ideal.ofBits .f32 0x358637BD#32) * g d

/-- A position, as a float. -/
def posn (n : ℕ) : EReal := FloatOps.sitofp (F := Ideal) FTy.f32 (BitVec.ofNat 32 n)

/-- The inverse frequencies of the rotation. -/
def freq (f : Fin 16) : EReal :=
  Ideal.pow (Ideal.ofBits .f32 0x461C4000#32) (Ideal.div (-posn f.val) (Ideal.ofBits .f32 0x41800000#32))

/-- The angle of a token's row. -/
def angR (t : Fin 4096) (f : Fin 16) : EReal := posn (t.val / 64) * freq f

/-- The angle of a token's column. -/
def angC (t : Fin 4096) (f : Fin 16) : EReal := posn (t.val % 64) * freq f

/-- The rotation of 64 lanes: the first half by the angles of the row, the second by those of the column. -/
def rot (y : Fin 64 → EReal) (ar ac : Fin 16 → EReal) (d : Fin 64) : EReal :=
  if h1 : d.val < 32 then
    if h2 : d.val < 16 then
      y ⟨d.val, d.isLt⟩ * Ideal.cos (ar ⟨d.val, h2⟩) - y ⟨16 + d.val, by omega⟩ * Ideal.sin (ar ⟨d.val, h2⟩)
    else
      y ⟨16 + (d.val - 16), by omega⟩ * Ideal.cos (ar ⟨d.val - 16, by omega⟩)
        + y ⟨d.val - 16, by omega⟩ * Ideal.sin (ar ⟨d.val - 16, by omega⟩)
  else
    if h2 : d.val - 32 < 16 then
      y ⟨32 + (d.val - 32), by omega⟩ * Ideal.cos (ac ⟨d.val - 32, h2⟩)
        - y ⟨32 + (16 + (d.val - 32)), by omega⟩ * Ideal.sin (ac ⟨d.val - 32, h2⟩)
    else
      y ⟨32 + (16 + (d.val - 32 - 16)), by omega⟩ * Ideal.cos (ac ⟨d.val - 32 - 16, by omega⟩)
        + y ⟨32 + (d.val - 32 - 16), by omega⟩ * Ideal.sin (ac ⟨d.val - 32 - 16, by omega⟩)

variable (Xc : FVec Ideal S8x256x3072 .f32) (Xl : FVec Ideal S8x4096x3072 .f32) (g : FVec Ideal S64 .f32)

/-- The query of latent token `t`, head and branch `n`. -/
def qv (b : Fin 8) (t : Fin 4096) (n : Fin 16) (d : Fin 64) : EReal :=
  rot (nrm (fun d => Xl (ix3 b t ⟨n.val * 64 + d.val, by omega⟩)) fun d => g (ix1 d)) (angR t) (angC t) d

/-- The key of token `j`, context tokens first, head and branch `n`. -/
def kv (b : Fin 8) (j : Fin 4352) (n : Fin 16) (d : Fin 64) : EReal :=
  if h : j.val < 256 then nrm (fun d => Xc (ix3 b ⟨j.val, h⟩ ⟨1024 + (n.val * 64 + d.val), by omega⟩)) (fun d => g (ix1 d)) d
  else rot (nrm (fun d => Xl (ix3 b ⟨j.val - 256, by omega⟩ ⟨1024 + (n.val * 64 + d.val), by omega⟩)) fun d => g (ix1 d))
    (angR ⟨j.val - 256, by omega⟩) (angC ⟨j.val - 256, by omega⟩) d

/-- Lane `l` of the values of token `j`, context tokens first. -/
def vv (b : Fin 8) (j : Fin 4352) (l : Fin 1024) : EReal :=
  if h : j.val < 256 then Xc (ix3 b ⟨j.val, h⟩ ⟨2048 + l.val, by omega⟩)
  else Xl (ix3 b ⟨j.val - 256, by omega⟩ ⟨2048 + l.val, by omega⟩)

/-- The factor of the second branch. -/
def lamv (a b c d : FVec Ideal S64 .f32) : EReal :=
  Ideal.exp (∑ i : Fin 64, a (ix1 i) * b (ix1 i)) - Ideal.exp (∑ i : Fin 64, c (ix1 i) * d (ix1 i)) + Ideal.ofBits .f32 0x3E4CCCCD#32

/-- The kernel's difference of softmax products for one query, head and lane, from launched arrays: queries `q`, keys `k`
    and values `v` of the head, the factor `lam`. -/
def katt {n : ℕ} (q : Fin 128 → EReal) (k : Fin 128 → Fin n → EReal) (v : Fin n → Fin 128 → EReal) (lam : EReal) (e : Fin 128) : EReal :=
  smv (fun j => scoreLo q fun d => k d j) (fun j => v j e) - lam * smv (fun j => scoreHi q fun d => k d j) (fun j => v j e)

/-- The kernel's result at token `t`, head `h`, lane `e`, from the arrays it is launched on. -/
def kres (Q : FVec Ideal S8x4096x1024 .f32) (K : FVec Ideal S8x1024x4352 .bf16) (W : FVec Ideal S8x4352x1024 .bf16)
    (lam : EReal) (g : FVec Ideal S1x128 .f32) (b : Fin 8) (t : Fin 4096) (h : Fin 8) (e : Fin 128) : EReal :=
  finish (katt (fun d => Q (ix3 b t ⟨h.val * 128 + d.val, by omega⟩)) (fun d j => K (ix3 b ⟨h.val * 128 + d.val, by omega⟩ j))
    (fun j e => W (ix3 b j ⟨h.val * 128 + e.val, by omega⟩)) lam) (g (ix2 0 e)) e

/-- The kernel's result array. -/
def kout (Q : FVec Ideal S8x4096x1024 .f32) (K : FVec Ideal S8x1024x4352 .bf16) (W : FVec Ideal S8x4352x1024 .bf16)
    (lam : EReal) (g : FVec Ideal S1x128 .f32) : FVec Ideal S8x4096x1024 .f32 := fun i =>
  kres Q K W lam g (i 0) (i 1) ⟨(i 2).val / 128, Nat.div_lt_of_lt_mul (i 2).isLt⟩ ⟨(i 2).val % 128, Nat.mod_lt _ (by norm_num)⟩

end Cert.AttnMath

end
-- ==== Proof.Attn.Final.lean ====
/- The result array of the attention kernel after its run. -/
module
public import proofs.«01_k».proof.Proof.Gen.AttnIdeal.Value
public import proofs.«01_k».proof.Proof.Attn.Blocks
public import proofs.«01_k».proof.Proof.Attn.Block
public import proofs.«01_k».proof.Proof.Attn.Spec
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.AttnIdeal.Value
open Cert.AttnIdeal Cert.AttnIdeal.Gen Cert.AttnMath
variable (m : (ℓ : Loc nD τ sig) → Buf (Elt Ideal) ℓ)

/-- The result array after the run, over the arrays the kernel is launched on. -/
theorem final (c : Dev nD) : (dats m 0 c).arrAt 5 (cfgs 0).N
    = kout (V m c main_v160) (V m c main_v158) (V m c main_v159) (V m c main_v161 (ix1 0)) (V m c main_v162) := by
  refine (dats m 0 c).arrAt_eq_of_covers 5 _ (by decide +kernel) fun t _ y => ?_
  blk_simp
  rw [after0_5]
  unfold outsAt0
  frame_out
  rw [blk0]
  generalize hG : kout (V m c main_v160) (V m c main_v158) (V m c main_v159) (V m c main_v161 (ix1 0)) (V m c main_v162) = G
  obtain ⟨r, e, rfl⟩ : ∃ (r : Fin 256) (e : Fin 128), y = ix3 0 r e := ⟨y 1, y 2, by blk_ext⟩
  have hemb : ((View.whole main_v163).slice (win0_5.rect t)).emb (ix3 0 r e)
      = (ix3 ⟨t.val / 128, by have := tlt t; omega⟩ ⟨t.val % 16 * 256 + r.val, by omega⟩ ⟨t.val / 16 % 8 * 128 + e.val, by omega⟩ : S8x4096x1024.Idx) := by
    blk_ext [idx t]
  rw [hemb, ← hG]
  refine (point (iblk m c 0 t) _ _ _ _ _ r e).trans ?_
  have h1 : (t.val / 16 % 8 * 128 + e.val) / 128 = t.val / 16 % 8 := by omega
  have h2 : (t.val / 16 % 8 * 128 + e.val) % 128 = e.val := by omega
  have e1 : ∀ p, (⟨(t.val / 16 % 8 * 128 + e.val) / 128, p⟩ : Fin 8) = ⟨t.val / 16 % 8, by omega⟩ := fun _ => Fin.ext h1
  have e2 : ∀ p, (⟨(t.val / 16 % 8 * 128 + e.val) % 128, p⟩ : Fin 128) = e := fun _ => Fin.ext h2
  have hk : ∀ Q K W l g, kout Q K W l g (ix3 ⟨t.val / 128, by have := tlt t; omega⟩ ⟨t.val % 16 * 256 + r.val, by omega⟩ ⟨t.val / 16 % 8 * 128 + e.val, by omega⟩)
      = kres Q K W l g ⟨t.val / 128, by have := tlt t; omega⟩ ⟨t.val % 16 * 256 + r.val, by omega⟩ ⟨t.val / 16 % 8, by omega⟩ e := by
    intro Q K W l g
    refine Eq.trans (b := kres Q K W l g ⟨t.val / 128, by have := tlt t; omega⟩ ⟨t.val % 16 * 256 + r.val, by omega⟩ ⟨(t.val / 16 % 8 * 128 + e.val) / 128, by omega⟩ ⟨(t.val / 16 % 8 * 128 + e.val) % 128, by omega⟩) rfl ?_
    rw [e1, e2]
  refine Eq.trans ?_ (hk _ _ _ _ _).symm
  unfold kres katt
  simp only [blk1, blk2, blk3, blk4]

end Cert.AttnIdeal.Value
-- ==== Proof.Attn.Host.lean ====
/- The arrays the attention kernel is launched on, read element by element. -/
module
public import proofs.«01_k».proof.Proof.Gen.AttnIdeal.Value
public import proofs.«01_k».proof.Proof.Attn.Spec
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.AttnIdeal.Value
open Cert.AttnIdeal Cert.AttnIdeal.Gen Cert.AttnMath
variable (m : (ℓ : Loc nD τ sig) → Buf (Elt Ideal) ℓ)

/-- The query and key norm of the kernel's host, over all tokens. -/
def KN (X : FVec Ideal S8x4352x8x2x64 .f32) (g : FVec Ideal S64 .f32) : FVec Ideal S8x4352x8x2x64 .f32 :=
  mulf (mulf X (broadcastInDim S8x4352x8x2x64 ![0, 1, 2, 3, 4] bcast_S8x4352x8x2x1_S8x4352x8x2x64_0_1_2_3_4
    (Host.rsqrt (addf (Host.divf (broadcastInDim S8x4352x8x2x1 ![0, 1, 2, 3] bcast_S8x4352x8x2_S8x4352x8x2x1_0_1_2_3
      (Host.reduceAdd (mulf X X) (constant S_ .f32 0x00000000#32) reducesTo_S8x4352x8x2x64_S8x4352x8x2_d4 h_S_))
      (broadcastInDim S8x4352x8x2x1 ![] bcast_S_S8x4352x8x2x1 (constant S_ .f32 0x42800000#32)))
      (broadcastInDim S8x4352x8x2x1 ![] bcast_S_S8x4352x8x2x1 (constant S_ .f32 0x358637BD#32))))))
    (broadcastInDim S8x4352x8x2x64 ![0, 1, 2, 3, 4] bcast_S1x1x1x1x64_S8x4352x8x2x64_0_1_2_3_4
      (broadcastInDim S1x1x1x1x64 ![4] bcast_S64_S1x1x1x1x64_4 g))

/-- The inverse frequencies. -/
def KF : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The angles of the rows. -/
def KAr : FVec Ideal S4096x16 .f32 :=
  mulf (broadcastInDim S4096x16 ![0, 1] bcast_S4096x1_S4096x16_0_1 (broadcastInDim S4096x1 ![0] bcast_S4096_S4096x1_0
      (shapeCast S4096 (broadcastInDim S64x64 ![0] bcast_S64_S64x64_0 (sitofp (F := Ideal) .f32 (iotaInDim S64 32 0))) shapeCasts_S64x64_S4096)))
    (broadcastInDim S4096x16 ![0, 1] bcast_S1x16_S4096x16_0_1 (broadcastInDim S1x16 ![1] bcast_S16_S1x16_1 KF))

/-- The angles of the columns. -/
def KAc : FVec Ideal S4096x16 .f32 :=
  mulf (broadcastInDim S4096x16 ![0, 1] bcast_S4096x1_S4096x16_0_1 (broadcastInDim S4096x1 ![0] bcast_S4096_S4096x1_0
      (shapeCast S4096 (broadcastInDim S64x64 ![0, 1] bcast_S1x64_S64x64_0_1
        (shapeCast S1x64 (sitofp (F := Ideal) .f32 (iotaInDim S64 32 0)) shapeCasts_S64_S1x64)) shapeCasts_S64x64_S4096)))
    (broadcastInDim S4096x16 ![0, 1] bcast_S1x16_S4096x16_0_1 (broadcastInDim S1x16 ![1] bcast_S16_S1x16_1 KF))

/-- A table along the tokens, over all heads. -/
abbrev KT (a : FVec Ideal S4096x16 .f32) : FVec Ideal S8x4096x8x2x16 .f32 :=
  broadcastInDim S8x4096x8x2x16 ![0, 1, 2, 3, 4] bcast_S1x4096x1x1x16_S8x4096x8x2x16_0_1_2_3_4
    (broadcastInDim S1x4096x1x1x16 ![1, 2, 3, 4] bcast_S4096x1x1x16_S1x4096x1x1x16_1_2_3_4
      (broadcastInDim S4096x1x1x16 ![0, 3] bcast_S4096x16_S4096x1x1x16_0_3 a))

/-- One axis of the rotation. -/
abbrev KH (x : FVec Ideal S8x4096x8x2x32 .f32) (a : FVec Ideal S4096x16 .f32) : FVec Ideal S8x4096x8x2x32 .f32 :=
  concatenate S8x4096x8x2x32 4
    [⟨S8x4096x8x2x16, subf
        (mulf (extractStridedSlice S8x4096x8x2x16 ![0, 0, 0, 0, 0] x slices_S8x4096x8x2x32_S8x4096x8x2x16_0_0_0_0_0) (KT (Host.cos a)))
        (mulf (extractStridedSlice S8x4096x8x2x16 ![0, 0, 0, 0, 16] x slices_S8x4096x8x2x32_S8x4096x8x2x16_0_0_0_0_16) (KT (Host.sin a)))⟩,
     ⟨S8x4096x8x2x16, addf
        (mulf (extractStridedSlice S8x4096x8x2x16 ![0, 0, 0, 0, 16] x slices_S8x4096x8x2x32_S8x4096x8x2x16_0_0_0_0_16) (KT (Host.cos a)))
        (mulf (extractStridedSlice S8x4096x8x2x16 ![0, 0, 0, 0, 0] x slices_S8x4096x8x2x32_S8x4096x8x2x16_0_0_0_0_0) (KT (Host.sin a)))⟩]
    concatenates_S8x4096x8x2x16_S8x4096x8x2x16_S8x4096x8x2x32_d4

/-- The rotation of the latent tokens. -/
def KR (Y : FVec Ideal S8x4096x8x2x64 .f32) (ar ac : FVec Ideal S4096x16 .f32) : FVec Ideal S8x4096x8x2x64 .f32 :=
  concatenate S8x4096x8x2x64 4
    [⟨S8x4096x8x2x32, KH (extractStridedSlice S8x4096x8x2x32 ![0, 0, 0, 0, 0] Y slices_S8x4096x8x2x64_S8x4096x8x2x32_0_0_0_0_0) ar⟩,
     ⟨S8x4096x8x2x32, KH (extractStridedSlice S8x4096x8x2x32 ![0, 0, 0, 0, 32] Y slices_S8x4096x8x2x64_S8x4096x8x2x32_0_0_0_0_32) ac⟩]
    concatenates_S8x4096x8x2x32_S8x4096x8x2x32_S8x4096x8x2x64_d4

/-- Queries or keys of all tokens: normed, the latent ones rotated. -/
def KQ (X : FVec Ideal S8x4352x1024 .f32) (g : FVec Ideal S64 .f32) : FVec Ideal S8x4352x1024 .f32 :=
  shapeCast S8x4352x1024 (concatenate S8x4352x8x2x64 1
    [⟨S8x256x8x2x64, extractStridedSlice S8x256x8x2x64 ![0, 0, 0, 0, 0] (KN (shapeCast S8x4352x8x2x64 X shapeCasts_S8x4352x1024_S8x4352x8x2x64) g)
        slices_S8x4352x8x2x64_S8x256x8x2x64_0_0_0_0_0⟩,
     ⟨S8x4096x8x2x64, KR (extractStridedSlice S8x4096x8x2x64 ![0, 256, 0, 0, 0]
        (KN (shapeCast S8x4352x8x2x64 X shapeCasts_S8x4352x1024_S8x4352x8x2x64) g) slices_S8x4352x8x2x64_S8x4096x8x2x64_0_256_0_0_0) KAr KAc⟩]
    concatenates_S8x256x8x2x64_S8x4096x8x2x64_S8x4352x8x2x64_d1) shapeCasts_S8x4352x8x2x64_S8x4352x1024

/-- The projections of all tokens, context first. -/
abbrev KX (c : Dev nD) : FVec Ideal S8x4352x3072 .f32 :=
  concatenate S8x4352x3072 1 [⟨S8x256x3072, m ((c : Thread nD τ).loc main_arg0)⟩, ⟨S8x4096x3072, m ((c : Thread nD τ).loc main_arg1)⟩]
    concatenates_S8x256x3072_S8x4096x3072_S8x4352x3072_d1

/-- The norm, read at an element. -/
theorem KN_at (X : FVec Ideal S8x4352x8x2x64 .f32) (g : FVec Ideal S64 .f32) (b : Fin 8) (j : Fin 4352) (h : Fin 8) (s : Fin 2)
    (d : Fin 64) : KN X g (ix5 b j h s d) = nrm (fun d => X (ix5 b j h s d)) (fun d => g (ix1 d)) d := by
  pointwise [KN]
  rfl

/-- The row angles, read at an element. -/
theorem KAr_at (t : Fin 4096) (f : Fin 16) : KAr (ix2 t f) = angR t f := by
  pointwise [KAr, KF]
  rfl

/-- The column angles, read at an element. -/
theorem KAc_at (t : Fin 4096) (f : Fin 16) : KAc (ix2 t f) = angC t f := by
  pointwise [KAc, KF]
  rfl

/-- The rotation, read at an element. -/
theorem KR_at (Y : FVec Ideal S8x4096x8x2x64 .f32) (ar ac : FVec Ideal S4096x16 .f32) (b : Fin 8) (t : Fin 4096) (h : Fin 8)
    (s : Fin 2) (d : Fin 64) :
    KR Y ar ac (ix5 b t h s d) = rot (fun d => Y (ix5 b t h s d)) (fun f => ar (ix2 t f)) (fun f => ac (ix2 t f)) d := by
  pointwise [KR]
  rfl

/-- Queries or keys, read at an element. -/
theorem KQ_at (X : FVec Ideal S8x4352x1024 .f32) (g : FVec Ideal S64 .f32) (b : Fin 8) (j : Fin 4352) (l : Fin 1024) :
    KQ X g (ix3 b j l) = if h : j.val < 256 then
        nrm (fun d => X (ix3 b j ⟨l.val / 64 * 64 + d.val, by omega⟩)) (fun d => g (ix1 d)) ⟨l.val % 64, by omega⟩
      else rot (nrm (fun d => X (ix3 b j ⟨l.val / 64 * 64 + d.val, by omega⟩)) fun d => g (ix1 d))
        (angR ⟨j.val - 256, by omega⟩) (angC ⟨j.val - 256, by omega⟩) ⟨l.val % 64, by omega⟩ := by
  have hX : ∀ (j' : Fin 4352) (d : Fin 64), shapeCast S8x4352x8x2x64 X shapeCasts_S8x4352x1024_S8x4352x8x2x64
      (ix5 b j' ⟨l.val / 128, by omega⟩ ⟨l.val / 64 % 2, by omega⟩ d) = X (ix3 b j' ⟨l.val / 64 * 64 + d.val, by omega⟩) := by
    intro j' d
    pointwise
    blk_ext
  pointwise [KQ]
  split
  · rw [KN_at]; simp only [hX]
  · rename_i h
    rw [KR_at]
    have hY : ∀ d : Fin 64, extractStridedSlice S8x4096x8x2x64 ![0, 256, 0, 0, 0]
          (KN (shapeCast S8x4352x8x2x64 X shapeCasts_S8x4352x1024_S8x4352x8x2x64) g)
          slices_S8x4352x8x2x64_S8x4096x8x2x64_0_256_0_0_0
          (ix5 b ⟨j.val - 256, by omega⟩ ⟨l.val / 128, by omega⟩ ⟨l.val / 64 % 2, by omega⟩ d)
        = nrm (fun d => X (ix3 b j ⟨l.val / 64 * 64 + d.val, by omega⟩)) (fun d => g (ix1 d)) d := by
      intro d
      pointwise
      rw [KN_at]
      simp only [hX]
      have : (⟨256 + (j.val - 256), by omega⟩ : Fin 4352) = j := Fin.ext (by simp; omega)
      rw [this]
    simp only [hY, KAr_at, KAc_at]

/-- The queries the kernel reads. -/
theorem q_term (c : Dev nD) : V m c main_v160
    = extractStridedSlice S8x4096x1024 ![0, 256, 0] (KQ (extractStridedSlice S8x4352x1024 ![0, 0, 0] (KX m c)
        slices_S8x4352x3072_S8x4352x1024_0_0_0) (m ((c : Thread nD τ).loc main_arg2))) slices_S8x4352x1024_S8x4096x1024_0_256_0 := by
  entry_read
  rfl

/-- The transposed keys the kernel reads. -/
theorem k_term (c : Dev nD) : V m c main_v158
    = transpose S8x1024x4352 [0, 2, 1] (truncf (F := Ideal) .bf16 (KQ (extractStridedSlice S8x4352x1024 ![0, 0, 1024] (KX m c)
        slices_S8x4352x3072_S8x4352x1024_0_0_1024) (m ((c : Thread nD τ).loc main_arg3))) bitsLt_bf16_f32)
        transposes_S8x4352x1024_S8x1024x4352_0_2_1 := by
  entry_read
  rfl

/-- The values the kernel reads. -/
theorem v_term (c : Dev nD) : V m c main_v159
    = truncf (F := Ideal) .bf16 (extractStridedSlice S8x4352x1024 ![0, 0, 2048] (KX m c)
        slices_S8x4352x3072_S8x4352x1024_0_0_2048) bitsLt_bf16_f32 := by
  entry_read
  rfl

end Cert.AttnIdeal.Value
-- ==== Proof.Attn.Kernel.lean ====
/- The kernel's result array, element by element. -/
module
public import proofs.«01_k».proof.Proof.Gen.AttnIdeal.Value
public import proofs.«01_k».proof.Proof.Attn.Host
public import proofs.«01_k».proof.Proof.Attn.Block
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.AttnIdeal.Value
open Cert.AttnIdeal Cert.AttnIdeal.Gen Cert.AttnMath
variable (m : (ℓ : Loc nD τ sig) → Buf (Elt Ideal) ℓ)

variable (A0 : FVec Ideal S8x256x3072 .f32) (A1 : FVec Ideal S8x4096x3072 .f32) (g : FVec Ideal S64 .f32)

/-- The projections of all tokens, context first. -/
abbrev cat : FVec Ideal S8x4352x3072 .f32 :=
  concatenate S8x4352x3072 1 [⟨S8x256x3072, A0⟩, ⟨S8x4096x3072, A1⟩] concatenates_S8x256x3072_S8x4096x3072_S8x4352x3072_d1

/-- A context token of the joined projections. -/
theorem cat_lo (b : Fin 8) (j : Fin 4352) (l : Fin 3072) (h : j.val < 256) : cat A0 A1 (ix3 b j l) = A0 (ix3 b ⟨j.val, h⟩ l) := by
  pointwise [cat]
  rw [dif_pos h]

/-- A latent token of the joined projections. -/
theorem cat_hi (b : Fin 8) (j : Fin 4352) (l : Fin 3072) (h : ¬ j.val < 256) :
    cat A0 A1 (ix3 b j l) = A1 (ix3 b ⟨j.val - 256, by omega⟩ l) := by
  pointwise [cat]
  rw [dif_neg h]

/-- The keys over any arrays. -/
theorem k_gen (b : Fin 8) (j : Fin 4352) (l : Fin 1024) :
    KQ (extractStridedSlice S8x4352x1024 ![0, 0, 1024] (cat A0 A1) slices_S8x4352x3072_S8x4352x1024_0_0_1024) g (ix3 b j l)
      = kv A0 A1 g b j ⟨l.val / 64, by omega⟩ ⟨l.val % 64, by omega⟩ := by
  have e : ∀ l : Fin 1024, extractStridedSlice S8x4352x1024 ![0, 0, 1024] (cat A0 A1) slices_S8x4352x3072_S8x4352x1024_0_0_1024 (ix3 b j l)
      = cat A0 A1 (ix3 b j ⟨1024 + l.val, by omega⟩) := fun l => by pointwise
  rw [KQ_at]
  unfold kv
  by_cases h : j.val < 256
  · rw [dif_pos h, dif_pos h]
    simp only [e, cat_lo A0 A1 _ _ _ h]
  · rw [dif_neg h, dif_neg h]
    simp only [e, cat_hi A0 A1 _ _ _ h]

/-- The queries over any arrays. -/
theorem q_gen (b : Fin 8) (j : Fin 4352) (l : Fin 1024) (h : ¬ j.val < 256) :
    KQ (extractStridedSlice S8x4352x1024 ![0, 0, 0] (cat A0 A1) slices_S8x4352x3072_S8x4352x1024_0_0_0) g (ix3 b j l)
      = qv A1 g b ⟨j.val - 256, by omega⟩ ⟨l.val / 64, by omega⟩ ⟨l.val % 64, by omega⟩ := by
  have e : ∀ l : Fin 1024, extractStridedSlice S8x4352x1024 ![0, 0, 0] (cat A0 A1) slices_S8x4352x3072_S8x4352x1024_0_0_0 (ix3 b j l)
      = cat A0 A1 (ix3 b j ⟨l.val, by omega⟩) := fun l => by pointwise
  rw [KQ_at]
  unfold qv
  rw [dif_neg h]
  simp only [e, cat_hi A0 A1 _ _ _ h]

/-- The values over any arrays. -/
theorem v_gen (b : Fin 8) (j : Fin 4352) (l : Fin 1024) :
    extractStridedSlice S8x4352x1024 ![0, 0, 2048] (cat A0 A1) slices_S8x4352x3072_S8x4352x1024_0_0_2048 (ix3 b j l)
      = vv A0 A1 b j l := by
  pointwise [cat]
  rfl

/-- A query the kernel reads. -/
theorem q_at (c : Dev nD) (b : Fin 8) (t : Fin 4096) (l : Fin 1024) : V m c main_v160 (ix3 b t l)
    = qv (m ((c : Thread nD τ).loc main_arg1)) (m ((c : Thread nD τ).loc main_arg2)) b t ⟨l.val / 64, by omega⟩ ⟨l.val % 64, by omega⟩ := by
  have e : ∀ X : FVec Ideal S8x4352x1024 .f32, extractStridedSlice S8x4096x1024 ![0, 256, 0] X slices_S8x4352x1024_S8x4096x1024_0_256_0 (ix3 b t l)
      = X (ix3 b ⟨256 + t.val, by omega⟩ l) := fun X => by pointwise
  have ht : (⟨256 + t.val - 256, by omega⟩ : Fin 4096) = t := Fin.ext (Nat.add_sub_cancel_left 256 t.val)
  rw [q_term]
  refine (e _).trans ((q_gen _ _ _ b _ l (Nat.not_lt.mpr (Nat.le_add_right 256 t.val))).trans ?_)
  rw [ht]

/-- A key the kernel reads. -/
theorem k_at (c : Dev nD) (b : Fin 8) (l : Fin 1024) (j : Fin 4352) : V m c main_v158 (ix3 b l j)
    = kv (m ((c : Thread nD τ).loc main_arg0)) (m ((c : Thread nD τ).loc main_arg1)) (m ((c : Thread nD τ).loc main_arg3)) b j
        ⟨l.val / 64, by omega⟩ ⟨l.val % 64, by omega⟩ := by
  have e : ∀ X : FVec Ideal S8x4352x1024 .f32, transpose S8x1024x4352 [0, 2, 1] (truncf (F := Ideal) .bf16 X bitsLt_bf16_f32)
      transposes_S8x4352x1024_S8x1024x4352_0_2_1 (ix3 b l j) = X (ix3 b j l) := fun X => by pointwise
  rw [k_term]
  exact (e _).trans (k_gen _ _ _ b j l)

/-- A value the kernel reads. -/
theorem v_at (c : Dev nD) (b : Fin 8) (j : Fin 4352) (l : Fin 1024) : V m c main_v159 (ix3 b j l)
    = vv (m ((c : Thread nD τ).loc main_arg0)) (m ((c : Thread nD τ).loc main_arg1)) b j l := by
  rw [v_term]
  exact v_gen _ _ b j l

/-- The factor the kernel reads. -/
theorem lam_at (c : Dev nD) : V m c main_v161 (ix1 0)
    = lamv (m ((c : Thread nD τ).loc main_arg4)) (m ((c : Thread nD τ).loc main_arg5)) (m ((c : Thread nD τ).loc main_arg6))
        (m ((c : Thread nD τ).loc main_arg7)) := by
  entry_read
  pointwise
  rfl

/-- The gain the kernel reads. -/
theorem g_at (c : Dev nD) (e : Fin 128) : V m c main_v162 (ix2 0 e) = m ((c : Thread nD τ).loc main_arg8) (ix1 e) := by
  entry_read
  pointwise

end Cert.AttnIdeal.Value
-- ==== Proof.Attn.Ref.lean ====
/- The reference's attention, read element by element. -/
module
public import proofs.«01_k».proof.Proof.Gen.AttnRefIdeal.Run
public import proofs.«01_k».proof.Proof.Attn.Spec
public import proofs.«01_k».proof.Proof.Attn.Consts
public import Idealize.ShloMosaic.Lib.Pipeline.ValueKit
@[expose] public section
set_option maxRecDepth 16384
noncomputable section
open Idealize.ShloMosaic Idealize.ShloMosaic.TcCoe Idealize.SL.Sem
namespace Cert.AttnRefIdeal.Value
open Cert.AttnRefIdeal Cert.AttnRefIdeal.Gen Cert.AttnMath

/-- A table along the tokens, over all heads and branches. -/
abbrev RT (a : FVec Ideal S4096x16 .f32) : FVec Ideal S8x4096x16x16 .f32 :=
  broadcastInDim S8x4096x16x16 ![0, 1, 2, 3] bcast_S1x4096x1x16_S8x4096x16x16_0_1_2_3
    (broadcastInDim S1x4096x1x16 ![1, 2, 3] bcast_S4096x1x16_S1x4096x1x16_1_2_3
      (broadcastInDim S4096x1x16 ![0, 2] bcast_S4096x16_S4096x1x16_0_2 a))

/-- One axis of the reference's rotation. -/
abbrev RH (x : FVec Ideal S8x4096x16x32 .f32) (a : FVec Ideal S4096x16 .f32) : FVec Ideal S8x4096x16x32 .f32 :=
  concatenate S8x4096x16x32 3
    [⟨S8x4096x16x16, subf
        (mulf (extractStridedSlice S8x4096x16x16 ![0, 0, 0, 0] x slices_S8x4096x16x32_S8x4096x16x16_0_0_0_0) (RT (Host.cos a)))
        (mulf (extractStridedSlice S8x4096x16x16 ![0, 0, 0, 16] x slices_S8x4096x16x32_S8x4096x16x16_0_0_0_16) (RT (Host.sin a)))⟩,
     ⟨S8x4096x16x16, addf
        (mulf (extractStridedSlice S8x4096x16x16 ![0, 0, 0, 16] x slices_S8x4096x16x32_S8x4096x16x16_0_0_0_16) (RT (Host.cos a)))
        (mulf (extractStridedSlice S8x4096x16x16 ![0, 0, 0, 0] x slices_S8x4096x16x32_S8x4096x16x16_0_0_0_0) (RT (Host.sin a)))⟩]
    concatenates_S8x4096x16x16_S8x4096x16x16_S8x4096x16x32_d3

/-- The reference's rotation of the latent tokens. -/
def RR (Y : FVec Ideal S8x4096x16x64 .f32) (ar ac : FVec Ideal S4096x16 .f32) : FVec Ideal S8x4096x16x64 .f32 :=
  concatenate S8x4096x16x64 3
    [⟨S8x4096x16x32, RH (extractStridedSlice S8x4096x16x32 ![0, 0, 0, 0] Y slices_S8x4096x16x64_S8x4096x16x32_0_0_0_0) ar⟩,
     ⟨S8x4096x16x32, RH (extractStridedSlice S8x4096x16x32 ![0, 0, 0, 32] Y slices_S8x4096x16x64_S8x4096x16x32_0_0_0_32) ac⟩]
    concatenates_S8x4096x16x32_S8x4096x16x32_S8x4096x16x64_d3

/-- The reference's rotation, read at an element. -/
theorem RR_at (Y : FVec Ideal S8x4096x16x64 .f32) (ar ac : FVec Ideal S4096x16 .f32) (b : Fin 8) (t : Fin 4096) (n : Fin 16) (d : Fin 64) :
    RR Y ar ac (ix4 b t n d) = rot (fun d => Y (ix4 b t n d)) (fun f => ar (ix2 t f)) (fun f => ac (ix2 t f)) d := by
  pointwise [RR]
  rfl

/-- The reference's norm of the latent queries or keys. -/
def RN (X : FVec Ideal S8x4096x16x64 .f32) (g : FVec Ideal S64 .f32) : FVec Ideal S8x4096x16x64 .f32 :=
  mulf (mulf X (broadcastInDim S8x4096x16x64 ![0, 1, 2, 3] bcast_S8x4096x16x1_S8x4096x16x64_0_1_2_3 (Host.rsqrt (addf (Host.divf
    (broadcastInDim S8x4096x16x1 ![0, 1, 2] bcast_S8x4096x16_S8x4096x16x1_0_1_2
      (Host.reduceAdd (mulf X X) (constant S_ .f32 0x00000000#32) reducesTo_S8x4096x16x64_S8x4096x16_d3 h_S_))
    (broadcastInDim S8x4096x16x1 ![] bcast_S_S8x4096x16x1 (constant S_ .f32 0x42800000#32)))
    (broadcastInDim S8x4096x16x1 ![] bcast_S_S8x4096x16x1 (constant S_ .f32 0x358637BD#32))))))
    (broadcastInDim S8x4096x16x64 ![0, 1, 2, 3] bcast_S1x1x1x64_S8x4096x16x64_0_1_2_3 (broadcastInDim S1x1x1x64 ![3] bcast_S64_S1x1x1x64_3 g))

/-- The reference's norm of the context keys. -/
def RNc (X : FVec Ideal S8x256x16x64 .f32) (g : FVec Ideal S64 .f32) : FVec Ideal S8x256x16x64 .f32 :=
  mulf (mulf X (broadcastInDim S8x256x16x64 ![0, 1, 2, 3] bcast_S8x256x16x1_S8x256x16x64_0_1_2_3 (Host.rsqrt (addf (Host.divf
    (broadcastInDim S8x256x16x1 ![0, 1, 2] bcast_S8x256x16_S8x256x16x1_0_1_2
      (Host.reduceAdd (mulf X X) (constant S_ .f32 0x00000000#32) reducesTo_S8x256x16x64_S8x256x16_d3 h_S_))
    (broadcastInDim S8x256x16x1 ![] bcast_S_S8x256x16x1 (constant S_ .f32 0x42800000#32)))
    (broadcastInDim S8x256x16x1 ![] bcast_S_S8x256x16x1 (constant S_ .f32 0x358637BD#32))))))
    (broadcastInDim S8x256x16x64 ![0, 1, 2, 3] bcast_S1x1x1x64_S8x256x16x64_0_1_2_3 (broadcastInDim S1x1x1x64 ![3] bcast_S64_S1x1x1x64_3 g))

/-- The norm of the latent tokens, read at an element. -/
theorem RN_at (X : FVec Ideal S8x4096x16x64 .f32) (g : FVec Ideal S64 .f32) (b : Fin 8) (t : Fin 4096) (n : Fin 16) (d : Fin 64) :
    RN X g (ix4 b t n d) = nrm (fun d => X (ix4 b t n d)) (fun d => g (ix1 d)) d := by
  pointwise [RN]
  rfl

/-- The norm of the context tokens, read at an element. -/
theorem RNc_at (X : FVec Ideal S8x256x16x64 .f32) (g : FVec Ideal S64 .f32) (b : Fin 8) (t : Fin 256) (n : Fin 16) (d : Fin 64) :
    RNc X g (ix4 b t n d) = nrm (fun d => X (ix4 b t n d)) (fun d => g (ix1 d)) d := by
  pointwise [RNc]
  rfl

variable (V0 : Valuation τ sig (Elt Ideal))

/-- The row angles, read at an element. -/
theorem ar_at (t : Fin 4096) (f : Fin 16) : res_main_v65 V0 (ix2 t f) = angR t f := by
  pointwise [res_main_v65, res_main_v60]
  rfl

/-- The column angles, read at an element. -/
theorem ac_at (t : Fin 4096) (f : Fin 16) : res_main_v70 V0 (ix2 t f) = angC t f := by
  pointwise [res_main_v70, res_main_v60]
  rfl

/-- The heads of the latent part of the projections. -/
abbrev RX (X : FVec Ideal S8x4096x1024 .f32) : FVec Ideal S8x4096x16x64 .f32 := shapeCast S8x4096x16x64 X shapeCasts_S8x4096x1024_S8x4096x16x64

/-- The heads of the context part of the projections. -/
abbrev RXc (X : FVec Ideal S8x256x1024 .f32) : FVec Ideal S8x256x16x64 .f32 := shapeCast S8x256x16x64 X shapeCasts_S8x256x1024_S8x256x16x64

/-- The queries. -/
def RQ (A1 : FVec Ideal S8x4096x3072 .f32) (g : FVec Ideal S64 .f32) (ar ac : FVec Ideal S4096x16 .f32) : FVec Ideal S8x4096x16x64 .f32 :=
  RR (RN (RX (extractStridedSlice S8x4096x1024 ![0, 0, 0] A1 slices_S8x4096x3072_S8x4096x1024_0_0_0)) g) ar ac

/-- The keys. -/
def RK (A0 : FVec Ideal S8x256x3072 .f32) (A1 : FVec Ideal S8x4096x3072 .f32) (g : FVec Ideal S64 .f32) (ar ac : FVec Ideal S4096x16 .f32) :
    FVec Ideal S8x4352x16x64 .f32 :=
  concatenate S8x4352x16x64 1
    [⟨S8x256x16x64, RNc (RXc (extractStridedSlice S8x256x1024 ![0, 0, 1024] A0 slices_S8x256x3072_S8x256x1024_0_0_1024)) g⟩,
     ⟨S8x4096x16x64, RR (RN (RX (extractStridedSlice S8x4096x1024 ![0, 0, 1024] A1 slices_S8x4096x3072_S8x4096x1024_0_0_1024)) g) ar ac⟩]
    concatenates_S8x256x16x64_S8x4096x16x64_S8x4352x16x64_d1

/-- The queries, read at an element. -/
theorem RQ_at (A1 : FVec Ideal S8x4096x3072 .f32) (g : FVec Ideal S64 .f32) (b : Fin 8) (t : Fin 4096) (n : Fin 16) (d : Fin 64) :
    RQ A1 g (res_main_v65 V0) (res_main_v70 V0) (ix4 b t n d) = qv A1 g b t n d := by
  have e : ∀ d : Fin 64, RX (extractStridedSlice S8x4096x1024 ![0, 0, 0] A1 slices_S8x4096x3072_S8x4096x1024_0_0_0) (ix4 b t n d)
      = A1 (ix3 b t ⟨n.val * 64 + d.val, by omega⟩) := fun d => by pointwise [RX]
  unfold RQ qv
  rw [RR_at]
  simp only [RN_at, e, ar_at, ac_at]

/-- The keys, read at an element. -/
theorem RK_at (A0 : FVec Ideal S8x256x3072 .f32) (A1 : FVec Ideal S8x4096x3072 .f32) (g : FVec Ideal S64 .f32) (b : Fin 8) (j : Fin 4352)
    (n : Fin 16) (d : Fin 64) : RK A0 A1 g (res_main_v65 V0) (res_main_v70 V0) (ix4 b j n d) = kv A0 A1 g b j n d := by
  have e : ∀ (t : Fin 4096) (d : Fin 64), RX (extractStridedSlice S8x4096x1024 ![0, 0, 1024] A1 slices_S8x4096x3072_S8x4096x1024_0_0_1024) (ix4 b t n d)
      = A1 (ix3 b t ⟨1024 + (n.val * 64 + d.val), by omega⟩) := fun t d => by pointwise [RX]
  have ec : ∀ (t : Fin 256) (d : Fin 64), RXc (extractStridedSlice S8x256x1024 ![0, 0, 1024] A0 slices_S8x256x3072_S8x256x1024_0_0_1024) (ix4 b t n d)
      = A0 (ix3 b t ⟨1024 + (n.val * 64 + d.val), by omega⟩) := fun t d => by pointwise [RXc]
  pointwise [RK]
  unfold kv
  by_cases h : j.val < 256
  · rw [dif_pos h, dif_pos h, RNc_at]
    simp only [ec]
  · rw [dif_neg h, dif_neg h, RR_at]
    simp only [RN_at, e, ar_at, ac_at]

/-- The scores over any queries and keys. -/
def RS (q : FVec Ideal S8x4096x16x64 .f32) (k : FVec Ideal S8x4352x16x64 .f32) : FVec Ideal S8x16x4096x4352 .f32 :=
  mulf (Host.dotGeneral dot_S8x4096x16x64_S8x4352x16x64_S8x16x4096x4352_3_3_1_1_02_02 none q k)
    (broadcastInDim S8x16x4096x4352 ![] bcast_S_S8x16x4096x4352 (constant S_ .f32 0x3E000000#32))

/-- The scores, read at an element. -/
theorem RS_at (q : FVec Ideal S8x4096x16x64 .f32) (k : FVec Ideal S8x4352x16x64 .f32) (b : Fin 8) (n : Fin 16) (t : Fin 4096) (j : Fin 4352) :
    RS q k (ix4 b n t j) = (∑ d : Fin 64, q (ix4 b t n d) * k (ix4 b j n d)) * Ideal.ofBits .f32 0x3E000000#32 := by
  pointwise [RS]

/-- The greatest score, from a start, read at an element. -/
theorem RM0_at (s : FVec Ideal S8x16x4096x4352 .f32) (b : Fin 8) (n : Fin 16) (t : Fin 4096) :
    Host.reduce (FloatOps.maximumf (F := Ideal)) s (constant S_ .f32 0xFF800000#32) reducesTo_S8x16x4096x4352_S8x16x4096_d3 h_S_ (ix3 b n t)
      = Finset.univ.fold max (Ideal.ofBits .f32 0xFF800000#32) fun j => s (ix4 b n t j) := by
  pointwise

/-- The greater of the least element and numbers is the numbers. -/
theorem ninf_max (y : FVec Ideal S8x16x4096 .f32) (i : S8x16x4096.Idx) :
    maximumf (broadcastInDim S8x16x4096 ![] bcast_S_S8x16x4096 (constant S_ .f32 0xFF800000#32)) y i = y i := by
  have e : maximumf (broadcastInDim S8x16x4096 ![] bcast_S_S8x16x4096 (constant S_ .f32 0xFF800000#32)) y i
      = max (Ideal.ofBits .f32 0xFF800000#32) (y i) := rfl
  rw [e, word_ninf]
  exact max_bot_left (α := EReal) (y i)

/-- The greatest score of each query. -/
def RM (s : FVec Ideal S8x16x4096x4352 .f32) : FVec Ideal S8x16x4096 .f32 :=
  maximumf (broadcastInDim S8x16x4096 ![] bcast_S_S8x16x4096 (constant S_ .f32 0xFF800000#32))
    (Host.reduce FloatOps.maximumf s (constant S_ .f32 0xFF800000#32) reducesTo_S8x16x4096x4352_S8x16x4096_d3 h_S_)

/-- The greatest score, read at an element. -/
theorem RM_at (s : FVec Ideal S8x16x4096x4352 .f32) (b : Fin 8) (n : Fin 16) (t : Fin 4096) :
    RM s (ix3 b n t) = Finset.univ.fold max (⊥ : EReal) fun j => s (ix4 b n t j) := by
  unfold RM
  rw [ninf_max, RM0_at, word_ninf]

/-- One number per query, along the keys. -/
abbrev RL (x : FVec Ideal S8x16x4096 .f32) : FVec Ideal S8x16x4096x4352 .f32 :=
  broadcastInDim S8x16x4096x4352 ![0, 1, 2, 3] bcast_S8x16x4096x1_S8x16x4096x4352_0_1_2_3
    (broadcastInDim S8x16x4096x1 ![0, 1, 2] bcast_S8x16x4096_S8x16x4096x1_0_1_2 x)

/-- The exponentials of scores less a number per query. -/
def RE (s : FVec Ideal S8x16x4096x4352 .f32) (M : FVec Ideal S8x16x4096 .f32) : FVec Ideal S8x16x4096x4352 .f32 :=
  Host.exp (subf s (RL M))

/-- The exponentials, read at an element. -/
theorem RE_at (s : FVec Ideal S8x16x4096x4352 .f32) (M : FVec Ideal S8x16x4096 .f32) (b : Fin 8) (n : Fin 16) (t : Fin 4096) (j : Fin 4352) :
    RE s M (ix4 b n t j) = Ideal.exp (s (ix4 b n t j) - M (ix3 b n t)) := by
  pointwise [RE]

/-- Numbers over their sum along the keys, a head and a branch apart. -/
def RD (e : FVec Ideal S8x16x4096x4352 .f32) : FVec Ideal S8x8x2x4096x4352 .f32 :=
  shapeCast S8x8x2x4096x4352 (Host.divf e (RL (Host.reduceAdd e (constant S_ .f32 0x00000000#32) reducesTo_S8x16x4096x4352_S8x16x4096_d3 h_S_)))
    shapeCasts_S8x16x4096x4352_S8x8x2x4096x4352

/-- Numbers over their sum, read at an element. -/
theorem RD_at (e : FVec Ideal S8x16x4096x4352 .f32) (b : Fin 8) (h : Fin 8) (c : Fin 2) (t : Fin 4096) (j : Fin 4352) :
    RD e (ix5 b h c t j) = Ideal.div (e (ix4 b ⟨h.val * 2 + c.val, by omega⟩ t j)) (∑ x, e (ix4 b ⟨h.val * 2 + c.val, by omega⟩ t x)) := by
  pointwise [RD]

/-- The softmax weights over any scores. -/
def RP (s : FVec Ideal S8x16x4096x4352 .f32) : FVec Ideal S8x8x2x4096x4352 .f32 := RD (RE s (RM s))

/-- The softmax weights, read at an element. -/
theorem RP_at (s : FVec Ideal S8x16x4096x4352 .f32) (b : Fin 8) (h : Fin 8) (c : Fin 2) (t : Fin 4096) (j : Fin 4352) :
    RP s (ix5 b h c t j) = smw (fun j => s (ix4 b ⟨h.val * 2 + c.val, by omega⟩ t j)) j := by
  unfold RP smw
  rw [RD_at]
  simp only [RE_at, RM_at]

/-- The factor of the second branch. -/
def RLam (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The factor, read. -/
theorem RLam_at (a b c d : FVec Ideal S64 .f32) (i : S_.Idx) : RLam a b c d i = lamv a b c d := by
  pointwise [RLam]
  rfl

/-- The values, by head and lane. -/
def RV (A0 : FVec Ideal S8x256x3072 .f32) (A1 : FVec Ideal S8x4096x3072 .f32) : FVec Ideal S8x4352x8x128 .f32 :=
  shapeCast S8x4352x8x128 (concatenate S8x4352x1024 1
    [⟨S8x256x1024, extractStridedSlice S8x256x1024 ![0, 0, 2048] A0 slices_S8x256x3072_S8x256x1024_0_0_2048⟩,
     ⟨S8x4096x1024, extractStridedSlice S8x4096x1024 ![0, 0, 2048] A1 slices_S8x4096x3072_S8x4096x1024_0_0_2048⟩]
    concatenates_S8x256x1024_S8x4096x1024_S8x4352x1024_d1) shapeCasts_S8x4352x1024_S8x4352x8x128

/-- The values, read at an element. -/
theorem RV_at (A0 : FVec Ideal S8x256x3072 .f32) (A1 : FVec Ideal S8x4096x3072 .f32) (b : Fin 8) (j : Fin 4352) (h : Fin 8) (e : Fin 128) :
    RV A0 A1 (ix4 b j h e) = vv A0 A1 b j ⟨h.val * 128 + e.val, by omega⟩ := by
  pointwise [RV]
  rfl

/-- The difference of the two branches' weights. -/
def RW (p : FVec Ideal S8x8x2x4096x4352 .f32) (lam : FVec Ideal S_ .f32) : FVec Ideal S8x8x4096x4352 .f32 :=
  subf (shapeCast S8x8x4096x4352 (extractStridedSlice S8x8x1x4096x4352 ![0, 0, 0, 0, 0] p slices_S8x8x2x4096x4352_S8x8x1x4096x4352_0_0_0_0_0)
      shapeCasts_S8x8x1x4096x4352_S8x8x4096x4352)
    (mulf (broadcastInDim S8x8x4096x4352 ![] bcast_S_S8x8x4096x4352 lam)
      (shapeCast S8x8x4096x4352 (extractStridedSlice S8x8x1x4096x4352 ![0, 0, 1, 0, 0] p slices_S8x8x2x4096x4352_S8x8x1x4096x4352_0_0_1_0_0)
        shapeCasts_S8x8x1x4096x4352_S8x8x4096x4352))

/-- The difference of the weights, read at an element. -/
theorem RW_at (p : FVec Ideal S8x8x2x4096x4352 .f32) (lam : FVec Ideal S_ .f32) (b h : Fin 8) (t : Fin 4096) (j : Fin 4352) :
    RW p lam (ix4 b h t j) = p (ix5 b h 0 t j) - lam ix0 * p (ix5 b h 1 t j) := by
  pointwise [RW]

/-- The weighted values. -/
def RO (v : FVec Ideal S8x4352x8x128 .f32) (w : FVec Ideal S8x8x4096x4352 .f32) : FVec Ideal S8x4096x8x128 .f32 :=
  transpose S8x4096x8x128 [0, 3, 1, 2] (Host.dotGeneral dot_S8x4352x8x128_S8x8x4096x4352_S8x8x128x4096_1_3_3_2_02_01 none v w)
    transposes_S8x8x128x4096_S8x4096x8x128_0_3_1_2

/-- The weighted values, read at an element. -/
theorem RO_at (v : FVec Ideal S8x4352x8x128 .f32) (w : FVec Ideal S8x8x4096x4352 .f32) (b : Fin 8) (t : Fin 4096) (h : Fin 8) (e : Fin 128) :
    RO v w (ix4 b t h e) = ∑ j : Fin 4352, v (ix4 b j h e) * w (ix4 b h t j) := by
  pointwise [RO]

/-- The last norm and its factors. -/
def RF (o : FVec Ideal S8x4096x8x128 .f32) (g : FVec Ideal S128 .f32) : FVec Ideal S8x4096x1024 .f32 :=
  shapeCast S8x4096x1024 (mulf (mulf (mulf o (broadcastInDim S8x4096x8x128 ![0, 1, 2, 3] bcast_S8x4096x8x1_S8x4096x8x128_0_1_2_3
    (Host.rsqrt (addf (Host.divf (broadcastInDim S8x4096x8x1 ![0, 1, 2] bcast_S8x4096x8_S8x4096x8x1_0_1_2
      (Host.reduceAdd (mulf o o) (constant S_ .f32 0x00000000#32) reducesTo_S8x4096x8x128_S8x4096x8_d3 h_S_))
      (broadcastInDim S8x4096x8x1 ![] bcast_S_S8x4096x8x1 (constant S_ .f32 0x43000000#32)))
      (broadcastInDim S8x4096x8x1 ![] bcast_S_S8x4096x8x1 (constant S_ .f32 0x358637BD#32))))))
    (broadcastInDim S8x4096x8x128 ![0, 1, 2, 3] bcast_S1x1x1x128_S8x4096x8x128_0_1_2_3 (broadcastInDim S1x1x1x128 ![3] bcast_S128_S1x1x1x128_3 g)))
    (broadcastInDim S8x4096x8x128 ![] bcast_S_S8x4096x8x128 (constant S_ .f32 0x3F4CCCCD#32))) shapeCasts_S8x4096x8x128_S8x4096x1024

/-- The last norm, read at an element. -/
theorem RF_at (o : FVec Ideal S8x4096x8x128 .f32) (g : FVec Ideal S128 .f32) (b : Fin 8) (t : Fin 4096) (l : Fin 1024) :
    RF o g (ix3 b t l) = finish (fun e => o (ix4 b t ⟨l.val / 128, by omega⟩ e)) (g (ix1 ⟨l.val % 128, by omega⟩)) ⟨l.val % 128, by omega⟩ := by
  pointwise [RF]
  rfl

/-- The reference's attention, over any arrays. -/
def rout (A0 : FVec Ideal S8x256x3072 .f32) (A1 : FVec Ideal S8x4096x3072 .f32) (g2 g3 a4 a5 a6 a7 : FVec Ideal S64 .f32)
    (ar ac : FVec Ideal S4096x16 .f32) : FVec Ideal S8x4096x8x128 .f32 :=
  RO (RV A0 A1) (RW (RP (RS (RQ A1 g2 ar ac) (RK A0 A1 g3 ar ac))) (RLam a4 a5 a6 a7))

/-- The reference's scores. -/
def rsc (A0 : FVec Ideal S8x256x3072 .f32) (A1 : FVec Ideal S8x4096x3072 .f32) (g2 g3 : FVec Ideal S64 .f32)
    (b : Fin 8) (t : Fin 4096) (n : Fin 16) (j : Fin 4352) : EReal :=
  (∑ d : Fin 64, qv A1 g2 b t n d * kv A0 A1 g3 b j n d) * Ideal.ofBits .f32 0x3E000000#32

/-- The reference's attention, read at an element. -/
theorem rout_at (A0 : FVec Ideal S8x256x3072 .f32) (A1 : FVec Ideal S8x4096x3072 .f32) (g2 g3 a4 a5 a6 a7 : FVec Ideal S64 .f32)
    (b : Fin 8) (t : Fin 4096) (h : Fin 8) (e : Fin 128) :
    rout A0 A1 g2 g3 a4 a5 a6 a7 (res_main_v65 V0) (res_main_v70 V0) (ix4 b t h e)
      = ∑ j : Fin 4352, vv A0 A1 b j ⟨h.val * 128 + e.val, by omega⟩
          * (smw (rsc A0 A1 g2 g3 b t ⟨h.val * 2, by omega⟩) j
            - lamv a4 a5 a6 a7 * smw (rsc A0 A1 g2 g3 b t ⟨h.val * 2 + 1, by omega⟩) j) := by
  unfold rout
  rw [RO_at]
  refine Finset.sum_congr rfl fun j _ => ?_
  rw [RV_at, RW_at, RLam_at, RP_at, RP_at]
  simp only [RS_at, RQ_at, RK_at]
  rfl

/-- The normed queries. -/
theorem v33_term : res_main_v33 V0 = RN (RX (extractStridedSlice S8x4096x1024 ![0, 0, 0] (V0 (Proc.devRef .tc main_arg1)) slices_S8x4096x3072_S8x4096x1024_0_0_0)) (V0 (Proc.devRef .tc main_arg2)) := by
  rfl

/-- The normed latent keys. -/
theorem v47_term : res_main_v47 V0 = RN (RX (extractStridedSlice S8x4096x1024 ![0, 0, 1024] (V0 (Proc.devRef .tc main_arg1)) slices_S8x4096x3072_S8x4096x1024_0_0_1024)) (V0 (Proc.devRef .tc main_arg3)) := by
  rfl

/-- The context keys before their norm. -/
theorem v6_term : res_main_v6 V0 = RXc (extractStridedSlice S8x256x1024 ![0, 0, 1024] (V0 (Proc.devRef .tc main_arg0)) slices_S8x256x3072_S8x256x1024_0_0_1024) := by
  rfl

/-- The products of queries and keys. -/
theorem v160_term' : res_main_v160 V0 = Host.dotGeneral dot_S8x4096x16x64_S8x4352x16x64_S8x16x4096x4352_3_3_1_1_02_02 none
    (RR (res_main_v33 V0) (res_main_v65 V0) (res_main_v70 V0))
    (concatenate S8x4352x16x64 1 [⟨S8x256x16x64, RNc (res_main_v6 V0) (V0 (Proc.devRef .tc main_arg3))⟩,
     ⟨S8x4096x16x64, RR (res_main_v47 V0) (res_main_v65 V0) (res_main_v70 V0)⟩] concatenates_S8x256x16x64_S8x4096x16x64_S8x4352x16x64_d1) := by
  rfl

/-- The products of queries and keys, over the arguments. -/
theorem v160_term : res_main_v160 V0 = Host.dotGeneral dot_S8x4096x16x64_S8x4352x16x64_S8x16x4096x4352_3_3_1_1_02_02 none
    (RQ (V0 (Proc.devRef .tc main_arg1)) (V0 (Proc.devRef .tc main_arg2)) (res_main_v65 V0) (res_main_v70 V0))
    (RK (V0 (Proc.devRef .tc main_arg0)) (V0 (Proc.devRef .tc main_arg1)) (V0 (Proc.devRef .tc main_arg3)) (res_main_v65 V0) (res_main_v70 V0)) := by
  rw [v160_term', v33_term, v47_term, v6_term]
  unfold RQ RK
  rfl

/-- The scores. -/
theorem v162_term : res_main_v162 V0 = RS (RQ (V0 (Proc.devRef .tc main_arg1)) (V0 (Proc.devRef .tc main_arg2)) (res_main_v65 V0) (res_main_v70 V0))
    (RK (V0 (Proc.devRef .tc main_arg0)) (V0 (Proc.devRef .tc main_arg1)) (V0 (Proc.devRef .tc main_arg3)) (res_main_v65 V0) (res_main_v70 V0)) := by
  unfold res_main_v162 RS
  rw [v160_term]

/-- The exponentials. -/
theorem v169_term : res_main_v169 V0 = RE (res_main_v162 V0) (RM (res_main_v162 V0)) := by
  unfold res_main_v169 RE RM
  rfl

/-- The weights. -/
theorem v174_term : res_main_v174 V0 = RP (res_main_v162 V0) := by
  unfold RP
  rw [← v169_term]
  unfold res_main_v174 RD
  rfl

/-- The value the reference's program computes is the attention. -/
theorem v191_term : res_main_v191 V0 = rout (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (res_main_v65 V0) (res_main_v70 V0) := by
  unfold rout
  rw [← v162_term, ← v174_term]
  unfold res_main_v191 RO RV RW RLam
  rfl

end Cert.AttnRefIdeal.Value
-- ==== Proof.Attn.Bridge.lean ====
/- For finite arguments the kernel's attention is the reference's: every query, key and value is real, the scores of a half of
   the lanes are the scores of a branch, and the two softmax products are the same numbers. -/
module

public import proofs.«01_k».proof.Proof.Attn.Spec
public import proofs.«01_k».proof.Proof.Attn.Consts

@[expose] public section

set_option maxRecDepth 16384

noncomputable section

namespace Cert.AttnMath

open Idealize.ShloMosaic Cert.AttnIdeal

/-- The norm of real lanes with a real gain is real. -/
theorem isR_nrm (x g : Fin 64 → EReal) (hx : ∀ d, IsR (x d)) (hg : ∀ d, IsR (g d)) (d : Fin 64) : IsR (nrm x g d) := by
  obtain ⟨r, hr, e⟩ := word_eps
  unfold nrm
  rw [word_64, e]
  exact ((hx d).mul (isR_rsqrt_mean x hx 64 r (by norm_num) hr)).mul (hg d)

/-- A position is real. -/
theorem isR_posn (n : ℕ) : IsR (posn n) := ⟨_, rfl⟩

/-- A frequency is real. -/
theorem isR_freq (f : Fin 16) : IsR (freq f) := by
  unfold freq
  rw [word_10000, word_16]
  obtain ⟨p, hp⟩ := (isR_posn f.val).neg
  rw [hp, div_coe_ne (by norm_num)]
  exact (isR_coe _).pow (isR_coe _)

/-- A row's angle is real. -/
theorem isR_angR (t : Fin 4096) (f : Fin 16) : IsR (angR t f) := (isR_posn _).mul (isR_freq f)

/-- A column's angle is real. -/
theorem isR_angC (t : Fin 4096) (f : Fin 16) : IsR (angC t f) := (isR_posn _).mul (isR_freq f)

/-- The rotation of real lanes by real angles is real. -/
theorem isR_rot (y : Fin 64 → EReal) (ar ac : Fin 16 → EReal) (hy : ∀ d, IsR (y d)) (hr : ∀ f, IsR (ar f)) (hc : ∀ f, IsR (ac f))
    (d : Fin 64) : IsR (rot y ar ac d) := by
  unfold rot
  split_ifs
  · exact ((hy _).mul (hr _).cos).sub ((hy _).mul (hr _).sin)
  · exact ((hy _).mul (hr _).cos).add ((hy _).mul (hr _).sin)
  · exact ((hy _).mul (hc _).cos).sub ((hy _).mul (hc _).sin)
  · exact ((hy _).mul (hc _).cos).add ((hy _).mul (hc _).sin)

variable (Xc : FVec Ideal S8x256x3072 .f32) (Xl : FVec Ideal S8x4096x3072 .f32) (g : FVec Ideal S64 .f32)

/-- A query is real. -/
theorem isR_qv (hl : ∀ i, IsR (Xl i)) (hg : ∀ i, IsR (g i)) (b : Fin 8) (t : Fin 4096) (n : Fin 16) (d : Fin 64) :
    IsR (qv Xl g b t n d) :=
  isR_rot _ _ _ (isR_nrm _ _ (fun _ => hl _) fun _ => hg _) (isR_angR t) (isR_angC t) d

/-- A key is real. -/
theorem isR_kv (hc : ∀ i, IsR (Xc i)) (hl : ∀ i, IsR (Xl i)) (hg : ∀ i, IsR (g i)) (b : Fin 8) (j : Fin 4352) (n : Fin 16)
    (d : Fin 64) : IsR (kv Xc Xl g b j n d) := by
  unfold kv
  split_ifs
  · exact isR_nrm _ _ (fun _ => hc _) (fun _ => hg _) d
  · exact isR_rot _ _ _ (isR_nrm _ _ (fun _ => hl _) fun _ => hg _) (isR_angR _) (isR_angC _) d

/-- A value is real. -/
theorem isR_vv (hc : ∀ i, IsR (Xc i)) (hl : ∀ i, IsR (Xl i)) (b : Fin 8) (j : Fin 4352) (l : Fin 1024) : IsR (vv Xc Xl b j l) := by
  unfold vv
  split_ifs
  · exact hc _
  · exact hl _

/-- The factor of the second branch is real. -/
theorem isR_lamv (a b c d : FVec Ideal S64 .f32) (ha : ∀ i, IsR (a i)) (hb : ∀ i, IsR (b i)) (hc : ∀ i, IsR (c i))
    (hd : ∀ i, IsR (d i)) : IsR (lamv a b c d) := by
  obtain ⟨r, e⟩ := word_lam
  unfold lamv
  rw [e]
  exact ((isR_sum _ _ fun i => (ha _).mul (hb _)).exp.sub (isR_sum _ _ fun i => (hc _).mul (hd _)).exp).add (isR_coe r)

/-- A sum over the lower half of the lanes. -/
theorem sum_lo (f : Fin 128 → EReal) :
    (∑ d : Fin 128, if d.val < 64 then f d else 0) = ∑ d : Fin 64, f ⟨d.val, by omega⟩ := by
  refine (Fin.sum_univ_add (a := 64) (b := 64) fun d : Fin 128 => if d.val < 64 then f d else 0).trans ?_
  have h1 : ∀ d : Fin 64, (if (Fin.castAdd 64 d : Fin 128).val < 64 then f (Fin.castAdd 64 d) else 0) = f ⟨d.val, by omega⟩ :=
    fun d => if_pos d.isLt
  have h2 : ∀ d : Fin 64, (if (Fin.natAdd 64 d : Fin 128).val < 64 then f (Fin.natAdd 64 d) else 0) = 0 := fun d => if_neg (by simp)
  rw [Finset.sum_congr rfl fun d _ => h1 d, Finset.sum_congr rfl fun d _ => h2 d, Finset.sum_const_zero, add_zero]

/-- A sum over the upper half of the lanes. -/
theorem sum_hi (f : Fin 128 → EReal) :
    (∑ d : Fin 128, if 64 ≤ d.val then f d else 0) = ∑ d : Fin 64, f ⟨64 + d.val, by omega⟩ := by
  refine (Fin.sum_univ_add (a := 64) (b := 64) fun d : Fin 128 => if 64 ≤ d.val then f d else 0).trans ?_
  have h1 : ∀ d : Fin 64, (if 64 ≤ (Fin.castAdd 64 d : Fin 128).val then f (Fin.castAdd 64 d) else 0) = 0 :=
    fun d => if_neg (Nat.not_le.mpr d.isLt)
  have h2 : ∀ d : Fin 64, (if 64 ≤ (Fin.natAdd 64 d : Fin 128).val then f (Fin.natAdd 64 d) else 0) = f ⟨64 + d.val, by omega⟩ :=
    fun d => if_pos (by simp)
  rw [Finset.sum_congr rfl fun d _ => h1 d, Finset.sum_congr rfl fun d _ => h2 d, Finset.sum_const_zero, zero_add]

/-- The kernel's attention of one query and lane is the reference's. -/
theorem bridge {n : ℕ} [NeZero n] (q : Fin 128 → EReal) (k : Fin 128 → Fin n → EReal) (v : Fin n → Fin 128 → EReal) (lam : EReal) (e : Fin 128)
    (q₀ q₁ : Fin 64 → EReal) (k₀ k₁ : Fin n → Fin 64 → EReal)
    (hq₀ : ∀ d : Fin 64, q ⟨d.val, by omega⟩ = q₀ d) (hq₁ : ∀ d : Fin 64, q ⟨64 + d.val, by omega⟩ = q₁ d)
    (hk₀ : ∀ (d : Fin 64) j, k ⟨d.val, by omega⟩ j = k₀ j d) (hk₁ : ∀ (d : Fin 64) j, k ⟨64 + d.val, by omega⟩ j = k₁ j d)
    (rq₀ : ∀ d, IsR (q₀ d)) (rq₁ : ∀ d, IsR (q₁ d)) (rk₀ : ∀ j d, IsR (k₀ j d)) (rk₁ : ∀ j d, IsR (k₁ j d))
    (rv : ∀ j, IsR (v j e)) (rl : IsR lam) :
    katt q k v lam e = ∑ j : Fin n, v j e
      * (smw (fun j => (∑ d : Fin 64, q₀ d * k₀ j d) * Ideal.ofBits .f32 0x3E000000#32) j
        - lam * smw (fun j => (∑ d : Fin 64, q₁ d * k₁ j d) * Ideal.ofBits .f32 0x3E000000#32) j) := by
  choose a₀ ha₀ using rq₀
  choose a₁ ha₁ using rq₁
  choose b₀ hb₀ using rk₀
  choose b₁ hb₁ using rk₁
  choose w hw using rv
  obtain ⟨μ, hμ⟩ := rl
  have hs : ∀ (x y : Fin 64 → EReal) (a b : Fin 64 → ℝ), (∀ d, x d = a d) → (∀ d, y d = b d) →
      (∑ d : Fin 64, x d * y d) * Ideal.ofBits .f32 0x3E000000#32 = (((∑ d, a d * b d) * (1 / 8) : ℝ) : EReal) := by
    intro x y a b hx hy
    rw [word_eighth, EReal.coe_mul, coe_sum]
    simp only [hx, hy, EReal.coe_mul]
  have hS : ∀ (x y : Fin 64 → EReal) (a b : Fin 64 → ℝ), (∀ d, x d = a d) → (∀ d, y d = b d) →
      (∑ d : Fin 64, x d * qsc * y d) = (((∑ d, a d * b d) * (1 / 8) * (Real.log 2)⁻¹ : ℝ) : EReal) := by
    intro x y a b hx hy
    simp only [hx, hy]
    exact score_eq a b
  unfold katt
  refine diff_attn (fun j => (∑ d : Fin 64, q₀ d * k₀ j d) * Ideal.ofBits .f32 0x3E000000#32)
    (fun j => (∑ d : Fin 64, q₁ d * k₁ j d) * Ideal.ofBits .f32 0x3E000000#32) (fun j => v j e) lam
    (fun j => (∑ d, a₀ d * b₀ j d) * (1 / 8)) (fun j => (∑ d, a₁ d * b₁ j d) * (1 / 8)) w μ _ _
    (fun j => hs _ _ _ _ ha₀ (hb₀ j)) (fun j => hs _ _ _ _ ha₁ (hb₁ j)) hw hμ (fun j => ?_) fun j => ?_
  · unfold scoreLo
    rw [sum_lo]
    simp only [hq₀, hk₀]
    exact hS _ _ _ _ ha₀ (hb₀ j)
  · unfold scoreHi
    rw [sum_hi]
    simp only [hq₁, hk₁]
    exact hS _ _ _ _ ha₁ (hb₁ j)

end Cert.AttnMath

end
-- ==== Proof.Attn.Equal.lean ====
/- The two programs' results are one array, for finite arguments. -/
module

public import proofs.«01_k».proof.Proof.Attn.Final
public import proofs.«01_k».proof.Proof.Attn.Kernel
public import proofs.«01_k».proof.Proof.Attn.Ref
public import proofs.«01_k».proof.Proof.Attn.Bridge

@[expose] public section

set_option maxRecDepth 16384

noncomputable section

namespace Cert.AttnMath

open Idealize.ShloMosaic Idealize.ShloMosaic.TcCoe Idealize.SL.Sem Cert.AttnIdeal

variable (A0 : FVec Ideal S8x256x3072 .f32) (A1 : FVec Ideal S8x4096x3072 .f32) (g2 g3 a4 a5 a6 a7 : FVec Ideal S64 .f32)
  (g8 : FVec Ideal S128 .f32)

/-- The reference's result, from the arguments. -/
def rres (b : Fin 8) (t : Fin 4096) (h : Fin 8) (e : Fin 128) : EReal :=
  finish (fun e => ∑ j : Fin 4352, vv A0 A1 b j ⟨h.val * 128 + e.val, by omega⟩
    * (smw (Cert.AttnRefIdeal.Value.rsc A0 A1 g2 g3 b t ⟨h.val * 2, by omega⟩) j
      - lamv a4 a5 a6 a7 * smw (Cert.AttnRefIdeal.Value.rsc A0 A1 g2 g3 b t ⟨h.val * 2 + 1, by omega⟩) j)) (g8 (ix1 e)) e

/-- The kernel's result from launched arrays that hold queries, keys, values, the factor and the gain is the reference's. -/
theorem kres_eq (Q : FVec Ideal S8x4096x1024 .f32) (K : FVec Ideal S8x1024x4352 .bf16) (W : FVec Ideal S8x4352x1024 .bf16)
    (lam : EReal) (g : FVec Ideal S1x128 .f32)
    (hQ : ∀ b t (l : Fin 1024), Q (ix3 b t l) = qv A1 g2 b t ⟨l.val / 64, by omega⟩ ⟨l.val % 64, by omega⟩)
    (hK : ∀ b (l : Fin 1024) j, K (ix3 b l j) = kv A0 A1 g3 b j ⟨l.val / 64, by omega⟩ ⟨l.val % 64, by omega⟩)
    (hW : ∀ b j l, W (ix3 b j l) = vv A0 A1 b j l) (hlam : lam = lamv a4 a5 a6 a7) (hg : ∀ e, g (ix2 0 e) = g8 (ix1 e))
    (r0 : ∀ i, IsR (A0 i)) (r1 : ∀ i, IsR (A1 i)) (r2 : ∀ i, IsR (g2 i)) (r3 : ∀ i, IsR (g3 i)) (r4 : ∀ i, IsR (a4 i))
    (r5 : ∀ i, IsR (a5 i)) (r6 : ∀ i, IsR (a6 i)) (r7 : ∀ i, IsR (a7 i)) (b : Fin 8) (t : Fin 4096) (h : Fin 8) (e : Fin 128) :
    kres Q K W lam g b t h e = rres A0 A1 g2 g3 a4 a5 a6 a7 g8 b t h e := by
  unfold kres rres
  rw [hg]
  congr 1
  funext e
  have n0 : ∀ (d : Fin 64), (⟨(h.val * 128 + d.val) / 64, by omega⟩ : Fin 16) = ⟨h.val * 2, by omega⟩ := fun d => Fin.ext (by simp only; omega)
  have d0 : ∀ (d : Fin 64), (⟨(h.val * 128 + d.val) % 64, by omega⟩ : Fin 64) = d := fun d => Fin.ext (by simp only; omega)
  have n1 : ∀ (d : Fin 64), (⟨(h.val * 128 + (64 + d.val)) / 64, by omega⟩ : Fin 16) = ⟨h.val * 2 + 1, by omega⟩ := fun d => Fin.ext (by simp only; omega)
  have d1 : ∀ (d : Fin 64), (⟨(h.val * 128 + (64 + d.val)) % 64, by omega⟩ : Fin 64) = d := fun d => Fin.ext (by simp only; omega)
  rw [bridge _ _ _ _ e (qv A1 g2 b t ⟨h.val * 2, by omega⟩) (qv A1 g2 b t ⟨h.val * 2 + 1, by omega⟩)
    (fun j => kv A0 A1 g3 b j ⟨h.val * 2, by omega⟩) (fun j => kv A0 A1 g3 b j ⟨h.val * 2 + 1, by omega⟩)
    (fun d => by rw [hQ]; simp only [n0, d0]) (fun d => by rw [hQ]; simp only [n1, d1])
    (fun d j => by rw [hK]; simp only [n0, d0]) (fun d j => by rw [hK]; simp only [n1, d1])
    (isR_qv A1 g2 r1 r2 b t _) (isR_qv A1 g2 r1 r2 b t _) (fun j => isR_kv A0 A1 g3 r0 r1 r3 b j _)
    (fun j => isR_kv A0 A1 g3 r0 r1 r3 b j _) (fun j => by rw [hW]; exact isR_vv A0 A1 r0 r1 b j _)
    (by rw [hlam]; exact isR_lamv a4 a5 a6 a7 r4 r5 r6 r7)]
  rw [hlam]
  refine Finset.sum_congr rfl fun j _ => ?_
  rw [hW]
  rfl

/-- The kernel's result array is the reference's, given what the launched arrays hold. -/
theorem kout_eq (V0 : Valuation Cert.AttnRefIdeal.τ Cert.AttnRefIdeal.sig (Elt Ideal)) (Q : FVec Ideal S8x4096x1024 .f32) (K : FVec Ideal S8x1024x4352 .bf16) (W : FVec Ideal S8x4352x1024 .bf16)
    (lam : EReal) (g : FVec Ideal S1x128 .f32)
    (hQ : ∀ b t (l : Fin 1024), Q (ix3 b t l) = qv A1 g2 b t ⟨l.val / 64, by omega⟩ ⟨l.val % 64, by omega⟩)
    (hK : ∀ b (l : Fin 1024) j, K (ix3 b l j) = kv A0 A1 g3 b j ⟨l.val / 64, by omega⟩ ⟨l.val % 64, by omega⟩)
    (hW : ∀ b j l, W (ix3 b j l) = vv A0 A1 b j l) (hlam : lam = lamv a4 a5 a6 a7) (hg : ∀ e, g (ix2 0 e) = g8 (ix1 e))
    (r0 : ∀ i, IsR (A0 i)) (r1 : ∀ i, IsR (A1 i)) (r2 : ∀ i, IsR (g2 i)) (r3 : ∀ i, IsR (g3 i)) (r4 : ∀ i, IsR (a4 i))
    (r5 : ∀ i, IsR (a5 i)) (r6 : ∀ i, IsR (a6 i)) (r7 : ∀ i, IsR (a7 i)) :
    kout Q K W lam g = Cert.AttnRefIdeal.Value.RF (Cert.AttnRefIdeal.Value.rout A0 A1 g2 g3 a4 a5 a6 a7
      (Cert.AttnRefIdeal.Value.res_main_v65 V0) (Cert.AttnRefIdeal.Value.res_main_v70 V0)) g8 := by
  funext i
  obtain ⟨b, t, l, rfl⟩ : ∃ (b : Fin 8) (t : Fin 4096) (l : Fin 1024), i = ix3 b t l := ⟨i 0, i 1, i 2, by
    funext a; match a with | ⟨0, _⟩ => rfl | ⟨1, _⟩ => rfl | ⟨2, _⟩ => rfl⟩
  rw [Cert.AttnRefIdeal.Value.RF_at]
  refine Eq.trans (b := kres Q K W lam g b t ⟨l.val / 128, by omega⟩ ⟨l.val % 128, by omega⟩) rfl ?_
  rw [kres_eq A0 A1 g2 g3 a4 a5 a6 a7 g8 Q K W lam g hQ hK hW hlam hg r0 r1 r2 r3 r4 r5 r6 r7]
  unfold rres
  simp only [Cert.AttnRefIdeal.Value.rout_at]

end Cert.AttnMath

end
-- ==== Proof.Attn.Finite.lean ====
/- What the precondition says of the argument arrays: each element is a real number. -/
module

public import proofs.«01_k».proof.Pre_attn_finite
public import proofs.«01_k».proof.Proof.Gen.Pre_attn_finite
public import proofs.«01_k».proof.Proof.Attn.Math
public import Idealize.ShloMosaic.Lib.ReduceAll

@[expose] public section

noncomputable section

namespace Cert.AttnMath

open Idealize.ShloMosaic Cert.Pre_attn_finite Cert.Pre_attn_finite.Gen

/-- A number whose absolute value is below plus infinity is real. -/
theorem isR_of_olt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- Two words of one bit whose conjunction is one are both one. -/
theorem and_one : ∀ a b : BitVec 1, IntOp.andi a b = 1#1 → a = 1#1 ∧ b = 1#1 := by decide

/-- The result of no axes has one index. -/
instance : Subsingleton S_.Idx := ⟨fun a b => funext fun i => i.elim0⟩

/-- An array all of whose elements are finite, as the precondition tests it, is real everywhere. -/
theorem isR_of_all {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant (F := Ideal) S_ .f32 0x7F800000#32)))
      (constantI S_ 1 1#1) hr h_S_ j = 1#1) (i : s.Idx) : IsR (x i) :=
  isR_of_olt (x i) (Host.reduce_andi_all _ _ hr h_S_ j h i)

/-- The precondition makes every argument but the last real. -/
theorem finite_args (a0 : FVec Ideal S8x256x3072 .f32) (a1 : FVec Ideal S8x4096x3072 .f32) (a2 a3 a4 a5 a6 a7 : FVec Ideal S64 .f32)
    (a8 : FVec Ideal S128 .f32) (h : fn (F := Ideal) a0 a1 a2 a3 a4 a5 a6 a7 a8 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) := by
  have h0 := congrFun h (fun i => i.elim0)
  dsimp only [fn, fn_part1, fn_part2] at h0
  obtain ⟨h0, e7⟩ := and_one _ _ h0
  obtain ⟨h0, e6⟩ := and_one _ _ h0
  obtain ⟨h0, e5⟩ := and_one _ _ h0
  obtain ⟨h0, e4⟩ := and_one _ _ h0
  obtain ⟨h0, e3⟩ := and_one _ _ h0
  obtain ⟨h0, e2⟩ := and_one _ _ h0
  obtain ⟨e0, e1⟩ := and_one _ _ h0
  exact ⟨isR_of_all a0 _ _ _ e0, isR_of_all a1 _ _ _ e1, isR_of_all a2 _ _ _ e2, isR_of_all a3 _ _ _ e3, isR_of_all a4 _ _ _ e4,
    isR_of_all a5 _ _ _ e5, isR_of_all a6 _ _ _ e6, isR_of_all a7 _ _ _ e7⟩

end Cert.AttnMath

end
-- ==== Proof.Attn.Claims.lean ====
/- The claims about the attention. -/
module

public import proofs.«01_k».proof.Defs
public import proofs.«01_k».proof.Proof.Gen.Attn.Frame
public import proofs.«01_k».proof.Proof.Gen.AttnIdeal.Frame
public import proofs.«01_k».proof.Proof.Attn.Equal
public import proofs.«01_k».proof.Proof.Attn.Finite

@[expose] public section

set_option maxRecDepth 16384

noncomputable section

namespace Cert.AttnClaims

open Idealize.ShloMosaic Idealize.ShloMosaic.TcCoe Idealize.SL.Sem Cert.AttnMath
open Idealize.ShloMosaic.StableHlo

/-- The printed program runs and leaves its arguments. -/
theorem frame_p : Cert.quiescent_Attn := fun m ρ _ => Cert.Attn.Gen.frame m ρ

/-- Its ideal twin runs and leaves its arguments. -/
theorem frame_pi : Cert.quiescent_AttnIdeal := fun m ρ _ => Cert.AttnIdeal.Gen.frame m ρ

/-- The same under the precondition. -/
theorem frame_pi' : Cert.quiescent_AttnIdeal_pre_attn_finite := fun m ρ _ => Cert.AttnIdeal.Gen.frame m ρ

/-- The reference runs and leaves its arguments. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The same under the precondition. -/
theorem frame_ri' : Cert.quiescent_AttnRefIdeal_pre_attn_finite := fun m ρ _ => frame_ri m ρ trivial

/-- The scale of the queries is the number its name stands for. -/
theorem preserves : Cert.preserves_Attn_AttnIdeal :=
  IdealRules.named_const.statement Cert.AttnIdeal.κ "qscale" .f32 0x3E38AA3B#32 (((1 / 8) * (Real.log 2)⁻¹ : ℝ) : EReal) rfl

/-- The reference's result is the last norm of its attention. -/
theorem ref_term (V0 : Valuation Cert.AttnRefIdeal.τ Cert.AttnRefIdeal.sig (Elt Ideal)) (o : FVec Ideal Cert.AttnIdeal.S8x4096x1024 .f32)
    (A0 : FVec Ideal Cert.AttnIdeal.S8x256x3072 .f32) (A1 : FVec Ideal Cert.AttnIdeal.S8x4096x3072 .f32)
    (g2 g3 a4 a5 a6 a7 : FVec Ideal Cert.AttnIdeal.S64 .f32) (g8 : FVec Ideal Cert.AttnIdeal.S128 .f32)
    (h0 : V0 (Proc.devRef .tc Cert.AttnRefIdeal.main_arg0) = A0) (h1 : V0 (Proc.devRef .tc Cert.AttnRefIdeal.main_arg1) = A1)
    (h2 : V0 (Proc.devRef .tc Cert.AttnRefIdeal.main_arg2) = g2) (h3 : V0 (Proc.devRef .tc Cert.AttnRefIdeal.main_arg3) = g3)
    (h4 : V0 (Proc.devRef .tc Cert.AttnRefIdeal.main_arg4) = a4) (h5 : V0 (Proc.devRef .tc Cert.AttnRefIdeal.main_arg5) = a5)
    (h6 : V0 (Proc.devRef .tc Cert.AttnRefIdeal.main_arg6) = a6) (h7 : V0 (Proc.devRef .tc Cert.AttnRefIdeal.main_arg7) = a7)
    (h8 : V0 (Proc.devRef .tc Cert.AttnRefIdeal.main_arg8) = g8)
    (h : o = Cert.AttnRefIdeal.Value.RF (Cert.AttnRefIdeal.Value.rout A0 A1 g2 g3 a4 a5 a6 a7
      (Cert.AttnRefIdeal.Value.res_main_v65 V0) (Cert.AttnRefIdeal.Value.res_main_v70 V0)) g8) :
    Cert.AttnRefIdeal.Value.RF (Cert.AttnRefIdeal.Value.res_main_v191 V0) (V0 (Proc.devRef .tc Cert.AttnRefIdeal.main_arg8)) = o := by
  rw [h, Cert.AttnRefIdeal.Value.v191_term, h0, h1, h2, h3, h4, h5, h6, h7, h8]

/-- For finite arguments the kernel's result is the reference's. -/
theorem algebraic : Cert.algebraic_AttnIdeal_AttnRefIdeal_pre_attn_finite := by
  intro m ρ m' ρ' hpre hagree
  refine ⟨_, Cert.AttnIdeal.Value.run_blocks m ρ, ?_⟩
  refine (θ_run Cert.AttnRefIdeal.defs _ _).mono (fun _ h c => ⟨(h c).1.trans ?_, (h c).2⟩) (Cert.AttnRefIdeal.Value.run (F := Ideal) m' ρ')
  obtain ⟨r0, r1, r2, r3, r4, r5, r6, r7⟩ := finite_args _ _ _ _ _ _ _ _ _ (hpre c)
  obtain ⟨e0, e1, e2, e3, e4, e5, e6, e7, e8⟩ := hagree c
  have hk := kout_eq _ _ _ _ _ _ _ _ _ (launchContents m' c) _ _ _ _ _ (Cert.AttnIdeal.Value.q_at m c) (Cert.AttnIdeal.Value.k_at m c)
    (Cert.AttnIdeal.Value.v_at m c) (Cert.AttnIdeal.Value.lam_at m c) (Cert.AttnIdeal.Value.g_at m c) r0 r1 r2 r3 r4 r5 r6 r7
  have ht := ref_term (launchContents m' c) _ _ _ _ _ _ _ _ _ _ e0 e1 e2 e3 e4 e5 e6 e7 e8 ((Cert.AttnIdeal.Value.final m c).trans hk)
  unfold Cert.AttnRefIdeal.Value.RF at ht
  exact ht

end Cert.AttnClaims

end
-- ==== Proof.InProj.Run.lean ====
/- The run of the input projection's program: every buffer ends at the contents the segments leave. -/
module
public import proofs.«01_k».proof.Proof.Gen.InProjIdeal.Frame
@[expose] public section
set_option maxRecDepth 16384
noncomputable section
namespace Cert.InProjIdeal.Value
open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each buffer that outlives the kernels at its contents after the last segment. -/
theorem run_all : θ_run defs (onTc (τ := τ) (main (F := F))) ⟨m, fun _ => 0, ρ⟩ (fun r => ∀ c : Dev nD,
      ∀ b ∈ Pipeline.ucRefs τ sig, r.2.mem (c, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.InProjIdeal.Value
-- ==== Proof.InProj.Kernel.lean ====
/- The result arrays of the input projection's two launches. -/
module
public import proofs.«01_k».proof.Proof.Gen.InProjIdeal.Frame
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.InProjIdeal.Value
open Cert.InProjIdeal Cert.InProjIdeal.Gen
variable (V : (c : Dev nD) → (b : Ref sig .tc) → Buf (Elt Ideal) ((c : Thread nD τ).loc b))

/-- The product of all rows with the wide weights. -/
def mm0 (A : FVec Ideal S34816x1024 .f32) (B : FVec Ideal S1024x12288 .bf16) : FVec Ideal S34816x12288 .f32 :=
  fun y => ∑ k : Fin 1024, A (ix2 (y 0) k) * B (ix2 k (y 1))

/-- The product of all rows with the narrow weights. -/
def mm1 (A : FVec Ideal S34816x1024 .f32) (B : FVec Ideal S1024x128 .bf16) : FVec Ideal S34816x128 .f32 :=
  fun y => ∑ k : Fin 1024, A (ix2 (y 0) k) * B (ix2 k (y 1))

/-- The block index of each window of the first launch at each grid point. -/
theorem idx0 : ∀ t : Fin cfg0.N, win0_0.index t = ![t.val / 12, 0] ∧ win0_1.index t = ![0, t.val % 12]
    ∧ win0_2.index t = ![t.val / 12, t.val % 12] :=
  (by decide +kernel : ∀ t : Fin grid0.N, _)

/-- The block index of each window of the second launch at each grid point. -/
theorem idx1 : ∀ t : Fin cfg1.N, win1_0.index t = ![t.val, 0] ∧ win1_1.index t = ![0, 0]
    ∧ win1_2.index t = ![t.val, 0] :=
  (by decide +kernel : ∀ t : Fin grid1.N, _)

/-- The number of grid points of the first launch. -/
theorem tlt0 (t : Fin cfg0.N) : t.val < 408 := lt_of_lt_of_eq t.isLt (by decide +kernel)

/-- The number of grid points of the second launch. -/
theorem tlt1 (t : Fin cfg1.N) : t.val < 34 := lt_of_lt_of_eq t.isLt (by decide +kernel)

/-- A row block's element in the first launch, of any array. -/
theorem rd00 (A : FVec Ideal S34816x1024 .f32) (t : Fin cfg0.N) (r k : Fin 1024) :
    ((cfg0.win 0).blk t).view.read (Elt Ideal) A (ix2 r k)
      = A (ix2 ⟨t.val / 12 * 1024 + r.val, by have := tlt0 t; omega⟩ k) := by
  blk_ext [idx0 t]

/-- A weight block's element in the first launch, of any array. -/
theorem rd01 (A : FVec Ideal S1024x12288 .bf16) (t : Fin cfg0.N) (k e : Fin 1024) :
    ((cfg0.win 1).blk t).view.read (Elt Ideal) A (ix2 k e)
      = A (ix2 k ⟨t.val % 12 * 1024 + e.val, by omega⟩) := by
  blk_ext [idx0 t]

/-- A row block's element in the second launch, of any array. -/
theorem rd10 (A : FVec Ideal S34816x1024 .f32) (t : Fin cfg1.N) (r k : Fin 1024) :
    ((cfg1.win 0).blk t).view.read (Elt Ideal) A (ix2 r k)
      = A (ix2 ⟨t.val * 1024 + r.val, by have := tlt1 t; omega⟩ k) := by
  blk_ext [idx1 t]

/-- A weight block's element in the second launch, of any array. -/
theorem rd11 (A : FVec Ideal S1024x128 .bf16) (t : Fin cfg1.N) (k : Fin 1024) (e : Fin 128) :
    ((cfg1.win 1).blk t).view.read (Elt Ideal) A (ix2 k e) = A (ix2 k e) := by
  blk_ext [idx1 t]

/-- One element of the block a grid point of the first launch stores. -/
theorem point0 (x0 : Vec Ideal S1024x1024 .f32) (x1 : Vec Ideal S1024x1024 .bf16) (r e : Fin 1024) :
    k0_pay1 (F := Ideal) x0 x1 (ix2 r e) = ∑ k : Fin 1024, x0 (ix2 r k) * x1 (ix2 k e) := by
  pointwise [k0_pay1]

/-- One element of the block a grid point of the second launch stores. -/
theorem point1 (x0 : Vec Ideal S1024x1024 .f32) (x1 : Vec Ideal S1024x128 .bf16) (r : Fin 1024) (e : Fin 128) :
    k1_pay1 (F := Ideal) x0 x1 (ix2 r e) = ∑ k : Fin 1024, x0 (ix2 r k) * x1 (ix2 k e) := by
  pointwise [k1_pay1]

/-- The first launch's result array, over the arrays it is launched on. -/
theorem final0 (c : Dev nD) : (dat0 V c).arrAt 2 cfg0.N = mm0 (V c main_v12) (V c main_v8) := by
  refine (dat0 V c).arrAt_eq_of_covers 2 _ (by decide +kernel) fun t _ y => ?_
  blk_simp
  rw [after0_2]
  unfold out0_2
  frame_out
  generalize hG : mm0 (V c main_v12) (V c main_v8) = G
  obtain ⟨r, e, rfl⟩ : ∃ (r e : Fin 1024), y = ix2 r e := ⟨y 0, y 1, by blk_ext⟩
  have hemb : ((View.whole main_v13).slice (win0_2.rect t)).emb (ix2 r e)
      = (ix2 ⟨t.val / 12 * 1024 + r.val, by have := tlt0 t; omega⟩ ⟨t.val % 12 * 1024 + e.val, by omega⟩ : S34816x12288.Idx) := by
    blk_ext [idx0 t]
  rw [hemb, ← hG]
  refine (point0 (iblk0 V c 0 t) (iblk0 V c 1 t) r e).trans ?_
  refine Finset.sum_congr rfl fun k _ => ?_
  exact congrArg₂ (fun a b : EReal => a * b) (rd00 (V c main_v12) t r k) (rd01 (V c main_v8) t k e)

/-- The second launch's result array, over the arrays it is launched on. -/
theorem final1 (c : Dev nD) : (dat1 V c).arrAt 2 cfg1.N = mm1 (V c main_v21) (V c main_v11) := by
  refine (dat1 V c).arrAt_eq_of_covers 2 _ (by decide +kernel) fun t _ y => ?_
  blk_simp
  rw [after1_2]
  unfold out1_2
  frame_out
  generalize hG : mm1 (V c main_v21) (V c main_v11) = G
  obtain ⟨r, e, rfl⟩ : ∃ (r : Fin 1024) (e : Fin 128), y = ix2 r e := ⟨y 0, y 1, by blk_ext⟩
  have hemb : ((View.whole main_v22).slice (win1_2.rect t)).emb (ix2 r e)
      = (ix2 ⟨t.val * 1024 + r.val, by have := tlt1 t; omega⟩ e : S34816x128.Idx) := by
    blk_ext [idx1 t]
  rw [hemb, ← hG]
  refine (point1 (iblk1 V c 0 t) (iblk1 V c 1 t) r e).trans ?_
  refine Finset.sum_congr rfl fun k _ => ?_
  exact congrArg₂ (fun a b : EReal => a * b) (rd10 (V c main_v21) t r k) (rd11 (V c main_v11) t k e)

end Cert.InProjIdeal.Value
-- ==== Proof.InProj.Host.lean ====
/- The arrays the input projection's launches read and the arrays its program returns. -/
module
public import proofs.«01_k».proof.Proof.InProj.Kernel
@[expose] public section
set_option maxRecDepth 16384
noncomputable section
open Idealize.ShloMosaic Idealize.ShloMosaic.TcCoe Idealize.SL.Sem
namespace Cert.InProjIdeal.Value
open Cert.InProjIdeal Cert.InProjIdeal.Gen
variable (m : (ℓ : Loc nD τ sig) → Buf (Elt Ideal) ℓ) (ρ : Dev nD → PrngReg)

/-- All rows: per batch the context tokens, then the latent tokens. -/
def KX (a0 : FVec Ideal S8x256x1024 .f32) (a1 : FVec Ideal S8x4096x1024 .f32) : FVec Ideal S34816x1024 .f32 :=
  shapeCast S34816x1024 (concatenate S8x4352x1024 1 [⟨S8x256x1024, a0⟩, ⟨S8x4096x1024, a1⟩] concatenates_S8x256x1024_S8x4096x1024_S8x4352x1024_d1) shapeCasts_S8x4352x1024_S34816x1024

/-- The wide weights: all columns of the weights but the thirty-two of the two small parts. -/
def KB (w : FVec Ideal S1024x12320 .f32) : FVec Ideal S1024x12288 .bf16 :=
  truncf (F := Ideal) .bf16 (concatenate S1024x12288 1
    [⟨S1024x3072, extractStridedSlice S1024x3072 ![0, 0] w slices_S1024x12320_S1024x3072_0_0⟩,
     ⟨S1024x3072, extractStridedSlice S1024x3072 ![0, 3072] w slices_S1024x12320_S1024x3072_0_3072⟩,
     ⟨S1024x1024, extractStridedSlice S1024x1024 ![0, 6144] w slices_S1024x12320_S1024x1024_0_6144⟩,
     ⟨S1024x1024, extractStridedSlice S1024x1024 ![0, 7200] w slices_S1024x12320_S1024x1024_0_7200⟩,
     ⟨S1024x1024, extractStridedSlice S1024x1024 ![0, 8224] w slices_S1024x12320_S1024x1024_0_8224⟩,
     ⟨S1024x3072, extractStridedSlice S1024x3072 ![0, 9248] w slices_S1024x12320_S1024x3072_0_9248⟩]
    concatenates_S1024x3072_S1024x3072_S1024x1024_S1024x1024_S1024x1024_S1024x3072_S1024x12288_d1) bitsLt_bf16_f32

/-- The narrow weights: the thirty-two columns of the small parts, padded. -/
def KS (w : FVec Ideal S1024x12320 .f32) : FVec Ideal S1024x128 .bf16 :=
  truncf (F := Ideal) .bf16 (pad S1024x128 ![0, 0] ![0, 96] ![0, 0]
    (extractStridedSlice S1024x32 ![0, 7168] w slices_S1024x12320_S1024x32_0_7168)
    (sitofp (F := Ideal) .f32 (constantI S_ 32 0#32)) pads_S1024x32_S1024x128_000_0960 h_S_) bitsLt_bf16_f32

/-- The rows the first launch reads. -/
theorem v12_term (c : Dev nD) : V3 m ρ c main_v12 = KX (m ((c : Thread nD τ).loc main_arg0)) (m ((c : Thread nD τ).loc main_arg1)) := by
  unfold KX
  show StableHlo.after hostOps0_2 _ _ = _
  entry_read
  rfl

/-- The weights the first launch reads. -/
theorem v8_term (c : Dev nD) : V3 m ρ c main_v8 = KB (m ((c : Thread nD τ).loc main_arg2)) := by
  unfold KB
  show StableHlo.after hostOps0_2 _ _ = _
  after_results_simp <;> rfl

/-- The weights the second launch reads. -/
theorem v11_term (c : Dev nD) : V5 m ρ c main_v11 = KS (m ((c : Thread nD τ).loc main_arg2)) := by
  refine (W5_of m ρ c main_v11 (by decide)).trans ((W4_of m ρ c main_v11 (by decide)).trans ?_)
  unfold KS
  show StableHlo.after hostOps0_2 (StableHlo.after hostOps0_1 (StableHlo.after hostOps0 (W0 m ρ c))) (Proc.devRef .tc main_v11) = _
  after_results_simp <;> rfl

/-- The token rows before either launch. -/
theorem v0_term (c : Dev nD) : W4 m ρ c (Proc.devRef .tc main_v0) = concatenate S8x4352x1024 1 [⟨S8x256x1024, m ((c : Thread nD τ).loc main_arg0)⟩, ⟨S8x4096x1024, m ((c : Thread nD τ).loc main_arg1)⟩] concatenates_S8x256x1024_S8x4096x1024_S8x4352x1024_d1 := by
  refine (W4_of m ρ c main_v0 (by decide)).trans ?_
  show StableHlo.after hostOps0_2 (StableHlo.after hostOps0_1 (StableHlo.after hostOps0 (W0 m ρ c))) _ = _
  after_results_simp <;> rfl

/-- The rows the second launch reads. -/
theorem v21_term (c : Dev nD) : V5 m ρ c main_v21 = KX (m ((c : Thread nD τ).loc main_arg0)) (m ((c : Thread nD τ).loc main_arg1)) := by
  have h : V5 m ρ c main_v21 = shapeCast S34816x1024 (W4 m ρ c (Proc.devRef .tc main_v0)) shapeCasts_S8x4352x1024_S34816x1024 := by
    show StableHlo.after hostOps1 (W4 m ρ c) _ = _
    after_results_simp <;> rfl
  rw [h, v0_term]
  rfl

/-- The first launch's result. -/
theorem v13_term (c : Dev nD) : W4 m ρ c (Proc.devRef .tc main_v13)
    = mm0 (KX (m ((c : Thread nD τ).loc main_arg0)) (m ((c : Thread nD τ).loc main_arg1))) (KB (m ((c : Thread nD τ).loc main_arg2))) := by
  refine (W4_arr m ρ c 2).trans ((final0 (V3 m ρ) c).trans ?_)
  rw [v12_term, v8_term]

/-- The second launch's result. -/
theorem v22_term (c : Dev nD) : W6 m ρ c (Proc.devRef .tc main_v22)
    = mm1 (KX (m ((c : Thread nD τ).loc main_arg0)) (m ((c : Thread nD τ).loc main_arg1))) (KS (m ((c : Thread nD τ).loc main_arg2))) := by
  refine (W6_arr m ρ c 2).trans ((final1 (V5 m ρ) c).trans ?_)
  rw [v21_term, v11_term]

/-- A part of the first launch's result that is returned. -/
theorem out_big (c : Dev nD) (r : Ref sig .tc) (h2 : r ∉ hostOps2_W) (h1 : ∀ w : Fin cfg1.W, Pipeline.arrRef spec1 w = r → (cfg1.win w).isOut = false) :
    W7 m ρ c (Proc.devRef .tc r) = W5 m ρ c (Proc.devRef .tc r) :=
  (W7_of m ρ c r h2).trans (W6_of m ρ c r h1)

/-- The attention part. -/
theorem v15_term (c : Dev nD) : W7 m ρ c (Proc.devRef .tc main_v15) = extractStridedSlice S8x4352x3072 ![0, 0, 0]
    (shapeCast S8x4352x12288 (W4 m ρ c (Proc.devRef .tc main_v13)) shapeCasts_S34816x12288_S8x4352x12288) slices_S8x4352x12288_S8x4352x3072_0_0_0 := by
  refine (out_big m ρ c main_v15 (by decide) (by decide)).trans ?_
  show StableHlo.after hostOps1 (W4 m ρ c) _ = _
  after_results_simp <;> rfl

/-- The part of the gated delta rule. -/
theorem v16_term (c : Dev nD) : W7 m ρ c (Proc.devRef .tc main_v16) = extractStridedSlice S8x4352x3072 ![0, 0, 3072]
    (shapeCast S8x4352x12288 (W4 m ρ c (Proc.devRef .tc main_v13)) shapeCasts_S34816x12288_S8x4352x12288) slices_S8x4352x12288_S8x4352x3072_0_0_3072 := by
  refine (out_big m ρ c main_v16 (by decide) (by decide)).trans ?_
  show StableHlo.after hostOps1 (W4 m ρ c) _ = _
  after_results_simp <;> rfl

/-- The output gate of the gated delta rule. -/
theorem v17_term (c : Dev nD) : W7 m ρ c (Proc.devRef .tc main_v17) = extractStridedSlice S8x4352x1024 ![0, 0, 6144]
    (shapeCast S8x4352x12288 (W4 m ρ c (Proc.devRef .tc main_v13)) shapeCasts_S34816x12288_S8x4352x12288) slices_S8x4352x12288_S8x4352x1024_0_0_6144 := by
  refine (out_big m ρ c main_v17 (by decide) (by decide)).trans ?_
  show StableHlo.after hostOps1 (W4 m ρ c) _ = _
  after_results_simp <;> rfl

/-- The input of the linear recurrence. -/
theorem v18_term (c : Dev nD) : W7 m ρ c (Proc.devRef .tc main_v18) = extractStridedSlice S8x4352x1024 ![0, 0, 7168]
    (shapeCast S8x4352x12288 (W4 m ρ c (Proc.devRef .tc main_v13)) shapeCasts_S34816x12288_S8x4352x12288) slices_S8x4352x12288_S8x4352x1024_0_0_7168 := by
  refine (out_big m ρ c main_v18 (by decide) (by decide)).trans ?_
  show StableHlo.after hostOps1 (W4 m ρ c) _ = _
  after_results_simp <;> rfl

/-- The gate of the linear recurrence. -/
theorem v19_term (c : Dev nD) : W7 m ρ c (Proc.devRef .tc main_v19) = extractStridedSlice S8x4352x1024 ![0, 0, 8192]
    (shapeCast S8x4352x12288 (W4 m ρ c (Proc.devRef .tc main_v13)) shapeCasts_S34816x12288_S8x4352x12288) slices_S8x4352x12288_S8x4352x1024_0_0_8192 := by
  refine (out_big m ρ c main_v19 (by decide) (by decide)).trans ?_
  show StableHlo.after hostOps1 (W4 m ρ c) _ = _
  after_results_simp <;> rfl

/-- The merge gates. -/
theorem v20_term (c : Dev nD) : W7 m ρ c (Proc.devRef .tc main_v20) = extractStridedSlice S8x4352x3072 ![0, 0, 9216]
    (shapeCast S8x4352x12288 (W4 m ρ c (Proc.devRef .tc main_v13)) shapeCasts_S34816x12288_S8x4352x12288) slices_S8x4352x12288_S8x4352x3072_0_0_9216 := by
  refine (out_big m ρ c main_v20 (by decide) (by decide)).trans ?_
  show StableHlo.after hostOps1 (W4 m ρ c) _ = _
  after_results_simp <;> rfl

/-- The write strengths of the gated delta rule. -/
theorem v24_term (c : Dev nD) : W7 m ρ c (Proc.devRef .tc main_v24) = extractStridedSlice S8x4352x16 ![0, 0, 0]
    (shapeCast S8x4352x128 (W6 m ρ c (Proc.devRef .tc main_v22)) shapeCasts_S34816x128_S8x4352x128) slices_S8x4352x128_S8x4352x16_0_0_0 := by
  show StableHlo.after hostOps2 (W6 m ρ c) _ = _
  after_results_simp <;> rfl

/-- The decays of the gated delta rule. -/
theorem v25_term (c : Dev nD) : W7 m ρ c (Proc.devRef .tc main_v25) = extractStridedSlice S8x4352x16 ![0, 0, 16]
    (shapeCast S8x4352x128 (W6 m ρ c (Proc.devRef .tc main_v22)) shapeCasts_S34816x128_S8x4352x128) slices_S8x4352x128_S8x4352x16_0_0_16 := by
  show StableHlo.after hostOps2 (W6 m ρ c) _ = _
  after_results_simp <;> rfl

end Cert.InProjIdeal.Value
-- ==== Proof.InProj.Claims.lean ====
/- The claims about the input projection. -/
module
public import proofs.«01_k».proof.Defs
public import proofs.«01_k».proof.Proof.Gen.InProj.Frame
public import proofs.«01_k».proof.Proof.Gen.InProjRefIdeal.Run
public import proofs.«01_k».proof.Proof.InProj.Run
public import proofs.«01_k».proof.Proof.InProj.Host
@[expose] public section
set_option maxRecDepth 16384
noncomputable section

/-! ## The reference's terms -/

namespace Cert.InProjRefIdeal.Value
open Idealize.ShloMosaic Idealize.ShloMosaic.TcCoe Idealize.SL.Sem
open Cert.InProjRefIdeal Cert.InProjRefIdeal.Gen
variable (a0 : FVec Ideal S8x256x1024 .f32) (a1 : FVec Ideal S8x4096x1024 .f32) (w : FVec Ideal S1024x12320 .f32)

/-- The context tokens' projection. -/
def RC : FVec Ideal S8x256x12320 .f32 := Host.dotGeneral dot_S8x256x1024_S1024x12320_S8x256x12320_2_0_01_1_n_n none a0 w

/-- The latent tokens' projection. -/
def RL : FVec Ideal S8x4096x12320 .f32 := Host.dotGeneral dot_S8x4096x1024_S1024x12320_S8x4096x12320_2_0_01_1_n_n none a1 w

/-- The reference's result: the attention part. -/
def Rv18 : FVec Ideal S8x4352x3072 .f32 :=
  concatenate S8x4352x3072 1 [⟨S8x256x3072, extractStridedSlice S8x256x3072 ![0, 0, 0] (RC a0 w) slices_S8x256x12320_S8x256x3072_0_0_0⟩,
    ⟨S8x4096x3072, extractStridedSlice S8x4096x3072 ![0, 0, 0] (RL a1 w) slices_S8x4096x12320_S8x4096x3072_0_0_0⟩] concatenates_S8x256x3072_S8x4096x3072_S8x4352x3072_d1

/-- The reference's result: the gated delta rule part. -/
def Rv19 : FVec Ideal S8x4352x3072 .f32 :=
  concatenate S8x4352x3072 1 [⟨S8x256x3072, extractStridedSlice S8x256x3072 ![0, 0, 3072] (RC a0 w) slices_S8x256x12320_S8x256x3072_0_0_3072⟩,
    ⟨S8x4096x3072, extractStridedSlice S8x4096x3072 ![0, 0, 3072] (RL a1 w) slices_S8x4096x12320_S8x4096x3072_0_0_3072⟩] concatenates_S8x256x3072_S8x4096x3072_S8x4352x3072_d1

/-- The reference's result: the gated delta rule output gate. -/
def Rv20 : FVec Ideal S8x4352x1024 .f32 :=
  concatenate S8x4352x1024 1 [⟨S8x256x1024, extractStridedSlice S8x256x1024 ![0, 0, 6144] (RC a0 w) slices_S8x256x12320_S8x256x1024_0_0_6144⟩,
    ⟨S8x4096x1024, extractStridedSlice S8x4096x1024 ![0, 0, 6144] (RL a1 w) slices_S8x4096x12320_S8x4096x1024_0_0_6144⟩] concatenates_S8x256x1024_S8x4096x1024_S8x4352x1024_d1

/-- The reference's result: the gated delta rule write strengths. -/
def Rv21 : FVec Ideal S8x4352x16 .f32 :=
  concatenate S8x4352x16 1 [⟨S8x256x16, extractStridedSlice S8x256x16 ![0, 0, 7168] (RC a0 w) slices_S8x256x12320_S8x256x16_0_0_7168⟩,
    ⟨S8x4096x16, extractStridedSlice S8x4096x16 ![0, 0, 7168] (RL a1 w) slices_S8x4096x12320_S8x4096x16_0_0_7168⟩] concatenates_S8x256x16_S8x4096x16_S8x4352x16_d1

/-- The reference's result: the gated delta rule decays. -/
def Rv22 : FVec Ideal S8x4352x16 .f32 :=
  concatenate S8x4352x16 1 [⟨S8x256x16, extractStridedSlice S8x256x16 ![0, 0, 7184] (RC a0 w) slices_S8x256x12320_S8x256x16_0_0_7184⟩,
    ⟨S8x4096x16, extractStridedSlice S8x4096x16 ![0, 0, 7184] (RL a1 w) slices_S8x4096x12320_S8x4096x16_0_0_7184⟩] concatenates_S8x256x16_S8x4096x16_S8x4352x16_d1

/-- The reference's result: the linear recurrence input. -/
def Rv23 : FVec Ideal S8x4352x1024 .f32 :=
  concatenate S8x4352x1024 1 [⟨S8x256x1024, extractStridedSlice S8x256x1024 ![0, 0, 7200] (RC a0 w) slices_S8x256x12320_S8x256x1024_0_0_7200⟩,
    ⟨S8x4096x1024, extractStridedSlice S8x4096x1024 ![0, 0, 7200] (RL a1 w) slices_S8x4096x12320_S8x4096x1024_0_0_7200⟩] concatenates_S8x256x1024_S8x4096x1024_S8x4352x1024_d1

/-- The reference's result: the linear recurrence gate. -/
def Rv24 : FVec Ideal S8x4352x1024 .f32 :=
  concatenate S8x4352x1024 1 [⟨S8x256x1024, extractStridedSlice S8x256x1024 ![0, 0, 8224] (RC a0 w) slices_S8x256x12320_S8x256x1024_0_0_8224⟩,
    ⟨S8x4096x1024, extractStridedSlice S8x4096x1024 ![0, 0, 8224] (RL a1 w) slices_S8x4096x12320_S8x4096x1024_0_0_8224⟩] concatenates_S8x256x1024_S8x4096x1024_S8x4352x1024_d1

/-- The reference's result: the merge gates. -/
def Rv25 : FVec Ideal S8x4352x3072 .f32 :=
  concatenate S8x4352x3072 1 [⟨S8x256x3072, extractStridedSlice S8x256x3072 ![0, 0, 9248] (RC a0 w) slices_S8x256x12320_S8x256x3072_0_0_9248⟩,
    ⟨S8x4096x3072, extractStridedSlice S8x4096x3072 ![0, 0, 9248] (RL a1 w) slices_S8x4096x12320_S8x4096x3072_0_0_9248⟩] concatenates_S8x256x3072_S8x4096x3072_S8x4352x3072_d1

end Cert.InProjRefIdeal.Value

namespace Cert.InProjClaims
open Idealize.ShloMosaic Idealize.ShloMosaic.TcCoe Idealize.SL.Sem
open Cert.InProjIdeal Cert.InProjIdeal.Gen Cert.InProjIdeal.Value
variable (a0 : FVec Ideal S8x256x1024 .f32) (a1 : FVec Ideal S8x4096x1024 .f32) (w : FVec Ideal S1024x12320 .f32)

/-- A token's row of the kernel's input is its context row, or its latent row. -/
theorem KX_at (b : Fin 8) (t : Fin 4352) (k : Fin 1024) :
    KX a0 a1 (ix2 ⟨b.val * 4352 + t.val, by omega⟩ k)
      = if h : t.val < 256 then a0 (ix3 b ⟨t.val, h⟩ k) else a1 (ix3 b ⟨t.val - 256, by omega⟩ k) := by
  pointwise [KX]

/-- A token's row times a kernel column `f` that is the column `q` of the layer's weights. -/
theorem row_col (f : Fin 1024 → EReal) (q : Fin 12320) (hf : ∀ k, f k = w (ix2 k q)) (b : Fin 8) (t : Fin 4352) :
    (∑ k : Fin 1024, KX a0 a1 (ix2 ⟨b.val * 4352 + t.val, by omega⟩ k) * f k)
      = if h : t.val < 256 then ∑ k : Fin 1024, a0 (ix3 b ⟨t.val, h⟩ k) * w (ix2 k q)
        else ∑ k : Fin 1024, a1 (ix3 b ⟨t.val - 256, by omega⟩ k) * w (ix2 k q) := by
  by_cases h : t.val < 256
  · rw [dif_pos h]
    refine Finset.sum_congr rfl fun k _ => ?_
    rw [KX_at, hf, dif_pos h]
  · rw [dif_neg h]
    refine Finset.sum_congr rfl fun k _ => ?_
    rw [KX_at, hf, dif_neg h]

/-- The kernel's weight columns for the attention part. -/
theorem col_v15 (k : Fin 1024) (e : Fin 3072) : KB w (ix2 k ⟨e.val, by omega⟩) = w (ix2 k ⟨e.val, by omega⟩) := by
  pointwise [KB]

/-- The kernel's result is the reference's: the attention part. -/
theorem eq_v15 : extractStridedSlice S8x4352x3072 ![0, 0, 0]
    (shapeCast S8x4352x12288 (mm0 (KX a0 a1) (KB w)) shapeCasts_S34816x12288_S8x4352x12288) slices_S8x4352x12288_S8x4352x3072_0_0_0
    = Cert.InProjRefIdeal.Value.Rv18 a0 a1 w := by
  funext y
  obtain ⟨b, t, e, rfl⟩ : ∃ (b : Fin 8) (t : Fin 4352) (e : Fin 3072), y = ix3 b t e := ⟨y 0, y 1, y 2, eq_ix3 y⟩
  pointwise [mm0, Cert.InProjRefIdeal.Value.Rv18, Cert.InProjRefIdeal.Value.RC, Cert.InProjRefIdeal.Value.RL]
  exact row_col a0 a1 w _ ⟨e.val, by omega⟩ (fun k => col_v15 w k e) b t

/-- The kernel's weight columns for the gated delta rule part. -/
theorem col_v16 (k : Fin 1024) (e : Fin 3072) : KB w (ix2 k ⟨3072 + e.val, by omega⟩) = w (ix2 k ⟨3072 + e.val, by omega⟩) := by
  pointwise [KB]

/-- The kernel's result is the reference's: the gated delta rule part. -/
theorem eq_v16 : extractStridedSlice S8x4352x3072 ![0, 0, 3072]
    (shapeCast S8x4352x12288 (mm0 (KX a0 a1) (KB w)) shapeCasts_S34816x12288_S8x4352x12288) slices_S8x4352x12288_S8x4352x3072_0_0_3072
    = Cert.InProjRefIdeal.Value.Rv19 a0 a1 w := by
  funext y
  obtain ⟨b, t, e, rfl⟩ : ∃ (b : Fin 8) (t : Fin 4352) (e : Fin 3072), y = ix3 b t e := ⟨y 0, y 1, y 2, eq_ix3 y⟩
  pointwise [mm0, Cert.InProjRefIdeal.Value.Rv19, Cert.InProjRefIdeal.Value.RC, Cert.InProjRefIdeal.Value.RL]
  exact row_col a0 a1 w _ ⟨3072 + e.val, by omega⟩ (fun k => col_v16 w k e) b t

/-- The kernel's weight columns for the gated delta rule output gate. -/
theorem col_v17 (k : Fin 1024) (e : Fin 1024) : KB w (ix2 k ⟨6144 + e.val, by omega⟩) = w (ix2 k ⟨6144 + e.val, by omega⟩) := by
  pointwise [KB]
  rw [dif_neg (by omega), dif_neg (by omega), dif_pos (by omega)]
  exact congrArg w ((ix2_inj ..).2 ⟨rfl, Fin.ext (by dsimp only; omega)⟩)

/-- The kernel's result is the reference's: the gated delta rule output gate. -/
theorem eq_v17 : extractStridedSlice S8x4352x1024 ![0, 0, 6144]
    (shapeCast S8x4352x12288 (mm0 (KX a0 a1) (KB w)) shapeCasts_S34816x12288_S8x4352x12288) slices_S8x4352x12288_S8x4352x1024_0_0_6144
    = Cert.InProjRefIdeal.Value.Rv20 a0 a1 w := by
  funext y
  obtain ⟨b, t, e, rfl⟩ : ∃ (b : Fin 8) (t : Fin 4352) (e : Fin 1024), y = ix3 b t e := ⟨y 0, y 1, y 2, eq_ix3 y⟩
  pointwise [mm0, Cert.InProjRefIdeal.Value.Rv20, Cert.InProjRefIdeal.Value.RC, Cert.InProjRefIdeal.Value.RL]
  exact row_col a0 a1 w _ ⟨6144 + e.val, by omega⟩ (fun k => col_v17 w k e) b t

/-- The kernel's weight columns for the gated delta rule write strengths. -/
theorem col_v24 (k : Fin 1024) (e : Fin 16) : KS w (ix2 k ⟨e.val, by omega⟩) = w (ix2 k ⟨7168 + e.val, by omega⟩) := by
  pointwise [KS]
  rw [dif_pos (by omega)]

/-- The kernel's result is the reference's: the gated delta rule write strengths. -/
theorem eq_v24 : extractStridedSlice S8x4352x16 ![0, 0, 0]
    (shapeCast S8x4352x128 (mm1 (KX a0 a1) (KS w)) shapeCasts_S34816x128_S8x4352x128) slices_S8x4352x128_S8x4352x16_0_0_0
    = Cert.InProjRefIdeal.Value.Rv21 a0 a1 w := by
  funext y
  obtain ⟨b, t, e, rfl⟩ : ∃ (b : Fin 8) (t : Fin 4352) (e : Fin 16), y = ix3 b t e := ⟨y 0, y 1, y 2, eq_ix3 y⟩
  pointwise [mm1, Cert.InProjRefIdeal.Value.Rv21, Cert.InProjRefIdeal.Value.RC, Cert.InProjRefIdeal.Value.RL]
  exact row_col a0 a1 w _ ⟨7168 + e.val, by omega⟩ (fun k => col_v24 w k e) b t

/-- The kernel's weight columns for the gated delta rule decays. -/
theorem col_v25 (k : Fin 1024) (e : Fin 16) : KS w (ix2 k ⟨16 + e.val, by omega⟩) = w (ix2 k ⟨7184 + e.val, by omega⟩) := by
  pointwise [KS]
  rw [dif_pos (by omega)]
  exact congrArg w ((ix2_inj ..).2 ⟨rfl, Fin.ext (by dsimp only; omega)⟩)

/-- The kernel's result is the reference's: the gated delta rule decays. -/
theorem eq_v25 : extractStridedSlice S8x4352x16 ![0, 0, 16]
    (shapeCast S8x4352x128 (mm1 (KX a0 a1) (KS w)) shapeCasts_S34816x128_S8x4352x128) slices_S8x4352x128_S8x4352x16_0_0_16
    = Cert.InProjRefIdeal.Value.Rv22 a0 a1 w := by
  funext y
  obtain ⟨b, t, e, rfl⟩ : ∃ (b : Fin 8) (t : Fin 4352) (e : Fin 16), y = ix3 b t e := ⟨y 0, y 1, y 2, eq_ix3 y⟩
  pointwise [mm1, Cert.InProjRefIdeal.Value.Rv22, Cert.InProjRefIdeal.Value.RC, Cert.InProjRefIdeal.Value.RL]
  exact row_col a0 a1 w _ ⟨7184 + e.val, by omega⟩ (fun k => col_v25 w k e) b t

/-- The kernel's weight columns for the linear recurrence input. -/
theorem col_v18 (k : Fin 1024) (e : Fin 1024) : KB w (ix2 k ⟨7168 + e.val, by omega⟩) = w (ix2 k ⟨7200 + e.val, by omega⟩) := by
  pointwise [KB]
  rw [dif_neg (by omega), dif_neg (by omega), dif_neg (by omega), dif_pos (by omega)]
  exact congrArg w ((ix2_inj ..).2 ⟨rfl, Fin.ext (by dsimp only; omega)⟩)

/-- The kernel's result is the reference's: the linear recurrence input. -/
theorem eq_v18 : extractStridedSlice S8x4352x1024 ![0, 0, 7168]
    (shapeCast S8x4352x12288 (mm0 (KX a0 a1) (KB w)) shapeCasts_S34816x12288_S8x4352x12288) slices_S8x4352x12288_S8x4352x1024_0_0_7168
    = Cert.InProjRefIdeal.Value.Rv23 a0 a1 w := by
  funext y
  obtain ⟨b, t, e, rfl⟩ : ∃ (b : Fin 8) (t : Fin 4352) (e : Fin 1024), y = ix3 b t e := ⟨y 0, y 1, y 2, eq_ix3 y⟩
  pointwise [mm0, Cert.InProjRefIdeal.Value.Rv23, Cert.InProjRefIdeal.Value.RC, Cert.InProjRefIdeal.Value.RL]
  exact row_col a0 a1 w _ ⟨7200 + e.val, by omega⟩ (fun k => col_v18 w k e) b t

/-- The kernel's weight columns for the linear recurrence gate. -/
theorem col_v19 (k : Fin 1024) (e : Fin 1024) : KB w (ix2 k ⟨8192 + e.val, by omega⟩) = w (ix2 k ⟨8224 + e.val, by omega⟩) := by
  pointwise [KB]
  rw [dif_neg (by omega), dif_neg (by omega), dif_neg (by omega), dif_neg (by omega), dif_pos (by omega)]
  exact congrArg w ((ix2_inj ..).2 ⟨rfl, Fin.ext (by dsimp only; omega)⟩)

/-- The kernel's result is the reference's: the linear recurrence gate. -/
theorem eq_v19 : extractStridedSlice S8x4352x1024 ![0, 0, 8192]
    (shapeCast S8x4352x12288 (mm0 (KX a0 a1) (KB w)) shapeCasts_S34816x12288_S8x4352x12288) slices_S8x4352x12288_S8x4352x1024_0_0_8192
    = Cert.InProjRefIdeal.Value.Rv24 a0 a1 w := by
  funext y
  obtain ⟨b, t, e, rfl⟩ : ∃ (b : Fin 8) (t : Fin 4352) (e : Fin 1024), y = ix3 b t e := ⟨y 0, y 1, y 2, eq_ix3 y⟩
  pointwise [mm0, Cert.InProjRefIdeal.Value.Rv24, Cert.InProjRefIdeal.Value.RC, Cert.InProjRefIdeal.Value.RL]
  exact row_col a0 a1 w _ ⟨8224 + e.val, by omega⟩ (fun k => col_v19 w k e) b t

/-- The kernel's weight columns for the merge gates. -/
theorem col_v20 (k : Fin 1024) (e : Fin 3072) : KB w (ix2 k ⟨9216 + e.val, by omega⟩) = w (ix2 k ⟨9248 + e.val, by omega⟩) := by
  pointwise [KB]
  rw [dif_neg (by omega), dif_neg (by omega), dif_neg (by omega), dif_neg (by omega), dif_neg (by omega)]
  exact congrArg w ((ix2_inj ..).2 ⟨rfl, Fin.ext (by dsimp only; omega)⟩)

/-- The kernel's result is the reference's: the merge gates. -/
theorem eq_v20 : extractStridedSlice S8x4352x3072 ![0, 0, 9216]
    (shapeCast S8x4352x12288 (mm0 (KX a0 a1) (KB w)) shapeCasts_S34816x12288_S8x4352x12288) slices_S8x4352x12288_S8x4352x3072_0_0_9216
    = Cert.InProjRefIdeal.Value.Rv25 a0 a1 w := by
  funext y
  obtain ⟨b, t, e, rfl⟩ : ∃ (b : Fin 8) (t : Fin 4352) (e : Fin 3072), y = ix3 b t e := ⟨y 0, y 1, y 2, eq_ix3 y⟩
  pointwise [mm0, Cert.InProjRefIdeal.Value.Rv25, Cert.InProjRefIdeal.Value.RC, Cert.InProjRefIdeal.Value.RL]
  exact row_col a0 a1 w _ ⟨9248 + e.val, by omega⟩ (fun k => col_v20 w k e) b t

/-- The printed program runs and leaves its arguments. -/
theorem frame_p : Cert.quiescent_InProj := fun m ρ _ => Cert.InProj.Gen.frame m ρ

/-- Its ideal twin runs and leaves its arguments. -/
theorem frame_pi : Cert.quiescent_InProjIdeal := fun m ρ _ => Cert.InProjIdeal.Gen.frame m ρ

/-- The reference runs and leaves its arguments. -/
theorem frame_ri : Cert.quiescent_InProjRefIdeal := fun m ρ _ =>
  (θ_run Cert.InProjRefIdeal.defs _ _).mono (fun r h => ⟨fun c => (h c).2.2.2.2.2.2.2.2, sem_eq_zero_of_no_sems (by decide) r.2⟩)
    (Cert.InProjRefIdeal.Value.run (F := Ideal) m ρ)

/-- The ideal twin's text is the program's. -/
theorem preserves : Cert.preserves_InProj_InProjIdeal := trivial

/-- The kernel's eight projections are the reference's, whatever the arguments. -/
theorem algebraic : Cert.algebraic_InProjIdeal_InProjRefIdeal := by
  intro m ρ m' ρ' _ hagree
  refine ⟨_, _, _, _, _, _, _, _, (θ_run Cert.InProjIdeal.defs _ _).mono (fun r h c =>
    ⟨h c _ (mem_uc main_v15 (by decide)),
     h c _ (mem_uc main_v16 (by decide)),
     h c _ (mem_uc main_v17 (by decide)),
     h c _ (mem_uc main_v24 (by decide)),
     h c _ (mem_uc main_v25 (by decide)),
     h c _ (mem_uc main_v18 (by decide)),
     h c _ (mem_uc main_v19 (by decide)),
     h c _ (mem_uc main_v20 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ), ?_⟩
  refine (θ_run Cert.InProjRefIdeal.defs _ _).mono (fun _ h c => ?_) (Cert.InProjRefIdeal.Value.run (F := Ideal) m' ρ')
  obtain ⟨hv15, hv16, hv17, hv24, hv25, hv18, hv19, hv20, hr⟩ := h c
  obtain ⟨e0, e1, e2⟩ := hagree c
  refine ⟨hv15.trans ?_, hv16.trans ?_, hv17.trans ?_, hv24.trans ?_, hv25.trans ?_, hv18.trans ?_, hv19.trans ?_, hv20.trans ?_, hr⟩
  · refine Eq.trans ?_ (v15_term m ρ c).symm
    rw [v13_term, eq_v15, ← e0, ← e1, ← e2]
    rfl
  · refine Eq.trans ?_ (v16_term m ρ c).symm
    rw [v13_term, eq_v16, ← e0, ← e1, ← e2]
    rfl
  · refine Eq.trans ?_ (v17_term m ρ c).symm
    rw [v13_term, eq_v17, ← e0, ← e1, ← e2]
    rfl
  · refine Eq.trans ?_ (v24_term m ρ c).symm
    rw [v22_term, eq_v24, ← e0, ← e1, ← e2]
    rfl
  · refine Eq.trans ?_ (v25_term m ρ c).symm
    rw [v22_term, eq_v25, ← e0, ← e1, ← e2]
    rfl
  · refine Eq.trans ?_ (v18_term m ρ c).symm
    rw [v13_term, eq_v18, ← e0, ← e1, ← e2]
    rfl
  · refine Eq.trans ?_ (v19_term m ρ c).symm
    rw [v13_term, eq_v19, ← e0, ← e1, ← e2]
    rfl
  · refine Eq.trans ?_ (v20_term m ρ c).symm
    rw [v13_term, eq_v20, ← e0, ← e1, ← e2]
    rfl

end Cert.InProjClaims
-- ==== Proof.Merge.Run.lean ====
/- The run of the merge's program: every buffer ends at the contents the segments leave. -/
module
public import proofs.«01_k».proof.Proof.Gen.MergeIdeal.Frame
@[expose] public section
set_option maxRecDepth 16384
noncomputable section
namespace Cert.MergeIdeal.Value
open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each buffer that outlives the kernels at its contents after the last segment. -/
theorem run_all : θ_run defs (onTc (τ := τ) (main (F := F))) ⟨m, fun _ => 0, ρ⟩ (fun r => ∀ c : Dev nD,
      ∀ b ∈ Pipeline.ucRefs τ sig, r.2.mem (c, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.MergeIdeal.Value
-- ==== Proof.Merge.Kernel.lean ====
/- The result arrays of the merge's four launches. -/
module
public import proofs.«01_k».proof.Proof.Gen.MergeIdeal.Frame
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.MergeIdeal.Value
open Cert.MergeIdeal Cert.MergeIdeal.Gen
variable (V : (c : Dev nD) → (b : Ref sig .tc) → Buf (Elt Ideal) ((c : Thread nD τ).loc b))

/-- The product of all rows with square weights. -/
def mm (A : FVec Ideal S34816x1024 .f32) (B : FVec Ideal S1024x1024 .bf16) : FVec Ideal S34816x1024 .f32 :=
  fun y => ∑ k : Fin 1024, A (ix2 (y 0) k) * B (ix2 k (y 1))

/-- The block index of each window of the first launch at each grid point. -/
theorem idx0 : ∀ t : Fin cfg0.N, win0_0.index t = ![t.val, 0] ∧ win0_1.index t = ![0, 0]
    ∧ win0_2.index t = ![t.val, 0] :=
  (by decide +kernel : ∀ t : Fin grid0.N, _)

/-- The number of grid points of the first launch. -/
theorem tlt0 (t : Fin cfg0.N) : t.val < 34 := lt_of_lt_of_eq t.isLt (by decide +kernel)

/-- A row block's element in the first launch, of any array. -/
theorem rd00 (A : FVec Ideal S34816x1024 .f32) (t : Fin cfg0.N) (r k : Fin 1024) :
    ((cfg0.win 0).blk t).view.read (Elt Ideal) A (ix2 r k)
      = A (ix2 ⟨t.val * 1024 + r.val, by have := tlt0 t; omega⟩ k) := by
  blk_ext [idx0 t]

/-- A weight block's element in the first launch, of any array. -/
theorem rd01 (A : FVec Ideal S1024x1024 .bf16) (t : Fin cfg0.N) (k e : Fin 1024) :
    ((cfg0.win 1).blk t).view.read (Elt Ideal) A (ix2 k e) = A (ix2 k e) := by
  blk_ext [idx0 t]

/-- One element of the block a grid point of the first launch stores. -/
theorem point0 (x0 : Vec Ideal S1024x1024 .f32) (x1 : Vec Ideal S1024x1024 .bf16) (r e : Fin 1024) :
    k0_pay1 (F := Ideal) x0 x1 (ix2 r e) = ∑ k : Fin 1024, x0 (ix2 r k) * x1 (ix2 k e) := by
  pointwise [k0_pay1]

/-- The first launch's result array, over the arrays it is launched on. -/
theorem final0 (c : Dev nD) : (dat0 V c).arrAt 2 cfg0.N = mm (V c main_v16) (V c main_v15) := by
  refine (dat0 V c).arrAt_eq_of_covers 2 _ (by decide +kernel) fun t _ y => ?_
  blk_simp
  rw [after0_2]
  unfold out0_2
  frame_out
  generalize hG : mm (V c main_v16) (V c main_v15) = G
  obtain ⟨r, e, rfl⟩ : ∃ (r e : Fin 1024), y = ix2 r e := ⟨y 0, y 1, by blk_ext⟩
  have hemb : ((View.whole main_v17).slice (win0_2.rect t)).emb (ix2 r e)
      = (ix2 ⟨t.val * 1024 + r.val, by have := tlt0 t; omega⟩ e : S34816x1024.Idx) := by
    blk_ext [idx0 t]
  rw [hemb, ← hG]
  refine (point0 (iblk0 V c 0 t) (iblk0 V c 1 t) r e).trans ?_
  refine Finset.sum_congr rfl fun k _ => ?_
  exact congrArg₂ (fun a b : EReal => a * b) (rd00 (V c main_v16) t r k) (rd01 (V c main_v15) t k e)

/-- The block index of each window of the second launch at each grid point. -/
theorem idx1 : ∀ t : Fin cfg1.N, win1_0.index t = ![t.val, 0] ∧ win1_1.index t = ![0, 0]
    ∧ win1_2.index t = ![t.val, 0] :=
  (by decide +kernel : ∀ t : Fin grid1.N, _)

/-- The number of grid points of the second launch. -/
theorem tlt1 (t : Fin cfg1.N) : t.val < 34 := lt_of_lt_of_eq t.isLt (by decide +kernel)

/-- A row block's element in the second launch, of any array. -/
theorem rd10 (A : FVec Ideal S34816x1024 .f32) (t : Fin cfg1.N) (r k : Fin 1024) :
    ((cfg1.win 0).blk t).view.read (Elt Ideal) A (ix2 r k)
      = A (ix2 ⟨t.val * 1024 + r.val, by have := tlt1 t; omega⟩ k) := by
  blk_ext [idx1 t]

/-- A weight block's element in the second launch, of any array. -/
theorem rd11 (A : FVec Ideal S1024x1024 .bf16) (t : Fin cfg1.N) (k e : Fin 1024) :
    ((cfg1.win 1).blk t).view.read (Elt Ideal) A (ix2 k e) = A (ix2 k e) := by
  blk_ext [idx1 t]

/-- One element of the block a grid point of the second launch stores. -/
theorem point1 (x0 : Vec Ideal S1024x1024 .f32) (x1 : Vec Ideal S1024x1024 .bf16) (r e : Fin 1024) :
    k1_pay1 (F := Ideal) x0 x1 (ix2 r e) = ∑ k : Fin 1024, x0 (ix2 r k) * x1 (ix2 k e) := by
  pointwise [k1_pay1]

/-- The second launch's result array, over the arrays it is launched on. -/
theorem final1 (c : Dev nD) : (dat1 V c).arrAt 2 cfg1.N = mm (V c main_v22) (V c main_v21) := by
  refine (dat1 V c).arrAt_eq_of_covers 2 _ (by decide +kernel) fun t _ y => ?_
  blk_simp
  rw [after1_2]
  unfold out1_2
  frame_out
  generalize hG : mm (V c main_v22) (V c main_v21) = G
  obtain ⟨r, e, rfl⟩ : ∃ (r e : Fin 1024), y = ix2 r e := ⟨y 0, y 1, by blk_ext⟩
  have hemb : ((View.whole main_v23).slice (win1_2.rect t)).emb (ix2 r e)
      = (ix2 ⟨t.val * 1024 + r.val, by have := tlt1 t; omega⟩ e : S34816x1024.Idx) := by
    blk_ext [idx1 t]
  rw [hemb, ← hG]
  refine (point1 (iblk1 V c 0 t) (iblk1 V c 1 t) r e).trans ?_
  refine Finset.sum_congr rfl fun k _ => ?_
  exact congrArg₂ (fun a b : EReal => a * b) (rd10 (V c main_v22) t r k) (rd11 (V c main_v21) t k e)

/-- The block index of each window of the third launch at each grid point. -/
theorem idx2 : ∀ t : Fin cfg2.N, win2_0.index t = ![t.val, 0] ∧ win2_1.index t = ![0, 0]
    ∧ win2_2.index t = ![t.val, 0] :=
  (by decide +kernel : ∀ t : Fin grid2.N, _)

/-- The number of grid points of the third launch. -/
theorem tlt2 (t : Fin cfg2.N) : t.val < 34 := lt_of_lt_of_eq t.isLt (by decide +kernel)

/-- A row block's element in the third launch, of any array. -/
theorem rd20 (A : FVec Ideal S34816x1024 .f32) (t : Fin cfg2.N) (r k : Fin 1024) :
    ((cfg2.win 0).blk t).view.read (Elt Ideal) A (ix2 r k)
      = A (ix2 ⟨t.val * 1024 + r.val, by have := tlt2 t; omega⟩ k) := by
  blk_ext [idx2 t]

/-- A weight block's element in the third launch, of any array. -/
theorem rd21 (A : FVec Ideal S1024x1024 .bf16) (t : Fin cfg2.N) (k e : Fin 1024) :
    ((cfg2.win 1).blk t).view.read (Elt Ideal) A (ix2 k e) = A (ix2 k e) := by
  blk_ext [idx2 t]

/-- One element of the block a grid point of the third launch stores. -/
theorem point2 (x0 : Vec Ideal S1024x1024 .f32) (x1 : Vec Ideal S1024x1024 .bf16) (r e : Fin 1024) :
    k2_pay1 (F := Ideal) x0 x1 (ix2 r e) = ∑ k : Fin 1024, x0 (ix2 r k) * x1 (ix2 k e) := by
  pointwise [k2_pay1]

/-- The third launch's result array, over the arrays it is launched on. -/
theorem final2 (c : Dev nD) : (dat2 V c).arrAt 2 cfg2.N = mm (V c main_v29) (V c main_v28) := by
  refine (dat2 V c).arrAt_eq_of_covers 2 _ (by decide +kernel) fun t _ y => ?_
  blk_simp
  rw [after2_2]
  unfold out2_2
  frame_out
  generalize hG : mm (V c main_v29) (V c main_v28) = G
  obtain ⟨r, e, rfl⟩ : ∃ (r e : Fin 1024), y = ix2 r e := ⟨y 0, y 1, by blk_ext⟩
  have hemb : ((View.whole main_v30).slice (win2_2.rect t)).emb (ix2 r e)
      = (ix2 ⟨t.val * 1024 + r.val, by have := tlt2 t; omega⟩ e : S34816x1024.Idx) := by
    blk_ext [idx2 t]
  rw [hemb, ← hG]
  refine (point2 (iblk2 V c 0 t) (iblk2 V c 1 t) r e).trans ?_
  refine Finset.sum_congr rfl fun k _ => ?_
  exact congrArg₂ (fun a b : EReal => a * b) (rd20 (V c main_v29) t r k) (rd21 (V c main_v28) t k e)

/-- The block index of each window of the fourth launch at each grid point. -/
theorem idx3 : ∀ t : Fin cfg3.N, win3_0.index t = ![t.val, 0] ∧ win3_1.index t = ![0, 0]
    ∧ win3_2.index t = ![t.val, 0] :=
  (by decide +kernel : ∀ t : Fin grid3.N, _)

/-- The number of grid points of the fourth launch. -/
theorem tlt3 (t : Fin cfg3.N) : t.val < 34 := lt_of_lt_of_eq t.isLt (by decide +kernel)

/-- A row block's element in the fourth launch, of any array. -/
theorem rd30 (A : FVec Ideal S34816x1024 .f32) (t : Fin cfg3.N) (r k : Fin 1024) :
    ((cfg3.win 0).blk t).view.read (Elt Ideal) A (ix2 r k)
      = A (ix2 ⟨t.val * 1024 + r.val, by have := tlt3 t; omega⟩ k) := by
  blk_ext [idx3 t]

/-- A weight block's element in the fourth launch, of any array. -/
theorem rd31 (A : FVec Ideal S1024x1024 .bf16) (t : Fin cfg3.N) (k e : Fin 1024) :
    ((cfg3.win 1).blk t).view.read (Elt Ideal) A (ix2 k e) = A (ix2 k e) := by
  blk_ext [idx3 t]

/-- One element of the block a grid point of the fourth launch stores. -/
theorem point3 (x0 : Vec Ideal S1024x1024 .f32) (x1 : Vec Ideal S1024x1024 .bf16) (r e : Fin 1024) :
    k3_pay1 (F := Ideal) x0 x1 (ix2 r e) = ∑ k : Fin 1024, x0 (ix2 r k) * x1 (ix2 k e) := by
  pointwise [k3_pay1]

/-- The fourth launch's result array, over the arrays it is launched on. -/
theorem final3 (c : Dev nD) : (dat3 V c).arrAt 2 cfg3.N = mm (V c main_v35) (V c main_v34) := by
  refine (dat3 V c).arrAt_eq_of_covers 2 _ (by decide +kernel) fun t _ y => ?_
  blk_simp
  rw [after3_2]
  unfold out3_2
  frame_out
  generalize hG : mm (V c main_v35) (V c main_v34) = G
  obtain ⟨r, e, rfl⟩ : ∃ (r e : Fin 1024), y = ix2 r e := ⟨y 0, y 1, by blk_ext⟩
  have hemb : ((View.whole main_v36).slice (win3_2.rect t)).emb (ix2 r e)
      = (ix2 ⟨t.val * 1024 + r.val, by have := tlt3 t; omega⟩ e : S34816x1024.Idx) := by
    blk_ext [idx3 t]
  rw [hemb, ← hG]
  refine (point3 (iblk3 V c 0 t) (iblk3 V c 1 t) r e).trans ?_
  refine Finset.sum_congr rfl fun k _ => ?_
  exact congrArg₂ (fun a b : EReal => a * b) (rd30 (V c main_v35) t r k) (rd31 (V c main_v34) t k e)

end Cert.MergeIdeal.Value
-- ==== Proof.Merge.Host.lean ====
/- The arrays the merge's launches read and the array its program returns. -/
module
public import proofs.«01_k».proof.Proof.Merge.Kernel
@[expose] public section
set_option maxRecDepth 16384
noncomputable section
open Idealize.ShloMosaic Idealize.ShloMosaic.TcCoe Idealize.SL.Sem
namespace Cert.MergeIdeal.Value
open Cert.MergeIdeal Cert.MergeIdeal.Gen

/-! ## The terms, over any arguments -/

/-- Context tokens, then latent tokens. -/
def KX (a0 : FVec Ideal S8x256x1024 .f32) (a1 : FVec Ideal S8x4096x1024 .f32) : FVec Ideal S8x4352x1024 .f32 :=
  concatenate S8x4352x1024 1 [⟨S8x256x1024, a0⟩, ⟨S8x4096x1024, a1⟩] concatenates_S8x256x1024_S8x4096x1024_S8x4352x1024_d1

/-- The gates: the logistic function of the gate projection. -/
def KG (g0 : FVec Ideal S8x256x3072 .f32) (g1 : FVec Ideal S8x4096x3072 .f32) : FVec Ideal S8x4352x3072 .f32 :=
  Host.divf (broadcastInDim S8x4352x3072 ![] bcast_S_S8x4352x3072 (constant S_ .f32 0x3F800000#32))
    (addf (broadcastInDim S8x4352x3072 ![] bcast_S_S8x4352x3072 (constant S_ .f32 0x3F800000#32))
      (Host.exp (Host.negf (concatenate S8x4352x3072 1 [⟨S8x256x3072, g0⟩, ⟨S8x4096x3072, g1⟩] concatenates_S8x256x3072_S8x4096x3072_S8x4352x3072_d1))))

/-- The first branch's weights. -/
def KW0 (w : FVec Ideal S3x1024x1024 .f32) : FVec Ideal S1024x1024 .bf16 :=
  shapeCast S1024x1024 (extractStridedSlice S1x1024x1024 ![0, 0, 0] (truncf (F := Ideal) .bf16 w bitsLt_bf16_f32) slices_S3x1024x1024_S1x1024x1024_0_0_0) shapeCasts_S1x1024x1024_S1024x1024

/-- The first branch's gates. -/
def KG0 (G : FVec Ideal S8x4352x3072 .f32) : FVec Ideal S8x4352x1024 .f32 :=
  extractStridedSlice S8x4352x1024 ![0, 0, 0] G slices_S8x4352x3072_S8x4352x1024_0_0_0

/-- The second branch's weights. -/
def KW1 (w : FVec Ideal S3x1024x1024 .f32) : FVec Ideal S1024x1024 .bf16 :=
  shapeCast S1024x1024 (extractStridedSlice S1x1024x1024 ![1, 0, 0] (truncf (F := Ideal) .bf16 w bitsLt_bf16_f32) slices_S3x1024x1024_S1x1024x1024_1_0_0) shapeCasts_S1x1024x1024_S1024x1024

/-- The second branch's gates. -/
def KG1 (G : FVec Ideal S8x4352x3072 .f32) : FVec Ideal S8x4352x1024 .f32 :=
  extractStridedSlice S8x4352x1024 ![0, 0, 1024] G slices_S8x4352x3072_S8x4352x1024_0_0_1024

/-- The third branch's weights. -/
def KW2 (w : FVec Ideal S3x1024x1024 .f32) : FVec Ideal S1024x1024 .bf16 :=
  shapeCast S1024x1024 (extractStridedSlice S1x1024x1024 ![2, 0, 0] (truncf (F := Ideal) .bf16 w bitsLt_bf16_f32) slices_S3x1024x1024_S1x1024x1024_2_0_0) shapeCasts_S1x1024x1024_S1024x1024

/-- The third branch's gates. -/
def KG2 (G : FVec Ideal S8x4352x3072 .f32) : FVec Ideal S8x4352x1024 .f32 :=
  extractStridedSlice S8x4352x1024 ![0, 0, 2048] G slices_S8x4352x3072_S8x4352x1024_0_0_2048

/-- The product of all tokens' rows with square weights, token by token. -/
def KM (X : FVec Ideal S8x4352x1024 .f32) (B : FVec Ideal S1024x1024 .bf16) : FVec Ideal S8x4352x1024 .f32 :=
  shapeCast S8x4352x1024 (mm (shapeCast S34816x1024 X shapeCasts_S8x4352x1024_S34816x1024) B) shapeCasts_S34816x1024_S8x4352x1024

/-- The gated sum of the three branches. -/
def KY (X0 X1 X2 : FVec Ideal S8x4352x1024 .f32) (G : FVec Ideal S8x4352x3072 .f32) (w : FVec Ideal S3x1024x1024 .f32) : FVec Ideal S8x4352x1024 .f32 :=
  addf (F := Ideal) (addf (F := Ideal) (mulf (F := Ideal) (KG0 G) (KM X0 (KW0 w))) (mulf (F := Ideal) (KG1 G) (KM X1 (KW1 w)))) (mulf (F := Ideal) (KG2 G) (KM X2 (KW2 w)))

/-- The merged and projected branches. -/
def KO (X0 X1 X2 : FVec Ideal S8x4352x1024 .f32) (G : FVec Ideal S8x4352x3072 .f32) (w : FVec Ideal S3x1024x1024 .f32) (wo : FVec Ideal S1024x1024 .f32) : FVec Ideal S8x4352x1024 .f32 :=
  KM (KY X0 X1 X2 G w) (truncf (F := Ideal) .bf16 wo bitsLt_bf16_f32)

/-! ## What each buffer holds -/

variable (m : (ℓ : Loc nD τ sig) → Buf (Elt Ideal) ℓ) (ρ : Dev nD → PrngReg)

/-- The first launch's rows. -/
theorem v16_1 (c : Dev nD) : W1 m ρ c (Proc.devRef .tc main_v16)
    = shapeCast S34816x1024 (KX (m ((c : Thread nD τ).loc main_arg0)) (m ((c : Thread nD τ).loc main_arg1))) shapeCasts_S8x4352x1024_S34816x1024 := by
  show StableHlo.after hostOps0 (W0 m ρ c) _ = _
  after_results_simp <;> rfl

/-- The first launch's weights. -/
theorem v15_1 (c : Dev nD) : W1 m ρ c (Proc.devRef .tc main_v15)
    = KW0 (m ((c : Thread nD τ).loc main_arg8)) := by
  show StableHlo.after hostOps0 (W0 m ρ c) _ = _
  after_results_simp <;> rfl

/-- The second branch. -/
theorem v1_1 (c : Dev nD) : W1 m ρ c (Proc.devRef .tc main_v1)
    = (KX (m ((c : Thread nD τ).loc main_arg2)) (m ((c : Thread nD τ).loc main_arg3))) := by
  show StableHlo.after hostOps0 (W0 m ρ c) _ = _
  after_results_simp <;> rfl

/-- The third branch. -/
theorem v2_1 (c : Dev nD) : W1 m ρ c (Proc.devRef .tc main_v2)
    = (KX (m ((c : Thread nD τ).loc main_arg4)) (m ((c : Thread nD τ).loc main_arg5))) := by
  show StableHlo.after hostOps0 (W0 m ρ c) _ = _
  after_results_simp <;> rfl

/-- The branch weights. -/
theorem v4_1 (c : Dev nD) : W1 m ρ c (Proc.devRef .tc main_v4)
    = (truncf (F := Ideal) .bf16 (m ((c : Thread nD τ).loc main_arg8)) bitsLt_bf16_f32 : FVec Ideal S3x1024x1024 .bf16) := by
  show StableHlo.after hostOps0 (W0 m ρ c) _ = _
  after_results_simp <;> rfl

/-- The gates of branch 0, counting from zero. -/
theorem v11_1 (c : Dev nD) : W1 m ρ c (Proc.devRef .tc main_v11)
    = KG0 (KG (m ((c : Thread nD τ).loc main_arg6)) (m ((c : Thread nD τ).loc main_arg7))) := by
  show StableHlo.after hostOps0 (W0 m ρ c) _ = _
  after_results_simp <;> rfl

/-- The gates of branch 1, counting from zero. -/
theorem v12_1 (c : Dev nD) : W1 m ρ c (Proc.devRef .tc main_v12)
    = KG1 (KG (m ((c : Thread nD τ).loc main_arg6)) (m ((c : Thread nD τ).loc main_arg7))) := by
  show StableHlo.after hostOps0 (W0 m ρ c) _ = _
  after_results_simp <;> rfl

/-- The gates of branch 2, counting from zero. -/
theorem v13_1 (c : Dev nD) : W1 m ρ c (Proc.devRef .tc main_v13)
    = KG2 (KG (m ((c : Thread nD τ).loc main_arg6)) (m ((c : Thread nD τ).loc main_arg7))) := by
  show StableHlo.after hostOps0 (W0 m ρ c) _ = _
  after_results_simp <;> rfl

/-- The first launch's result. -/
theorem v17_2 (c : Dev nD) : W2 m ρ c (Proc.devRef .tc main_v17)
    = mm (shapeCast S34816x1024 (KX (m ((c : Thread nD τ).loc main_arg0)) (m ((c : Thread nD τ).loc main_arg1))) shapeCasts_S8x4352x1024_S34816x1024) (KW0 (m ((c : Thread nD τ).loc main_arg8))) := by
  refine (W2_arr m ρ c 2).trans ((final0 (V1 m ρ) c).trans ?_)
  exact congrArg₂ mm (v16_1 m ρ c) (v15_1 m ρ c)

/-- The same before the second line of host operations. -/
theorem v11_2 (c : Dev nD) : W2 m ρ c (Proc.devRef .tc main_v11)
    = KG0 (KG (m ((c : Thread nD τ).loc main_arg6)) (m ((c : Thread nD τ).loc main_arg7))) := by
  exact (W2_of m ρ c main_v11 (by decide)).trans (v11_1 m ρ c)

/-- The same before the second line of host operations. -/
theorem v4_2 (c : Dev nD) : W2 m ρ c (Proc.devRef .tc main_v4)
    = (truncf (F := Ideal) .bf16 (m ((c : Thread nD τ).loc main_arg8)) bitsLt_bf16_f32 : FVec Ideal S3x1024x1024 .bf16) := by
  exact (W2_of m ρ c main_v4 (by decide)).trans (v4_1 m ρ c)

/-- The same before the second line of host operations. -/
theorem v1_2 (c : Dev nD) : W2 m ρ c (Proc.devRef .tc main_v1)
    = (KX (m ((c : Thread nD τ).loc main_arg2)) (m ((c : Thread nD τ).loc main_arg3))) := by
  exact (W2_of m ρ c main_v1 (by decide)).trans (v1_1 m ρ c)

/-- The first gated branch. -/
theorem v19_3 (c : Dev nD) : W3 m ρ c (Proc.devRef .tc main_v19)
    = mulf (F := Ideal) (φ := .f32) (KG0 (KG (m ((c : Thread nD τ).loc main_arg6)) (m ((c : Thread nD τ).loc main_arg7)))) (KM (KX (m ((c : Thread nD τ).loc main_arg0)) (m ((c : Thread nD τ).loc main_arg1))) (KW0 (m ((c : Thread nD τ).loc main_arg8)))) := by
  have h : W3 m ρ c (Proc.devRef .tc main_v19) = mulf (F := Ideal) (φ := .f32) (W2 m ρ c (Proc.devRef .tc main_v11)) (shapeCast S8x4352x1024 (W2 m ρ c (Proc.devRef .tc main_v17)) shapeCasts_S34816x1024_S8x4352x1024) := by
    show StableHlo.after hostOps1 (W2 m ρ c) _ = _
    after_results_simp <;> rfl
  rw [h, v11_2, v17_2]
  rfl

/-- The second launch's weights. -/
theorem v21_3 (c : Dev nD) : W3 m ρ c (Proc.devRef .tc main_v21)
    = KW1 (m ((c : Thread nD τ).loc main_arg8)) := by
  have h : W3 m ρ c (Proc.devRef .tc main_v21) = shapeCast S1024x1024 (extractStridedSlice S1x1024x1024 ![1, 0, 0] (W2 m ρ c (Proc.devRef .tc main_v4)) slices_S3x1024x1024_S1x1024x1024_1_0_0) shapeCasts_S1x1024x1024_S1024x1024 := by
    show StableHlo.after hostOps1 (W2 m ρ c) _ = _
    after_results_simp <;> rfl
  rw [h, v4_2]
  rfl

/-- The second launch's rows. -/
theorem v22_3 (c : Dev nD) : W3 m ρ c (Proc.devRef .tc main_v22)
    = shapeCast S34816x1024 (KX (m ((c : Thread nD τ).loc main_arg2)) (m ((c : Thread nD τ).loc main_arg3))) shapeCasts_S8x4352x1024_S34816x1024 := by
  have h : W3 m ρ c (Proc.devRef .tc main_v22) = shapeCast S34816x1024 (W2 m ρ c (Proc.devRef .tc main_v1)) shapeCasts_S8x4352x1024_S34816x1024 := by
    show StableHlo.after hostOps1 (W2 m ρ c) _ = _
    after_results_simp <;> rfl
  rw [h, v1_2]

/-- The second launch's result. -/
theorem v23_4 (c : Dev nD) : W4 m ρ c (Proc.devRef .tc main_v23)
    = mm (shapeCast S34816x1024 (KX (m ((c : Thread nD τ).loc main_arg2)) (m ((c : Thread nD τ).loc main_arg3))) shapeCasts_S8x4352x1024_S34816x1024) (KW1 (m ((c : Thread nD τ).loc main_arg8))) := by
  refine (W4_arr m ρ c 2).trans ((final1 (V3 m ρ) c).trans ?_)
  exact congrArg₂ mm (v22_3 m ρ c) (v21_3 m ρ c)

/-- The same before the third line of host operations. -/
theorem v12_4 (c : Dev nD) : W4 m ρ c (Proc.devRef .tc main_v12)
    = KG1 (KG (m ((c : Thread nD τ).loc main_arg6)) (m ((c : Thread nD τ).loc main_arg7))) := by
  exact (W4_of m ρ c main_v12 (by decide)).trans ((W3_of m ρ c main_v12 (by decide)).trans ((W2_of m ρ c main_v12 (by decide)).trans (v12_1 m ρ c)))

/-- The same before the third line of host operations. -/
theorem v19_4 (c : Dev nD) : W4 m ρ c (Proc.devRef .tc main_v19)
    = mulf (F := Ideal) (φ := .f32) (KG0 (KG (m ((c : Thread nD τ).loc main_arg6)) (m ((c : Thread nD τ).loc main_arg7)))) (KM (KX (m ((c : Thread nD τ).loc main_arg0)) (m ((c : Thread nD τ).loc main_arg1))) (KW0 (m ((c : Thread nD τ).loc main_arg8)))) := by
  exact (W4_of m ρ c main_v19 (by decide)).trans (v19_3 m ρ c)

/-- The same before the third line of host operations. -/
theorem v4_4 (c : Dev nD) : W4 m ρ c (Proc.devRef .tc main_v4)
    = (truncf (F := Ideal) .bf16 (m ((c : Thread nD τ).loc main_arg8)) bitsLt_bf16_f32 : FVec Ideal S3x1024x1024 .bf16) := by
  exact (W4_of m ρ c main_v4 (by decide)).trans ((W3_of m ρ c main_v4 (by decide)).trans (v4_2 m ρ c))

/-- The same before the third line of host operations. -/
theorem v2_4 (c : Dev nD) : W4 m ρ c (Proc.devRef .tc main_v2)
    = (KX (m ((c : Thread nD τ).loc main_arg4)) (m ((c : Thread nD τ).loc main_arg5))) := by
  exact (W4_of m ρ c main_v2 (by decide)).trans ((W3_of m ρ c main_v2 (by decide)).trans ((W2_of m ρ c main_v2 (by decide)).trans (v2_1 m ρ c)))

/-- The first two gated branches' sum. -/
theorem v26_5 (c : Dev nD) : W5 m ρ c (Proc.devRef .tc main_v26)
    = addf (F := Ideal) (φ := .f32) (mulf (F := Ideal) (φ := .f32) (KG0 (KG (m ((c : Thread nD τ).loc main_arg6)) (m ((c : Thread nD τ).loc main_arg7)))) (KM (KX (m ((c : Thread nD τ).loc main_arg0)) (m ((c : Thread nD τ).loc main_arg1))) (KW0 (m ((c : Thread nD τ).loc main_arg8))))) (mulf (F := Ideal) (φ := .f32) (KG1 (KG (m ((c : Thread nD τ).loc main_arg6)) (m ((c : Thread nD τ).loc main_arg7)))) (KM (KX (m ((c : Thread nD τ).loc main_arg2)) (m ((c : Thread nD τ).loc main_arg3))) (KW1 (m ((c : Thread nD τ).loc main_arg8))))) := by
  have h : W5 m ρ c (Proc.devRef .tc main_v26) = addf (F := Ideal) (φ := .f32) (W4 m ρ c (Proc.devRef .tc main_v19)) (mulf (F := Ideal) (φ := .f32) (W4 m ρ c (Proc.devRef .tc main_v12)) (shapeCast S8x4352x1024 (W4 m ρ c (Proc.devRef .tc main_v23)) shapeCasts_S34816x1024_S8x4352x1024)) := by
    show StableHlo.after hostOps2 (W4 m ρ c) _ = _
    after_results_simp <;> rfl
  rw [h, v19_4, v12_4, v23_4]
  rfl

/-- The third launch's weights. -/
theorem v28_5 (c : Dev nD) : W5 m ρ c (Proc.devRef .tc main_v28)
    = KW2 (m ((c : Thread nD τ).loc main_arg8)) := by
  have h : W5 m ρ c (Proc.devRef .tc main_v28) = shapeCast S1024x1024 (extractStridedSlice S1x1024x1024 ![2, 0, 0] (W4 m ρ c (Proc.devRef .tc main_v4)) slices_S3x1024x1024_S1x1024x1024_2_0_0) shapeCasts_S1x1024x1024_S1024x1024 := by
    show StableHlo.after hostOps2 (W4 m ρ c) _ = _
    after_results_simp <;> rfl
  rw [h, v4_4]
  rfl

/-- The third launch's rows. -/
theorem v29_5 (c : Dev nD) : W5 m ρ c (Proc.devRef .tc main_v29)
    = shapeCast S34816x1024 (KX (m ((c : Thread nD τ).loc main_arg4)) (m ((c : Thread nD τ).loc main_arg5))) shapeCasts_S8x4352x1024_S34816x1024 := by
  have h : W5 m ρ c (Proc.devRef .tc main_v29) = shapeCast S34816x1024 (W4 m ρ c (Proc.devRef .tc main_v2)) shapeCasts_S8x4352x1024_S34816x1024 := by
    show StableHlo.after hostOps2 (W4 m ρ c) _ = _
    after_results_simp <;> rfl
  rw [h, v2_4]

/-- The third launch's result. -/
theorem v30_6 (c : Dev nD) : W6 m ρ c (Proc.devRef .tc main_v30)
    = mm (shapeCast S34816x1024 (KX (m ((c : Thread nD τ).loc main_arg4)) (m ((c : Thread nD τ).loc main_arg5))) shapeCasts_S8x4352x1024_S34816x1024) (KW2 (m ((c : Thread nD τ).loc main_arg8))) := by
  refine (W6_arr m ρ c 2).trans ((final2 (V5 m ρ) c).trans ?_)
  exact congrArg₂ mm (v29_5 m ρ c) (v28_5 m ρ c)

/-- The same before the fourth line of host operations. -/
theorem v13_6 (c : Dev nD) : W6 m ρ c (Proc.devRef .tc main_v13)
    = KG2 (KG (m ((c : Thread nD τ).loc main_arg6)) (m ((c : Thread nD τ).loc main_arg7))) := by
  exact (W6_of m ρ c main_v13 (by decide)).trans ((W5_of m ρ c main_v13 (by decide)).trans ((W4_of m ρ c main_v13 (by decide)).trans ((W3_of m ρ c main_v13 (by decide)).trans ((W2_of m ρ c main_v13 (by decide)).trans (v13_1 m ρ c)))))

/-- The same before the fourth line of host operations. -/
theorem v26_6 (c : Dev nD) : W6 m ρ c (Proc.devRef .tc main_v26)
    = addf (F := Ideal) (φ := .f32) (mulf (F := Ideal) (φ := .f32) (KG0 (KG (m ((c : Thread nD τ).loc main_arg6)) (m ((c : Thread nD τ).loc main_arg7)))) (KM (KX (m ((c : Thread nD τ).loc main_arg0)) (m ((c : Thread nD τ).loc main_arg1))) (KW0 (m ((c : Thread nD τ).loc main_arg8))))) (mulf (F := Ideal) (φ := .f32) (KG1 (KG (m ((c : Thread nD τ).loc main_arg6)) (m ((c : Thread nD τ).loc main_arg7)))) (KM (KX (m ((c : Thread nD τ).loc main_arg2)) (m ((c : Thread nD τ).loc main_arg3))) (KW1 (m ((c : Thread nD τ).loc main_arg8))))) := by
  exact (W6_of m ρ c main_v26 (by decide)).trans (v26_5 m ρ c)

/-- The output weights are an argument. -/
theorem arg9_1 (c : Dev nD) : W1 m ρ c (Proc.devRef .tc main_arg9)
    = (m ((c : Thread nD τ).loc main_arg9)) := by
  exact W1_of m ρ c main_arg9 (by decide)

/-- The output weights are an argument still. -/
theorem arg9_6 (c : Dev nD) : W6 m ρ c (Proc.devRef .tc main_arg9)
    = (m ((c : Thread nD τ).loc main_arg9)) := by
  exact (W6_of m ρ c main_arg9 (by decide)).trans ((W5_of m ρ c main_arg9 (by decide)).trans ((W4_of m ρ c main_arg9 (by decide)).trans ((W3_of m ρ c main_arg9 (by decide)).trans ((W2_of m ρ c main_arg9 (by decide)).trans (arg9_1 m ρ c)))))

/-- The fourth launch's rows. -/
theorem v35_7 (c : Dev nD) : W7 m ρ c (Proc.devRef .tc main_v35)
    = shapeCast S34816x1024 (KY (KX (m ((c : Thread nD τ).loc main_arg0)) (m ((c : Thread nD τ).loc main_arg1))) (KX (m ((c : Thread nD τ).loc main_arg2)) (m ((c : Thread nD τ).loc main_arg3))) (KX (m ((c : Thread nD τ).loc main_arg4)) (m ((c : Thread nD τ).loc main_arg5))) (KG (m ((c : Thread nD τ).loc main_arg6)) (m ((c : Thread nD τ).loc main_arg7))) (m ((c : Thread nD τ).loc main_arg8))) shapeCasts_S8x4352x1024_S34816x1024 := by
  have h : W7 m ρ c (Proc.devRef .tc main_v35) = shapeCast S34816x1024 (addf (F := Ideal) (φ := .f32) (W6 m ρ c (Proc.devRef .tc main_v26)) (mulf (F := Ideal) (φ := .f32) (W6 m ρ c (Proc.devRef .tc main_v13)) (shapeCast S8x4352x1024 (W6 m ρ c (Proc.devRef .tc main_v30)) shapeCasts_S34816x1024_S8x4352x1024))) shapeCasts_S8x4352x1024_S34816x1024 := by
    show StableHlo.after hostOps3 (W6 m ρ c) _ = _
    after_results_simp <;> rfl
  rw [h, v26_6, v13_6, v30_6]
  rfl

/-- The fourth launch's weights. -/
theorem v34_7 (c : Dev nD) : W7 m ρ c (Proc.devRef .tc main_v34)
    = (truncf (F := Ideal) .bf16 (m ((c : Thread nD τ).loc main_arg9)) bitsLt_bf16_f32 : FVec Ideal S1024x1024 .bf16) := by
  have h : W7 m ρ c (Proc.devRef .tc main_v34) = (truncf (F := Ideal) .bf16 (W6 m ρ c (Proc.devRef .tc main_arg9)) bitsLt_bf16_f32 : FVec Ideal S1024x1024 .bf16) := by
    show StableHlo.after hostOps3 (W6 m ρ c) _ = _
    after_results_simp <;> rfl
  rw [h, arg9_6]

/-- The fourth launch's result. -/
theorem v36_8 (c : Dev nD) : W8 m ρ c (Proc.devRef .tc main_v36)
    = mm (shapeCast S34816x1024 (KY (KX (m ((c : Thread nD τ).loc main_arg0)) (m ((c : Thread nD τ).loc main_arg1))) (KX (m ((c : Thread nD τ).loc main_arg2)) (m ((c : Thread nD τ).loc main_arg3))) (KX (m ((c : Thread nD τ).loc main_arg4)) (m ((c : Thread nD τ).loc main_arg5))) (KG (m ((c : Thread nD τ).loc main_arg6)) (m ((c : Thread nD τ).loc main_arg7))) (m ((c : Thread nD τ).loc main_arg8))) shapeCasts_S8x4352x1024_S34816x1024) (truncf (F := Ideal) .bf16 (m ((c : Thread nD τ).loc main_arg9)) bitsLt_bf16_f32) := by
  refine (W8_arr m ρ c 2).trans ((final3 (V7 m ρ) c).trans ?_)
  exact congrArg₂ mm (v35_7 m ρ c) (v34_7 m ρ c)

/-- The returned array. -/
theorem v37_9 (c : Dev nD) : W9 m ρ c (Proc.devRef .tc main_v37)
    = KO (KX (m ((c : Thread nD τ).loc main_arg0)) (m ((c : Thread nD τ).loc main_arg1))) (KX (m ((c : Thread nD τ).loc main_arg2)) (m ((c : Thread nD τ).loc main_arg3))) (KX (m ((c : Thread nD τ).loc main_arg4)) (m ((c : Thread nD τ).loc main_arg5))) (KG (m ((c : Thread nD τ).loc main_arg6)) (m ((c : Thread nD τ).loc main_arg7))) (m ((c : Thread nD τ).loc main_arg8)) (m ((c : Thread nD τ).loc main_arg9)) := by
  have h : W9 m ρ c (Proc.devRef .tc main_v37) = shapeCast S8x4352x1024 (W8 m ρ c (Proc.devRef .tc main_v36)) shapeCasts_S34816x1024_S8x4352x1024 := by
    show StableHlo.after hostOps4 (W8 m ρ c) _ = _
    after_results_simp <;> rfl
  rw [h, v36_8]
  rfl

end Cert.MergeIdeal.Value
-- ==== Proof.Merge.Claims.lean ====
/- The claims about the merge of the branches. -/
module
public import proofs.«01_k».proof.Defs
public import proofs.«01_k».proof.Proof.Gen.Merge.Frame
public import proofs.«01_k».proof.Proof.Gen.MergeRefIdeal.Run
public import proofs.«01_k».proof.Proof.Merge.Run
public import proofs.«01_k».proof.Proof.Merge.Host
@[expose] public section
set_option maxRecDepth 16384
noncomputable section

/-! ## The reference's term -/

namespace Cert.MergeRefIdeal.Value
open Idealize.ShloMosaic Idealize.ShloMosaic.TcCoe Idealize.SL.Sem
open Cert.MergeRefIdeal Cert.MergeRefIdeal.Gen

/-- The first branch's weights. -/
def RW0 (w : FVec Ideal S3x1024x1024 .f32) : FVec Ideal S1024x1024 .f32 :=
  shapeCast S1024x1024 (extractStridedSlice S1x1024x1024 ![0, 0, 0] w slices_S3x1024x1024_S1x1024x1024_0_0_0) shapeCasts_S1x1024x1024_S1024x1024

/-- The second branch's weights. -/
def RW1 (w : FVec Ideal S3x1024x1024 .f32) : FVec Ideal S1024x1024 .f32 :=
  shapeCast S1024x1024 (extractStridedSlice S1x1024x1024 ![1, 0, 0] w slices_S3x1024x1024_S1x1024x1024_1_0_0) shapeCasts_S1x1024x1024_S1024x1024

/-- The third branch's weights. -/
def RW2 (w : FVec Ideal S3x1024x1024 .f32) : FVec Ideal S1024x1024 .f32 :=
  shapeCast S1024x1024 (extractStridedSlice S1x1024x1024 ![2, 0, 0] w slices_S3x1024x1024_S1x1024x1024_2_0_0) shapeCasts_S1x1024x1024_S1024x1024

/-- The context tokens' gates. -/
def RGC (g : FVec Ideal S8x256x3072 .f32) : FVec Ideal S8x256x3072 .f32 :=
  Host.divf (broadcastInDim S8x256x3072 ![] bcast_S_S8x256x3072 (constant S_ .f32 0x3F800000#32))
    (addf (broadcastInDim S8x256x3072 ![] bcast_S_S8x256x3072 (constant S_ .f32 0x3F800000#32)) (Host.exp (Host.negf g)))

/-- The context rows times square weights. -/
def RMC (x : FVec Ideal S8x256x1024 .f32) (w : FVec Ideal S1024x1024 .f32) : FVec Ideal S8x256x1024 .f32 :=
  Host.dotGeneral dot_S8x256x1024_S1024x1024_S8x256x1024_2_0_01_1_n_n none x w

/-- The context rows' gated sum of the three branches. -/
def RYC (x0 x1 x2 : FVec Ideal S8x256x1024 .f32) (G : FVec Ideal S8x256x3072 .f32) (w : FVec Ideal S3x1024x1024 .f32) : FVec Ideal S8x256x1024 .f32 :=
  addf (F := Ideal) (addf (F := Ideal) (mulf (F := Ideal) (extractStridedSlice S8x256x1024 ![0, 0, 0] G slices_S8x256x3072_S8x256x1024_0_0_0) (RMC x0 (RW0 w)))
    (mulf (F := Ideal) (extractStridedSlice S8x256x1024 ![0, 0, 1024] G slices_S8x256x3072_S8x256x1024_0_0_1024) (RMC x1 (RW1 w))))
    (mulf (F := Ideal) (extractStridedSlice S8x256x1024 ![0, 0, 2048] G slices_S8x256x3072_S8x256x1024_0_0_2048) (RMC x2 (RW2 w)))

/-- The latent tokens' gates. -/
def RGL (g : FVec Ideal S8x4096x3072 .f32) : FVec Ideal S8x4096x3072 .f32 :=
  Host.divf (broadcastInDim S8x4096x3072 ![] bcast_S_S8x4096x3072 (constant S_ .f32 0x3F800000#32))
    (addf (broadcastInDim S8x4096x3072 ![] bcast_S_S8x4096x3072 (constant S_ .f32 0x3F800000#32)) (Host.exp (Host.negf g)))

/-- The latent rows times square weights. -/
def RML (x : FVec Ideal S8x4096x1024 .f32) (w : FVec Ideal S1024x1024 .f32) : FVec Ideal S8x4096x1024 .f32 :=
  Host.dotGeneral dot_S8x4096x1024_S1024x1024_S8x4096x1024_2_0_01_1_n_n none x w

/-- The latent rows' gated sum of the three branches. -/
def RYL (x0 x1 x2 : FVec Ideal S8x4096x1024 .f32) (G : FVec Ideal S8x4096x3072 .f32) (w : FVec Ideal S3x1024x1024 .f32) : FVec Ideal S8x4096x1024 .f32 :=
  addf (F := Ideal) (addf (F := Ideal) (mulf (F := Ideal) (extractStridedSlice S8x4096x1024 ![0, 0, 0] G slices_S8x4096x3072_S8x4096x1024_0_0_0) (RML x0 (RW0 w)))
    (mulf (F := Ideal) (extractStridedSlice S8x4096x1024 ![0, 0, 1024] G slices_S8x4096x3072_S8x4096x1024_0_0_1024) (RML x1 (RW1 w))))
    (mulf (F := Ideal) (extractStridedSlice S8x4096x1024 ![0, 0, 2048] G slices_S8x4096x3072_S8x4096x1024_0_0_2048) (RML x2 (RW2 w)))

/-- The reference's result, over any arguments. -/
def RO (a0 a2 a4 : FVec Ideal S8x256x1024 .f32) (a1 a3 a5 : FVec Ideal S8x4096x1024 .f32) (g0 : FVec Ideal S8x256x3072 .f32) (g1 : FVec Ideal S8x4096x3072 .f32)
    (w : FVec Ideal S3x1024x1024 .f32) (wo : FVec Ideal S1024x1024 .f32) : FVec Ideal S8x4352x1024 .f32 :=
  concatenate S8x4352x1024 1 [⟨S8x256x1024, RMC (RYC a0 a2 a4 (RGC g0) w) wo⟩, ⟨S8x4096x1024, RML (RYL a1 a3 a5 (RGL g1) w) wo⟩]
    concatenates_S8x256x1024_S8x4096x1024_S8x4352x1024_d1

/-- The reference's printed result is that term. -/
theorem res_eq (m : (ℓ : Loc nD τ sig) → Buf (Elt Ideal) ℓ) (c : Dev nD) : res_main_v48 (F := Ideal) m c
    = RO (m ((c.tc : Thread nD τ).loc main_arg0)) (m ((c.tc : Thread nD τ).loc main_arg2)) (m ((c.tc : Thread nD τ).loc main_arg4))
        (m ((c.tc : Thread nD τ).loc main_arg1)) (m ((c.tc : Thread nD τ).loc main_arg3)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) := by
  unfold res_main_v48 RO RMC RYC RGC RML RYL RGL RMC RML RW0 RW1 RW2
  rfl

end Cert.MergeRefIdeal.Value

namespace Cert.MergeClaims
open Idealize.ShloMosaic Idealize.ShloMosaic.TcCoe Idealize.SL.Sem
open Cert.MergeIdeal Cert.MergeIdeal.Gen Cert.MergeIdeal.Value

/-- The first branch's weights are the reference's. -/
theorem KW0_at (w : FVec Ideal S3x1024x1024 .f32) (k e : Fin 1024) : KW0 w (ix2 k e) = Cert.MergeRefIdeal.Value.RW0 w (ix2 k e) := by
  pointwise [KW0, Cert.MergeRefIdeal.Value.RW0]

/-- The second branch's weights are the reference's. -/
theorem KW1_at (w : FVec Ideal S3x1024x1024 .f32) (k e : Fin 1024) : KW1 w (ix2 k e) = Cert.MergeRefIdeal.Value.RW1 w (ix2 k e) := by
  pointwise [KW1, Cert.MergeRefIdeal.Value.RW1]

/-- The third branch's weights are the reference's. -/
theorem KW2_at (w : FVec Ideal S3x1024x1024 .f32) (k e : Fin 1024) : KW2 w (ix2 k e) = Cert.MergeRefIdeal.Value.RW2 w (ix2 k e) := by
  pointwise [KW2, Cert.MergeRefIdeal.Value.RW2]

/-- A token's row times square weights. -/
theorem KM_at (X : FVec Ideal S8x4352x1024 .f32) (B : FVec Ideal S1024x1024 .bf16) (b : Fin 8) (t : Fin 4352) (e : Fin 1024) :
    KM X B (ix3 b t e) = ∑ k : Fin 1024, X (ix3 b t k) * B (ix2 k e) := by
  pointwise [KM, mm]

/-- A context token's row of a branch. -/
theorem KX_C (a0 : FVec Ideal S8x256x1024 .f32) (a1 : FVec Ideal S8x4096x1024 .f32) (b : Fin 8) (t : Fin 256) (e : Fin 1024) :
    KX a0 a1 (ix3 b ⟨t.val, by omega⟩ e) = a0 (ix3 b t e) := by
  pointwise [KX]

/-- A context token's gates. -/
theorem KG_C (g0 : FVec Ideal S8x256x3072 .f32) (g1 : FVec Ideal S8x4096x3072 .f32) (b : Fin 8) (t : Fin 256) (e : Fin 3072) :
    KG g0 g1 (ix3 b ⟨t.val, by omega⟩ e) = Cert.MergeRefIdeal.Value.RGC g0 (ix3 b t e) := by
  pointwise [KG, Cert.MergeRefIdeal.Value.RGC]

/-- A context token's row times square weights, in the reference. -/
theorem RMC_at (x : FVec Ideal S8x256x1024 .f32) (w : FVec Ideal S1024x1024 .f32) (b : Fin 8) (t : Fin 256) (e : Fin 1024) :
    Cert.MergeRefIdeal.Value.RMC x w (ix3 b t e) = ∑ k : Fin 1024, x (ix3 b t k) * w (ix2 k e) := by
  pointwise [Cert.MergeRefIdeal.Value.RMC]

/-- A context token's product is the reference's where its row and the weights are. -/
theorem M_C (X : FVec Ideal S8x4352x1024 .f32) (B : FVec Ideal S1024x1024 .bf16) (x : FVec Ideal S8x256x1024 .f32) (w : FVec Ideal S1024x1024 .f32)
    (b : Fin 8) (t : Fin 256) (hX : ∀ k, X (ix3 b ⟨t.val, by omega⟩ k) = x (ix3 b t k)) (hB : ∀ k e, B (ix2 k e) = w (ix2 k e)) (e : Fin 1024) :
    KM X B (ix3 b ⟨t.val, by omega⟩ e) = Cert.MergeRefIdeal.Value.RMC x w (ix3 b t e) := by
  rw [KM_at, RMC_at]
  exact Finset.sum_congr rfl fun k _ => congrArg₂ (fun a b : EReal => a * b) (hX k) (hB k e)

/-- A context token's gated sum is the reference's. -/
theorem Y_C (X0 X1 X2 : FVec Ideal S8x4352x1024 .f32) (G : FVec Ideal S8x4352x3072 .f32) (x0 x1 x2 : FVec Ideal S8x256x1024 .f32) (g : FVec Ideal S8x256x3072 .f32)
    (w : FVec Ideal S3x1024x1024 .f32) (b : Fin 8) (t : Fin 256) (h0 : ∀ k, X0 (ix3 b ⟨t.val, by omega⟩ k) = x0 (ix3 b t k)) (h1 : ∀ k, X1 (ix3 b ⟨t.val, by omega⟩ k) = x1 (ix3 b t k))
    (h2 : ∀ k, X2 (ix3 b ⟨t.val, by omega⟩ k) = x2 (ix3 b t k)) (hG : ∀ k, G (ix3 b ⟨t.val, by omega⟩ k) = g (ix3 b t k)) (e : Fin 1024) :
    KY X0 X1 X2 G w (ix3 b ⟨t.val, by omega⟩ e) = Cert.MergeRefIdeal.Value.RYC x0 x1 x2 g w (ix3 b t e) := by
  pointwise [KY, Cert.MergeRefIdeal.Value.RYC, KG0, KG1, KG2]
  rw [M_C X0 _ x0 _ b t h0 (KW0_at w) e, M_C X1 _ x1 _ b t h1 (KW1_at w) e, M_C X2 _ x2 _ b t h2 (KW2_at w) e, hG, hG, hG]

/-- A latent token's row of a branch. -/
theorem KX_L (a0 : FVec Ideal S8x256x1024 .f32) (a1 : FVec Ideal S8x4096x1024 .f32) (b : Fin 8) (t : Fin 4096) (e : Fin 1024) :
    KX a0 a1 (ix3 b ⟨256 + t.val, by omega⟩ e) = a1 (ix3 b t e) := by
  pointwise [KX]

/-- A latent token's gates. -/
theorem KG_L (g0 : FVec Ideal S8x256x3072 .f32) (g1 : FVec Ideal S8x4096x3072 .f32) (b : Fin 8) (t : Fin 4096) (e : Fin 3072) :
    KG g0 g1 (ix3 b ⟨256 + t.val, by omega⟩ e) = Cert.MergeRefIdeal.Value.RGL g1 (ix3 b t e) := by
  pointwise [KG, Cert.MergeRefIdeal.Value.RGL]

/-- A latent token's row times square weights, in the reference. -/
theorem RML_at (x : FVec Ideal S8x4096x1024 .f32) (w : FVec Ideal S1024x1024 .f32) (b : Fin 8) (t : Fin 4096) (e : Fin 1024) :
    Cert.MergeRefIdeal.Value.RML x w (ix3 b t e) = ∑ k : Fin 1024, x (ix3 b t k) * w (ix2 k e) := by
  pointwise [Cert.MergeRefIdeal.Value.RML]

/-- A latent token's product is the reference's where its row and the weights are. -/
theorem M_L (X : FVec Ideal S8x4352x1024 .f32) (B : FVec Ideal S1024x1024 .bf16) (x : FVec Ideal S8x4096x1024 .f32) (w : FVec Ideal S1024x1024 .f32)
    (b : Fin 8) (t : Fin 4096) (hX : ∀ k, X (ix3 b ⟨256 + t.val, by omega⟩ k) = x (ix3 b t k)) (hB : ∀ k e, B (ix2 k e) = w (ix2 k e)) (e : Fin 1024) :
    KM X B (ix3 b ⟨256 + t.val, by omega⟩ e) = Cert.MergeRefIdeal.Value.RML x w (ix3 b t e) := by
  rw [KM_at, RML_at]
  exact Finset.sum_congr rfl fun k _ => congrArg₂ (fun a b : EReal => a * b) (hX k) (hB k e)

/-- A latent token's gated sum is the reference's. -/
theorem Y_L (X0 X1 X2 : FVec Ideal S8x4352x1024 .f32) (G : FVec Ideal S8x4352x3072 .f32) (x0 x1 x2 : FVec Ideal S8x4096x1024 .f32) (g : FVec Ideal S8x4096x3072 .f32)
    (w : FVec Ideal S3x1024x1024 .f32) (b : Fin 8) (t : Fin 4096) (h0 : ∀ k, X0 (ix3 b ⟨256 + t.val, by omega⟩ k) = x0 (ix3 b t k)) (h1 : ∀ k, X1 (ix3 b ⟨256 + t.val, by omega⟩ k) = x1 (ix3 b t k))
    (h2 : ∀ k, X2 (ix3 b ⟨256 + t.val, by omega⟩ k) = x2 (ix3 b t k)) (hG : ∀ k, G (ix3 b ⟨256 + t.val, by omega⟩ k) = g (ix3 b t k)) (e : Fin 1024) :
    KY X0 X1 X2 G w (ix3 b ⟨256 + t.val, by omega⟩ e) = Cert.MergeRefIdeal.Value.RYL x0 x1 x2 g w (ix3 b t e) := by
  pointwise [KY, Cert.MergeRefIdeal.Value.RYL, KG0, KG1, KG2]
  rw [M_L X0 _ x0 _ b t h0 (KW0_at w) e, M_L X1 _ x1 _ b t h1 (KW1_at w) e, M_L X2 _ x2 _ b t h2 (KW2_at w) e, hG, hG, hG]

/-- The kernel's merged branches are the reference's. -/
theorem merge_eq (a0 a2 a4 : FVec Ideal S8x256x1024 .f32) (a1 a3 a5 : FVec Ideal S8x4096x1024 .f32) (g0 : FVec Ideal S8x256x3072 .f32) (g1 : FVec Ideal S8x4096x3072 .f32)
    (w : FVec Ideal S3x1024x1024 .f32) (wo : FVec Ideal S1024x1024 .f32) :
    KO (KX a0 a1) (KX a2 a3) (KX a4 a5) (KG g0 g1) w wo = Cert.MergeRefIdeal.Value.RO a0 a2 a4 a1 a3 a5 g0 g1 w wo := by
  funext y
  obtain ⟨b, t, e, rfl⟩ : ∃ (b : Fin 8) (t : Fin 4352) (e : Fin 1024), y = ix3 b t e := ⟨y 0, y 1, y 2, eq_ix3 y⟩
  pointwise [Cert.MergeRefIdeal.Value.RO]
  unfold KO
  by_cases h : t.val < 256
  · rw [dif_pos h]
    exact M_C _ _ _ wo b ⟨t.val, h⟩ (Y_C _ _ _ _ _ _ _ _ w b ⟨t.val, h⟩ (KX_C a0 a1 b ⟨t.val, h⟩) (KX_C a2 a3 b ⟨t.val, h⟩) (KX_C a4 a5 b ⟨t.val, h⟩) (KG_C g0 g1 b ⟨t.val, h⟩)) (fun _ _ => rfl) e
  · rw [dif_neg h]
    have ht : t = (⟨256 + (⟨t.val - 256, by omega⟩ : Fin 4096).val, by dsimp only; omega⟩ : Fin 4352) := Fin.ext (by dsimp only; omega)
    refine (congrArg (fun t : Fin 4352 => KM (KY (KX a0 a1) (KX a2 a3) (KX a4 a5) (KG g0 g1) w) (truncf (F := Ideal) .bf16 wo bitsLt_bf16_f32) (ix3 b t e)) ht).trans ?_
    exact M_L _ _ _ wo b _ (Y_L _ _ _ _ _ _ _ _ w b _ (KX_L a0 a1 b _) (KX_L a2 a3 b _) (KX_L a4 a5 b _) (KG_L g0 g1 b _)) (fun _ _ => rfl) e

/-- The printed program runs and leaves its arguments. -/
theorem frame_p : Cert.quiescent_Merge := fun m ρ _ => Cert.Merge.Gen.frame m ρ

/-- Its ideal twin runs and leaves its arguments. -/
theorem frame_pi : Cert.quiescent_MergeIdeal := fun m ρ _ => Cert.MergeIdeal.Gen.frame m ρ

/-- The reference runs and leaves its arguments. -/
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The ideal twin's text is the program's. -/
theorem preserves : Cert.preserves_Merge_MergeIdeal := trivial

/-- The kernel's merged branches are the reference's, whatever the arguments. -/
theorem algebraic : Cert.algebraic_MergeIdeal_MergeRefIdeal := by
  intro m ρ m' ρ' _ hagree
  refine ⟨_, (θ_run Cert.MergeIdeal.defs _ _).mono (fun r h c =>
    ⟨h c _ (mem_uc main_v37 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ), ?_⟩
  refine (θ_run Cert.MergeRefIdeal.defs _ _).mono (fun _ h c => ⟨(h c).1.trans ?_, (h c).2⟩) (Cert.MergeRefIdeal.Value.run (F := Ideal) m' ρ')
  obtain ⟨e0, e1, e2, e3, e4, e5, e6, e7, e8, e9⟩ := hagree c
  rw [Cert.MergeRefIdeal.Value.res_eq, e0, e1, e2, e3, e4, e5, e6, e7, e8, e9]
  exact ((v37_9 m ρ c).trans (merge_eq ..)).symm

end Cert.MergeClaims
-- ==== Proof.Query.Kernel.lean ====
/- The result array of the query projection's kernel. -/
module
public import proofs.«01_k».proof.Proof.Gen.QueryIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.QueryIdeal.Value
open Cert.QueryIdeal Cert.QueryIdeal.Gen
variable (m : (ℓ : Loc nD τ sig) → Buf (Elt Ideal) ℓ)

/-- The product of all rows with the query weights. -/
def mm (A : FVec Ideal S34816x1024 .f32) (B : FVec Ideal S1024x2048 .bf16) : FVec Ideal S34816x2048 .f32 :=
  fun y => ∑ k : Fin 1024, A (ix2 (y 0) k) * B (ix2 k (y 1))

/-- The block index of each window at each grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The number of grid points. -/
theorem tlt (t : Fin cfg0.N) : t.val < 68 := lt_of_lt_of_eq t.isLt (by decide +kernel)

/-- A row block's element, of any array. -/
theorem rd0 (A : FVec Ideal S34816x1024 .f32) (t : Fin cfg0.N) (r k : Fin 1024) :
    ((cfg0.win 0).blk t).view.read (Elt Ideal) A (ix2 r k)
      = A (ix2 ⟨t.val / 2 * 1024 + r.val, by have := tlt t; omega⟩ k) := by
  blk_ext [idx t]

/-- A weight block's element, of any array. -/
theorem rd1 (A : FVec Ideal S1024x2048 .bf16) (t : Fin cfg0.N) (k e : Fin 1024) :
    ((cfg0.win 1).blk t).view.read (Elt Ideal) A (ix2 k e)
      = A (ix2 k ⟨t.val % 2 * 1024 + e.val, by omega⟩) := by
  blk_ext [idx t]

/-- One element of the block a grid point stores. -/
theorem point (x0 : Vec Ideal S1024x1024 .f32) (x1 : Vec Ideal S1024x1024 .bf16) (r e : Fin 1024) :
    k0_pay1 (F := Ideal) x0 x1 (ix2 r e) = ∑ k : Fin 1024, x0 (ix2 r k) * x1 (ix2 k e) := by
  pointwise [k0_pay1]

/-- The result array after the run, over the arrays the kernel is launched on. -/
theorem final (c : Dev nD) : (dats m 0 c).arrAt 2 (cfgs 0).N = mm (V m c main_v1) (V m c main_v2) := by
  refine (dats m 0 c).arrAt_eq_of_covers 2 _ (by decide +kernel) fun t _ y => ?_
  blk_simp
  rw [after0_2]
  frame_out
  generalize hG : mm (V m c main_v1) (V m c main_v2) = G
  obtain ⟨r, e, rfl⟩ : ∃ (r e : Fin 1024), y = ix2 r e := ⟨y 0, y 1, by blk_ext⟩
  have hemb : ((View.whole main_v3).slice (win0_2.rect t)).emb (ix2 r e)
      = (ix2 ⟨t.val / 2 * 1024 + r.val, by have := tlt t; omega⟩ ⟨t.val % 2 * 1024 + e.val, by omega⟩ : S34816x2048.Idx) := by
    blk_ext [idx t]
  rw [hemb, ← hG]
  refine (point (iblk m c 0 t) (iblk m c 1 t) r e).trans ?_
  refine Finset.sum_congr rfl fun k _ => ?_
  exact congrArg₂ (fun a b : EReal => a * b) (rd0 (V m c main_v1) t r k) (rd1 (V m c main_v2) t k e)

/-- The rows the kernel is launched on. -/
theorem v1_term (c : Dev nD) : V m c main_v1 = shapeCast S34816x1024 (concatenate S8x4352x1024 1 [⟨S8x256x1024, m ((c : Thread nD τ).loc main_arg0)⟩, ⟨S8x4096x1024, m ((c : Thread nD τ).loc main_arg1)⟩] concatenates_S8x256x1024_S8x4096x1024_S8x4352x1024_d1) shapeCasts_S8x4352x1024_S34816x1024 := by
  entry_read
  rfl

/-- The weights the kernel is launched on. -/
theorem v2_term (c : Dev nD) : V m c main_v2 = (truncf (F := Ideal) .bf16 (m ((c : Thread nD τ).loc main_arg2)) bitsLt_bf16_f32 : FVec Ideal S1024x2048 .bf16) := by
  entry_read
  rfl

end Cert.QueryIdeal.Value
-- ==== Proof.Query.Claims.lean ====
/- The claims about the query projection. -/
module
public import proofs.«01_k».proof.Defs
public import proofs.«01_k».proof.Proof.Gen.Query.Frame
public import proofs.«01_k».proof.Proof.Gen.QueryIdeal.Frame
public import proofs.«01_k».proof.Proof.Gen.QueryRefIdeal.Run
public import proofs.«01_k».proof.Proof.Query.Kernel
@[expose] public section
set_option maxRecDepth 16384
noncomputable section

/-! ## The reference's term -/

namespace Cert.QueryRefIdeal.Value
open Idealize.ShloMosaic Idealize.ShloMosaic.TcCoe Idealize.SL.Sem
open Cert.QueryRefIdeal Cert.QueryRefIdeal.Gen

/-- The reference's result, over any arguments. -/
def RQ (a0 : FVec Ideal S8x256x1024 .f32) (a1 : FVec Ideal S8x4096x1024 .f32) (w : FVec Ideal S1024x2048 .f32) : FVec Ideal S34816x2048 .f32 :=
  shapeCast S34816x2048 (concatenate S8x4352x2048 1
    [⟨S8x256x2048, (shapeCast S8x256x2048 (Host.dotGeneral dot_S2048x1024_S1024x2048_S2048x2048_1_0_0_1_n_n none
        (shapeCast S2048x1024 a0 shapeCasts_S8x256x1024_S2048x1024) w) shapeCasts_S2048x2048_S8x256x2048)⟩,
     ⟨S8x4096x2048, (shapeCast S8x4096x2048 (Host.dotGeneral dot_S32768x1024_S1024x2048_S32768x2048_1_0_0_1_n_n none
        (shapeCast S32768x1024 a1 shapeCasts_S8x4096x1024_S32768x1024) w) shapeCasts_S32768x2048_S8x4096x2048)⟩]
    concatenates_S8x256x2048_S8x4096x2048_S8x4352x2048_d1) shapeCasts_S8x4352x2048_S34816x2048

end Cert.QueryRefIdeal.Value

namespace Cert.QueryClaims
open Idealize.ShloMosaic Idealize.ShloMosaic.TcCoe Idealize.SL.Sem
open Cert.QueryIdeal Cert.QueryIdeal.Gen

/-- Row by row, the kernel's product is the reference's. -/
theorem mm_eq (a0 : FVec Ideal S8x256x1024 .f32) (a1 : FVec Ideal S8x4096x1024 .f32) (w : FVec Ideal S1024x2048 .f32) :
    Cert.QueryIdeal.Value.mm (shapeCast S34816x1024 (concatenate S8x4352x1024 1 [⟨S8x256x1024, a0⟩, ⟨S8x4096x1024, a1⟩] concatenates_S8x256x1024_S8x4096x1024_S8x4352x1024_d1) shapeCasts_S8x4352x1024_S34816x1024)
      (truncf (F := Ideal) .bf16 w bitsLt_bf16_f32)
    = Cert.QueryRefIdeal.Value.RQ a0 a1 w := by
  funext y
  obtain ⟨r, e, rfl⟩ : ∃ (r : Fin 34816) (e : Fin 2048), y = ix2 r e := ⟨y 0, y 1, eq_ix2 y⟩
  pointwise [Cert.QueryIdeal.Value.mm, Cert.QueryRefIdeal.Value.RQ]
  by_cases h : r.val % 4352 < 256
  · simp only [dif_pos h]
    refine Finset.sum_congr rfl fun k _ => congrArg (· * w (ix2 k e)) (congrArg a0 ?_)
    exact (ix3_inj ..).2 ⟨Fin.ext (by dsimp only; omega), Fin.ext (by dsimp only; omega), rfl⟩
  · simp only [dif_neg h]
    refine Finset.sum_congr rfl fun k _ => congrArg (· * w (ix2 k e)) (congrArg a1 ?_)
    exact (ix3_inj ..).2 ⟨Fin.ext (by dsimp only; omega), Fin.ext (by dsimp only; omega), rfl⟩

/-- The printed program runs and leaves its arguments. -/
theorem frame_p : Cert.quiescent_Query := fun m ρ _ => Cert.Query.Gen.frame m ρ

/-- Its ideal twin runs and leaves its arguments. -/
theorem frame_pi : Cert.quiescent_QueryIdeal := fun m ρ _ => Cert.QueryIdeal.Gen.frame m ρ

/-- The reference runs and leaves its arguments. -/
theorem frame_ri : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

/-- The ideal twin's text is the program's. -/
theorem preserves : Cert.preserves_Query_QueryIdeal := trivial

/-- The kernel's queries are the reference's, whatever the arguments. -/
theorem algebraic : Cert.algebraic_QueryIdeal_QueryRefIdeal := by
  intro m ρ m' ρ' _ hagree
  refine ⟨_, Cert.QueryIdeal.Value.run_blocks m ρ, ?_⟩
  refine (θ_run Cert.QueryRefIdeal.defs _ _).mono (fun _ h c => ⟨(h c).1.trans ?_, (h c).2⟩) (Cert.QueryRefIdeal.Value.run (F := Ideal) m' ρ')
  obtain ⟨e0, e1, e2⟩ := hagree c
  refine Eq.trans ?_ (Cert.QueryIdeal.Value.final m c).symm
  rw [Cert.QueryIdeal.Value.v1_term, Cert.QueryIdeal.Value.v2_term]
  refine Eq.trans ?_ (mm_eq _ _ _).symm
  rw [← e0, ← e1, ← e2]
  rfl

end Cert.QueryClaims
-- ==== Proof.Norms.Run.lean ====
/- The run of the adaptive norms' program: every buffer ends at the contents the segments leave. -/
module
public import proofs.«01_k».proof.Proof.Gen.NormsIdeal.Frame
@[expose] public section
set_option maxRecDepth 16384
noncomputable section
namespace Cert.NormsIdeal.Value
open Cert.NormsIdeal Cert.NormsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each buffer that outlives the kernels at its contents after the last segment. -/
theorem run_all : θ_run defs (onTc (τ := τ) (main (F := F))) ⟨m, fun _ => 0, ρ⟩ (fun r => ∀ c : Dev nD,
      ∀ b ∈ Pipeline.ucRefs τ sig, r.2.mem (c, b) = W18 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ => h)

end Cert.NormsIdeal.Value
-- ==== Proof.Norms.Kernel.lean ====
/- The result arrays of the conditioning's two launches. -/
module
public import proofs.«01_k».proof.Proof.Gen.NormsIdeal.Frame
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.NormsIdeal.Value
open Cert.NormsIdeal Cert.NormsIdeal.Gen

variable (V : (c : Dev nD) → (b : Ref sig .tc) → Buf (Elt Ideal) ((c : Thread nD τ).loc b))

/-- The product of eight rows with the conditioning's weights. -/
def mm (A : FVec Ideal S8x1024 .f32) (B : FVec Ideal S1024x6144 .bf16) : FVec Ideal S8x6144 .f32 :=
  fun y => ∑ k : Fin 1024, A (ix2 (y 0) k) * B (ix2 k (y 1))

/-- The block index of each window of the first launch at each grid point. -/
theorem idx0 : ∀ t : Fin cfg0.N, win0_0.index t = ![0, 0] ∧ win0_1.index t = ![0, t.val]
    ∧ win0_2.index t = ![0, t.val] :=
  (by decide +kernel : ∀ t : Fin grid0.N, _)

/-- The number of grid points of the first launch. -/
theorem tlt0 (t : Fin cfg0.N) : t.val < 6 := lt_of_lt_of_eq t.isLt (by decide +kernel)

/-- The row block's element in the first launch, of any array. -/
theorem rd00 (A : FVec Ideal S8x1024 .f32) (t : Fin cfg0.N) (r : Fin 8) (k : Fin 1024) :
    ((cfg0.win 0).blk t).view.read (Elt Ideal) A (ix2 r k) = A (ix2 r k) := by
  blk_ext [idx0 t]

/-- A weight block's element in the first launch, of any array. -/
theorem rd01 (A : FVec Ideal S1024x6144 .bf16) (t : Fin cfg0.N) (k e : Fin 1024) :
    ((cfg0.win 1).blk t).view.read (Elt Ideal) A (ix2 k e)
      = A (ix2 k ⟨t.val * 1024 + e.val, by have := tlt0 t; omega⟩) := by
  blk_ext [idx0 t]

/-- One element of the block a grid point of the first launch stores. -/
theorem point0 (x0 : Vec Ideal S8x1024 .f32) (x1 : Vec Ideal S1024x1024 .bf16) (r : Fin 8) (e : Fin 1024) :
    k0_pay1 (F := Ideal) x0 x1 (ix2 r e) = ∑ k : Fin 1024, x0 (ix2 r k) * x1 (ix2 k e) := by
  pointwise [k0_pay1]

/-- The first launch's result array, over the arrays it is launched on. -/
theorem final0 (c : Dev nD) : (dat0 V c).arrAt 2 cfg0.N = mm (V c main_v9) (V c main_v7) := by
  refine (dat0 V c).arrAt_eq_of_covers 2 _ (by decide +kernel) fun t _ y => ?_
  blk_simp
  rw [after0_2]
  unfold out0_2
  frame_out
  generalize hG : mm (V c main_v9) (V c main_v7) = G
  obtain ⟨r, e, rfl⟩ : ∃ (r : Fin 8) (e : Fin 1024), y = ix2 r e := ⟨y 0, y 1, by blk_ext⟩
  have hemb : ((View.whole main_v10).slice (win0_2.rect t)).emb (ix2 r e)
      = (ix2 r ⟨t.val * 1024 + e.val, by have := tlt0 t; omega⟩ : S8x6144.Idx) := by
    blk_ext [idx0 t]
  rw [hemb, ← hG]
  refine (point0 (iblk0 V c 0 t) (iblk0 V c 1 t) r e).trans ?_
  refine Finset.sum_congr rfl fun k _ => ?_
  exact congrArg₂ (fun a b : EReal => a * b) (rd00 (V c main_v9) t r k) (rd01 (V c main_v7) t k e)

/-- The block index of each window of the second launch at each grid point. -/
theorem idx1 : ∀ t : Fin cfg1.N, win1_0.index t = ![0, 0] ∧ win1_1.index t = ![0, t.val]
    ∧ win1_2.index t = ![0, t.val] :=
  (by decide +kernel : ∀ t : Fin grid1.N, _)

/-- The number of grid points of the second launch. -/
theorem tlt1 (t : Fin cfg1.N) : t.val < 6 := lt_of_lt_of_eq t.isLt (by decide +kernel)

/-- The row block's element in the second launch, of any array. -/
theorem rd10 (A : FVec Ideal S8x1024 .f32) (t : Fin cfg1.N) (r : Fin 8) (k : Fin 1024) :
    ((cfg1.win 0).blk t).view.read (Elt Ideal) A (ix2 r k) = A (ix2 r k) := by
  blk_ext [idx1 t]

/-- A weight block's element in the second launch, of any array. -/
theorem rd11 (A : FVec Ideal S1024x6144 .bf16) (t : Fin cfg1.N) (k e : Fin 1024) :
    ((cfg1.win 1).blk t).view.read (Elt Ideal) A (ix2 k e)
      = A (ix2 k ⟨t.val * 1024 + e.val, by have := tlt1 t; omega⟩) := by
  blk_ext [idx1 t]

/-- One element of the block a grid point of the second launch stores. -/
theorem point1 (x0 : Vec Ideal S8x1024 .f32) (x1 : Vec Ideal S1024x1024 .bf16) (r : Fin 8) (e : Fin 1024) :
    k1_pay1 (F := Ideal) x0 x1 (ix2 r e) = ∑ k : Fin 1024, x0 (ix2 r k) * x1 (ix2 k e) := by
  pointwise [k1_pay1]

/-- The second launch's result array, over the arrays it is launched on. -/
theorem final1 (c : Dev nD) : (dat1 V c).arrAt 2 cfg1.N = mm (V c main_v23) (V c main_v7) := by
  refine (dat1 V c).arrAt_eq_of_covers 2 _ (by decide +kernel) fun t _ y => ?_
  blk_simp
  rw [after1_2]
  unfold out1_2
  frame_out
  generalize hG : mm (V c main_v23) (V c main_v7) = G
  obtain ⟨r, e, rfl⟩ : ∃ (r : Fin 8) (e : Fin 1024), y = ix2 r e := ⟨y 0, y 1, by blk_ext⟩
  have hemb : ((View.whole main_v24).slice (win1_2.rect t)).emb (ix2 r e)
      = (ix2 r ⟨t.val * 1024 + e.val, by have := tlt1 t; omega⟩ : S8x6144.Idx) := by
    blk_ext [idx1 t]
  rw [hemb, ← hG]
  refine (point1 (iblk1 V c 0 t) (iblk1 V c 1 t) r e).trans ?_
  refine Finset.sum_congr rfl fun k _ => ?_
  exact congrArg₂ (fun a b : EReal => a * b) (rd10 (V c main_v23) t r k) (rd11 (V c main_v7) t k e)

end Cert.NormsIdeal.Value
-- ==== Proof.Norms.Host.lean ====
/- The arrays the conditioning's launches read and the arrays its program returns. -/
module
public import proofs.«01_k».proof.Proof.Norms.Kernel
@[expose] public section
set_option maxRecDepth 16384
noncomputable section
open Idealize.ShloMosaic Idealize.ShloMosaic.TcCoe Idealize.SL.Sem
namespace Cert.NormsIdeal.Value
open Cert.NormsIdeal Cert.NormsIdeal.Gen

/-! ## The terms, over any arguments -/

/-- Context tokens, then latent tokens. -/
def KX (a0 : FVec Ideal S8x256x1024 .f32) (a1 : FVec Ideal S8x4096x1024 .f32) : FVec Ideal S8x4352x1024 .f32 :=
  concatenate S8x4352x1024 1 [⟨S8x256x1024, a0⟩, ⟨S8x4096x1024, a1⟩] concatenates_S8x256x1024_S8x4096x1024_S8x4352x1024_d1

/-- The latent conditions times their logistic function. -/
def KSl (c : FVec Ideal S8x1024 .f32) : FVec Ideal S8x1024 .f32 :=
  mulf (F := Ideal) c (Host.divf (broadcastInDim S8x1024 ![] bcast_S_S8x1024 (constant S_ .f32 0x3F800000#32))
    (addf (broadcastInDim S8x1024 ![] bcast_S_S8x1024 (constant S_ .f32 0x3F800000#32)) (Host.exp (Host.negf c))))

/-- The context condition times its logistic function. -/
def KSc (c : FVec Ideal S1x1024 .f32) : FVec Ideal S1x1024 .f32 :=
  mulf (F := Ideal) c (Host.divf (broadcastInDim S1x1024 ![] bcast_S_S1x1024 (constant S_ .f32 0x3F800000#32))
    (addf (broadcastInDim S1x1024 ![] bcast_S_S1x1024 (constant S_ .f32 0x3F800000#32)) (Host.exp (Host.negf c))))

/-- The latent conditions' rows as launched. -/
def KPl (c : FVec Ideal S8x1024 .f32) : FVec Ideal S8x1024 .f32 :=
  pad S8x1024 ![0, 0] ![0, 0] ![0, 0] (KSl c) (sitofp (F := Ideal) .f32 (constantI S_ 32 0#32)) pads_S8x1024_S8x1024_000_000 h_S_

/-- The context condition's row as launched, with seven rows of zeros. -/
def KPc (c : FVec Ideal S1024 .f32) : FVec Ideal S8x1024 .f32 :=
  pad S8x1024 ![0, 0] ![7, 0] ![0, 0] (KSc (broadcastInDim S1x1024 ![1] bcast_S1024_S1x1024_1 c)) (sitofp (F := Ideal) .f32 (constantI S_ 32 0#32)) pads_S1x1024_S8x1024_070_000 h_S_

/-- The weights as launched. -/
def KWt (w : FVec Ideal S1024x6144 .f32) : FVec Ideal S1024x6144 .bf16 := truncf (F := Ideal) .bf16 w bitsLt_bf16_f32

/-- The latent tokens' six modulations, one after another. -/
def KL (c : FVec Ideal S8x1024 .f32) (w : FVec Ideal S1024x6144 .f32) (b : FVec Ideal S6144 .f32) : FVec Ideal S8x1x6144 .f32 :=
  broadcastInDim S8x1x6144 ![0, 2] bcast_S8x6144_S8x1x6144_0_2 (addf (F := Ideal) (φ := .f32) (mm (KPl c) (KWt w))
    (broadcastInDim S8x6144 ![0, 1] bcast_S1x6144_S8x6144_0_1 (broadcastInDim S1x6144 ![1] bcast_S6144_S1x6144_1 b)))

/-- The context tokens' six modulations, one after another. -/
def KC (c : FVec Ideal S1024 .f32) (w : FVec Ideal S1024x6144 .f32) (b : FVec Ideal S6144 .f32) : FVec Ideal S1x1x6144 .f32 :=
  broadcastInDim S1x1x6144 ![0, 2] bcast_S1x6144_S1x1x6144_0_2 (addf (F := Ideal) (φ := .f32)
    (extractStridedSlice S1x6144 ![0, 0] (mm (KPc c) (KWt w)) slices_S8x6144_S1x6144_0_0) (broadcastInDim S1x6144 ![1] bcast_S6144_S1x6144_1 b))

/-- Whether a token is a context token. -/
def KI : (⟨S1x4352x1, .i1⟩ : BufTy).Contents (Elt Ideal) :=
  broadcastInDim S1x4352x1 ![1] bcast_S4352_S1x4352x1_1 (cmpi .slt (iotaInDim S4352 32 0) (broadcastInDim S4352 ![] bcast_S_S4352 (constantI S_ 32 256#32)))

/-- A modulation, token by token. -/
def KM (C : FVec Ideal S1x1x1024 .f32) (L : FVec Ideal S8x1x1024 .f32) : FVec Ideal S8x4352x1024 .f32 :=
  select (broadcastInDim S8x4352x1024 ![0, 1, 2] bcast_S1x4352x1_S8x4352x1024_0_1_2 KI)
    (broadcastInDim S8x4352x1024 ![0, 1, 2] bcast_S1x1x1024_S8x4352x1024_0_1_2 C)
    (broadcastInDim S8x4352x1024 ![0, 1, 2] bcast_S8x1x1024_S8x4352x1024_0_1_2 L)

/-- The rows over the root of their mean square, times a gain. -/
def KN (X : FVec Ideal S8x4352x1024 .f32) (g : FVec Ideal S1024 .f32) : FVec Ideal S8x4352x1024 .f32 :=
  mulf (F := Ideal) (mulf (F := Ideal) X (broadcastInDim S8x4352x1024 ![0, 1, 2] bcast_S8x4352x1_S8x4352x1024_0_1_2
    (Host.rsqrt (addf (Host.divf (broadcastInDim S8x4352x1 ![0, 1] bcast_S8x4352_S8x4352x1_0_1
      (Host.reduceAdd (mulf X X) (constant S_ .f32 0x00000000#32) reducesTo_S8x4352x1024_S8x4352_d2 h_S_))
      (broadcastInDim S8x4352x1 ![] bcast_S_S8x4352x1 (constant S_ .f32 0x44800000#32)))
      (broadcastInDim S8x4352x1 ![] bcast_S_S8x4352x1 (constant S_ .f32 0x358637BD#32))))))
    (broadcastInDim S8x4352x1024 ![0, 1, 2] bcast_S1x1x1024_S8x4352x1024_0_1_2 (broadcastInDim S1x1x1024 ![2] bcast_S1024_S1x1x1024_2 g))

/-- The normed rows, scaled and shifted. -/
def KH (X : FVec Ideal S8x4352x1024 .f32) (g : FVec Ideal S1024 .f32) (M0 M1 : FVec Ideal S8x4352x1024 .f32) : FVec Ideal S8x4352x1024 .f32 :=
  addf (F := Ideal) (mulf (F := Ideal) (KN X g) (addf (broadcastInDim S8x4352x1024 ![] bcast_S_S8x4352x1024 (constant S_ .f32 0x3F800000#32)) M1)) M0

/-- The rows plus a gated part's result. -/
def KR (X M Y : FVec Ideal S8x4352x1024 .f32) : FVec Ideal S8x4352x1024 .f32 := addf (F := Ideal) X (mulf (F := Ideal) M Y)

/-- The latent tokens' modulation 0, counting from zero. -/
def KL0 (L : FVec Ideal S8x1x6144 .f32) : FVec Ideal S8x1x1024 .f32 := extractStridedSlice S8x1x1024 ![0, 0, 0] L slices_S8x1x6144_S8x1x1024_0_0_0

/-- The context tokens' modulation 0, counting from zero. -/
def KC0 (C : FVec Ideal S1x1x6144 .f32) : FVec Ideal S1x1x1024 .f32 := extractStridedSlice S1x1x1024 ![0, 0, 0] C slices_S1x1x6144_S1x1x1024_0_0_0

/-- The latent tokens' modulation 1, counting from zero. -/
def KL1 (L : FVec Ideal S8x1x6144 .f32) : FVec Ideal S8x1x1024 .f32 := extractStridedSlice S8x1x1024 ![0, 0, 1024] L slices_S8x1x6144_S8x1x1024_0_0_1024

/-- The context tokens' modulation 1, counting from zero. -/
def KC1 (C : FVec Ideal S1x1x6144 .f32) : FVec Ideal S1x1x1024 .f32 := extractStridedSlice S1x1x1024 ![0, 0, 1024] C slices_S1x1x6144_S1x1x1024_0_0_1024

/-- The latent tokens' modulation 2, counting from zero. -/
def KL2 (L : FVec Ideal S8x1x6144 .f32) : FVec Ideal S8x1x1024 .f32 := extractStridedSlice S8x1x1024 ![0, 0, 2048] L slices_S8x1x6144_S8x1x1024_0_0_2048

/-- The context tokens' modulation 2, counting from zero. -/
def KC2 (C : FVec Ideal S1x1x6144 .f32) : FVec Ideal S1x1x1024 .f32 := extractStridedSlice S1x1x1024 ![0, 0, 2048] C slices_S1x1x6144_S1x1x1024_0_0_2048

/-- The latent tokens' modulation 3, counting from zero. -/
def KL3 (L : FVec Ideal S8x1x6144 .f32) : FVec Ideal S8x1x1024 .f32 := extractStridedSlice S8x1x1024 ![0, 0, 3072] L slices_S8x1x6144_S8x1x1024_0_0_3072

/-- The context tokens' modulation 3, counting from zero. -/
def KC3 (C : FVec Ideal S1x1x6144 .f32) : FVec Ideal S1x1x1024 .f32 := extractStridedSlice S1x1x1024 ![0, 0, 3072] C slices_S1x1x6144_S1x1x1024_0_0_3072

/-- The latent tokens' modulation 4, counting from zero. -/
def KL4 (L : FVec Ideal S8x1x6144 .f32) : FVec Ideal S8x1x1024 .f32 := extractStridedSlice S8x1x1024 ![0, 0, 4096] L slices_S8x1x6144_S8x1x1024_0_0_4096

/-- The context tokens' modulation 4, counting from zero. -/
def KC4 (C : FVec Ideal S1x1x6144 .f32) : FVec Ideal S1x1x1024 .f32 := extractStridedSlice S1x1x1024 ![0, 0, 4096] C slices_S1x1x6144_S1x1x1024_0_0_4096

/-- The latent tokens' modulation 5, counting from zero. -/
def KL5 (L : FVec Ideal S8x1x6144 .f32) : FVec Ideal S8x1x1024 .f32 := extractStridedSlice S8x1x1024 ![0, 0, 5120] L slices_S8x1x6144_S8x1x1024_0_0_5120

/-- The context tokens' modulation 5, counting from zero. -/
def KC5 (C : FVec Ideal S1x1x6144 .f32) : FVec Ideal S1x1x1024 .f32 := extractStridedSlice S1x1x1024 ![0, 0, 5120] C slices_S1x1x6144_S1x1x1024_0_0_5120

/-! ## What each buffer holds -/

variable (m : (ℓ : Loc nD τ sig) → Buf (Elt Ideal) ℓ) (ρ : Dev nD → PrngReg)

/-- The mixers' results. -/
theorem v0_1 (c : Dev nD) : W1 m ρ c (Proc.devRef .tc main_v0) = KX (m ((c : Thread nD τ).loc main_arg3)) (m ((c : Thread nD τ).loc main_arg2)) := by
  show StableHlo.after hostOps0 (W0 m ρ c) _ = _
  after_results_simp <;> rfl

/-- The experts' results. -/
theorem v1_1 (c : Dev nD) : W1 m ρ c (Proc.devRef .tc main_v1) = KX (m ((c : Thread nD τ).loc main_arg5)) (m ((c : Thread nD τ).loc main_arg4)) := by
  show StableHlo.after hostOps0 (W0 m ρ c) _ = _
  after_results_simp <;> rfl

/-- Whether a token is a context token. -/
theorem v5_1 (c : Dev nD) : W1 m ρ c (Proc.devRef .tc main_v5) = KI := by
  show StableHlo.after hostOps0 (W0 m ρ c) _ = _
  after_results_simp <;> rfl

/-- The tokens. -/
theorem v6_1 (c : Dev nD) : W1 m ρ c (Proc.devRef .tc main_v6) = KX (m ((c : Thread nD τ).loc main_arg1)) (m ((c : Thread nD τ).loc main_arg0)) := by
  show StableHlo.after hostOps0 (W0 m ρ c) _ = _
  after_results_simp <;> rfl

/-- The weights as launched. -/
theorem v7_1 (c : Dev nD) : W1 m ρ c (Proc.devRef .tc main_v7) = KWt (m ((c : Thread nD τ).loc main_arg8)) := by
  show StableHlo.after hostOps0 (W0 m ρ c) _ = _
  after_results_simp <;> rfl

/-- An argument is unchanged. -/
theorem arg6_1 (c : Dev nD) : W1 m ρ c (Proc.devRef .tc main_arg6) = (m ((c : Thread nD τ).loc main_arg6)) := by
  exact W1_args m ρ c main_arg6 (by decide)

/-- The latent conditions times their logistic function. -/
theorem v8_2 (c : Dev nD) : W2 m ρ c (Proc.devRef .tc main_v8) = KSl (m ((c : Thread nD τ).loc main_arg6)) := by
  have h : W2 m ρ c (Proc.devRef .tc main_v8) = KSl (W1 m ρ c (Proc.devRef .tc main_arg6)) := by
    show StableHlo.after hostOps0_1 (W1 m ρ c) _ = _
    after_results_simp <;> rfl
  rw [h, arg6_1]

/-- The padding word. -/
theorem c0_3 (c : Dev nD) : W3 m ρ c (Proc.devRef .tc main_c_0) = constantI S_ 32 0#32 := by
  show StableHlo.after hostOps0_2 (W2 m ρ c) _ = _
  after_results_simp <;> rfl

/-- The same after the next operation. -/
theorem v8_3 (c : Dev nD) : W3 m ρ c (Proc.devRef .tc main_v8) = KSl (m ((c : Thread nD τ).loc main_arg6)) := by
  exact (W3_of m ρ c main_v8 (by decide)).trans (v8_2 m ρ c)

/-- The first launch's rows. -/
theorem v9_4 (c : Dev nD) : W4 m ρ c (Proc.devRef .tc main_v9) = KPl (m ((c : Thread nD τ).loc main_arg6)) := by
  have h : W4 m ρ c (Proc.devRef .tc main_v9) = pad S8x1024 ![0, 0] ![0, 0] ![0, 0] (W3 m ρ c (Proc.devRef .tc main_v8) : FVec Ideal S8x1024 .f32) (sitofp (F := Ideal) .f32 (W3 m ρ c (Proc.devRef .tc main_c_0))) pads_S8x1024_S8x1024_000_000 h_S_ := by
    show StableHlo.after hostOps0_3 (W3 m ρ c) _ = _
    after_results_simp <;> rfl
  rw [h, v8_3, c0_3]
  rfl

/-- The first launch's weights. -/
theorem v7_4 (c : Dev nD) : W4 m ρ c (Proc.devRef .tc main_v7) = KWt (m ((c : Thread nD τ).loc main_arg8)) := by
  exact (W4_of m ρ c main_v7 (by decide)).trans ((W3_of m ρ c main_v7 (by decide)).trans ((W2_of m ρ c main_v7 (by decide)).trans (v7_1 m ρ c)))

/-- The first launch's result. -/
theorem v10_5 (c : Dev nD) : W5 m ρ c (Proc.devRef .tc main_v10) = mm (KPl (m ((c : Thread nD τ).loc main_arg6))) (KWt (m ((c : Thread nD τ).loc main_arg8))) := by
  refine (W5_arr m ρ c 2).trans ((final0 (V4 m ρ) c).trans ?_)
  exact congrArg₂ mm (v9_4 m ρ c) (v7_4 m ρ c)

/-- An argument is unchanged. -/
theorem arg9_5 (c : Dev nD) : W5 m ρ c (Proc.devRef .tc main_arg9) = (m ((c : Thread nD τ).loc main_arg9)) := by
  exact W5_args m ρ c main_arg9 (by decide)

/-- An argument is unchanged. -/
theorem arg7_5 (c : Dev nD) : W5 m ρ c (Proc.devRef .tc main_arg7) = (m ((c : Thread nD τ).loc main_arg7)) := by
  exact W5_args m ρ c main_arg7 (by decide)

/-- The latent tokens' modulation 0, counting from zero. -/
theorem v15_6 (c : Dev nD) : W6 m ρ c (Proc.devRef .tc main_v15) = KL0 (KL (m ((c : Thread nD τ).loc main_arg6)) (m ((c : Thread nD τ).loc main_arg8)) (m ((c : Thread nD τ).loc main_arg9))) := by
  have h : W6 m ρ c (Proc.devRef .tc main_v15) = KL0 (broadcastInDim S8x1x6144 ![0, 2] bcast_S8x6144_S8x1x6144_0_2 (addf (F := Ideal) (φ := .f32) (W5 m ρ c (Proc.devRef .tc main_v10)) (broadcastInDim S8x6144 ![0, 1] bcast_S1x6144_S8x6144_0_1 (broadcastInDim S1x6144 ![1] bcast_S6144_S1x6144_1 (W5 m ρ c (Proc.devRef .tc main_arg9)))))) := by
    show StableHlo.after hostOps1 (W5 m ρ c) _ = _
    after_results_simp <;> rfl
  rw [h, v10_5, arg9_5]
  rfl

/-- The latent tokens' modulation 1, counting from zero. -/
theorem v16_6 (c : Dev nD) : W6 m ρ c (Proc.devRef .tc main_v16) = KL1 (KL (m ((c : Thread nD τ).loc main_arg6)) (m ((c : Thread nD τ).loc main_arg8)) (m ((c : Thread nD τ).loc main_arg9))) := by
  have h : W6 m ρ c (Proc.devRef .tc main_v16) = KL1 (broadcastInDim S8x1x6144 ![0, 2] bcast_S8x6144_S8x1x6144_0_2 (addf (F := Ideal) (φ := .f32) (W5 m ρ c (Proc.devRef .tc main_v10)) (broadcastInDim S8x6144 ![0, 1] bcast_S1x6144_S8x6144_0_1 (broadcastInDim S1x6144 ![1] bcast_S6144_S1x6144_1 (W5 m ρ c (Proc.devRef .tc main_arg9)))))) := by
    show StableHlo.after hostOps1 (W5 m ρ c) _ = _
    after_results_simp <;> rfl
  rw [h, v10_5, arg9_5]
  rfl

/-- The latent tokens' modulation 2, counting from zero. -/
theorem v17_6 (c : Dev nD) : W6 m ρ c (Proc.devRef .tc main_v17) = KL2 (KL (m ((c : Thread nD τ).loc main_arg6)) (m ((c : Thread nD τ).loc main_arg8)) (m ((c : Thread nD τ).loc main_arg9))) := by
  have h : W6 m ρ c (Proc.devRef .tc main_v17) = KL2 (broadcastInDim S8x1x6144 ![0, 2] bcast_S8x6144_S8x1x6144_0_2 (addf (F := Ideal) (φ := .f32) (W5 m ρ c (Proc.devRef .tc main_v10)) (broadcastInDim S8x6144 ![0, 1] bcast_S1x6144_S8x6144_0_1 (broadcastInDim S1x6144 ![1] bcast_S6144_S1x6144_1 (W5 m ρ c (Proc.devRef .tc main_arg9)))))) := by
    show StableHlo.after hostOps1 (W5 m ρ c) _ = _
    after_results_simp <;> rfl
  rw [h, v10_5, arg9_5]
  rfl

/-- The latent tokens' modulation 3, counting from zero. -/
theorem v18_6 (c : Dev nD) : W6 m ρ c (Proc.devRef .tc main_v18) = KL3 (KL (m ((c : Thread nD τ).loc main_arg6)) (m ((c : Thread nD τ).loc main_arg8)) (m ((c : Thread nD τ).loc main_arg9))) := by
  have h : W6 m ρ c (Proc.devRef .tc main_v18) = KL3 (broadcastInDim S8x1x6144 ![0, 2] bcast_S8x6144_S8x1x6144_0_2 (addf (F := Ideal) (φ := .f32) (W5 m ρ c (Proc.devRef .tc main_v10)) (broadcastInDim S8x6144 ![0, 1] bcast_S1x6144_S8x6144_0_1 (broadcastInDim S1x6144 ![1] bcast_S6144_S1x6144_1 (W5 m ρ c (Proc.devRef .tc main_arg9)))))) := by
    show StableHlo.after hostOps1 (W5 m ρ c) _ = _
    after_results_simp <;> rfl
  rw [h, v10_5, arg9_5]
  rfl

/-- The latent tokens' modulation 4, counting from zero. -/
theorem v19_6 (c : Dev nD) : W6 m ρ c (Proc.devRef .tc main_v19) = KL4 (KL (m ((c : Thread nD τ).loc main_arg6)) (m ((c : Thread nD τ).loc main_arg8)) (m ((c : Thread nD τ).loc main_arg9))) := by
  have h : W6 m ρ c (Proc.devRef .tc main_v19) = KL4 (broadcastInDim S8x1x6144 ![0, 2] bcast_S8x6144_S8x1x6144_0_2 (addf (F := Ideal) (φ := .f32) (W5 m ρ c (Proc.devRef .tc main_v10)) (broadcastInDim S8x6144 ![0, 1] bcast_S1x6144_S8x6144_0_1 (broadcastInDim S1x6144 ![1] bcast_S6144_S1x6144_1 (W5 m ρ c (Proc.devRef .tc main_arg9)))))) := by
    show StableHlo.after hostOps1 (W5 m ρ c) _ = _
    after_results_simp <;> rfl
  rw [h, v10_5, arg9_5]
  rfl

/-- The latent tokens' modulation 5, counting from zero. -/
theorem v20_6 (c : Dev nD) : W6 m ρ c (Proc.devRef .tc main_v20) = KL5 (KL (m ((c : Thread nD τ).loc main_arg6)) (m ((c : Thread nD τ).loc main_arg8)) (m ((c : Thread nD τ).loc main_arg9))) := by
  have h : W6 m ρ c (Proc.devRef .tc main_v20) = KL5 (broadcastInDim S8x1x6144 ![0, 2] bcast_S8x6144_S8x1x6144_0_2 (addf (F := Ideal) (φ := .f32) (W5 m ρ c (Proc.devRef .tc main_v10)) (broadcastInDim S8x6144 ![0, 1] bcast_S1x6144_S8x6144_0_1 (broadcastInDim S1x6144 ![1] bcast_S6144_S1x6144_1 (W5 m ρ c (Proc.devRef .tc main_arg9)))))) := by
    show StableHlo.after hostOps1 (W5 m ρ c) _ = _
    after_results_simp <;> rfl
  rw [h, v10_5, arg9_5]
  rfl

/-- The context condition as a row. -/
theorem v21_6 (c : Dev nD) : W6 m ρ c (Proc.devRef .tc main_v21) = (broadcastInDim S1x1024 ![1] bcast_S1024_S1x1024_1 (m ((c : Thread nD τ).loc main_arg7)) : FVec Ideal S1x1024 .f32) := by
  have h : W6 m ρ c (Proc.devRef .tc main_v21) = (broadcastInDim S1x1024 ![1] bcast_S1024_S1x1024_1 (W5 m ρ c (Proc.devRef .tc main_arg7) : FVec Ideal S1024 .f32) : FVec Ideal S1x1024 .f32) := by
    show StableHlo.after hostOps1 (W5 m ρ c) _ = _
    after_results_simp <;> rfl
  rw [h, arg7_5]

/-- The context condition times its logistic function. -/
theorem v22_7 (c : Dev nD) : W7 m ρ c (Proc.devRef .tc main_v22) = KSc (broadcastInDim S1x1024 ![1] bcast_S1024_S1x1024_1 (m ((c : Thread nD τ).loc main_arg7))) := by
  have h : W7 m ρ c (Proc.devRef .tc main_v22) = KSc (W6 m ρ c (Proc.devRef .tc main_v21)) := by
    show StableHlo.after hostOps1_1 (W6 m ρ c) _ = _
    after_results_simp <;> rfl
  rw [h, v21_6]

/-- The padding word. -/
theorem c1_8 (c : Dev nD) : W8 m ρ c (Proc.devRef .tc main_c_1) = constantI S_ 32 0#32 := by
  show StableHlo.after hostOps1_2 (W7 m ρ c) _ = _
  after_results_simp <;> rfl

/-- The same after the next operation. -/
theorem v22_8 (c : Dev nD) : W8 m ρ c (Proc.devRef .tc main_v22) = KSc (broadcastInDim S1x1024 ![1] bcast_S1024_S1x1024_1 (m ((c : Thread nD τ).loc main_arg7))) := by
  exact (W8_of m ρ c main_v22 (by decide)).trans (v22_7 m ρ c)

/-- The second launch's rows. -/
theorem v23_9 (c : Dev nD) : W9 m ρ c (Proc.devRef .tc main_v23) = KPc (m ((c : Thread nD τ).loc main_arg7)) := by
  have h : W9 m ρ c (Proc.devRef .tc main_v23) = pad S8x1024 ![0, 0] ![7, 0] ![0, 0] (W8 m ρ c (Proc.devRef .tc main_v22) : FVec Ideal S1x1024 .f32) (sitofp (F := Ideal) .f32 (W8 m ρ c (Proc.devRef .tc main_c_1))) pads_S1x1024_S8x1024_070_000 h_S_ := by
    show StableHlo.after hostOps1_3 (W8 m ρ c) _ = _
    after_results_simp <;> rfl
  rw [h, v22_8, c1_8]
  rfl

/-- The second launch's weights. -/
theorem v7_9 (c : Dev nD) : W9 m ρ c (Proc.devRef .tc main_v7) = KWt (m ((c : Thread nD τ).loc main_arg8)) := by
  exact (W9_of m ρ c main_v7 (by decide)).trans ((W8_of m ρ c main_v7 (by decide)).trans ((W7_of m ρ c main_v7 (by decide)).trans ((W6_of m ρ c main_v7 (by decide)).trans ((W5_of m ρ c main_v7 (by decide)).trans (v7_4 m ρ c)))))

/-- The second launch's result. -/
theorem v24_10 (c : Dev nD) : W10 m ρ c (Proc.devRef .tc main_v24) = mm (KPc (m ((c : Thread nD τ).loc main_arg7))) (KWt (m ((c : Thread nD τ).loc main_arg8))) := by
  refine (W10_arr m ρ c 2).trans ((final1 (V9 m ρ) c).trans ?_)
  exact congrArg₂ mm (v23_9 m ρ c) (v7_9 m ρ c)

/-- An argument is unchanged. -/
theorem arg9_10 (c : Dev nD) : W10 m ρ c (Proc.devRef .tc main_arg9) = (m ((c : Thread nD τ).loc main_arg9)) := by
  exact W10_args m ρ c main_arg9 (by decide)

/-- The context tokens' modulation 0, counting from zero. -/
theorem v29_11 (c : Dev nD) : W11 m ρ c (Proc.devRef .tc main_v29) = KC0 (KC (m ((c : Thread nD τ).loc main_arg7)) (m ((c : Thread nD τ).loc main_arg8)) (m ((c : Thread nD τ).loc main_arg9))) := by
  have h : W11 m ρ c (Proc.devRef .tc main_v29) = KC0 (broadcastInDim S1x1x6144 ![0, 2] bcast_S1x6144_S1x1x6144_0_2 (addf (F := Ideal) (φ := .f32) (extractStridedSlice S1x6144 ![0, 0] (W10 m ρ c (Proc.devRef .tc main_v24)) slices_S8x6144_S1x6144_0_0) (broadcastInDim S1x6144 ![1] bcast_S6144_S1x6144_1 (W10 m ρ c (Proc.devRef .tc main_arg9))))) := by
    show StableHlo.after hostOps2 (W10 m ρ c) _ = _
    after_results_simp <;> rfl
  rw [h, v24_10, arg9_10]
  rfl

/-- The context tokens' modulation 1, counting from zero. -/
theorem v30_11 (c : Dev nD) : W11 m ρ c (Proc.devRef .tc main_v30) = KC1 (KC (m ((c : Thread nD τ).loc main_arg7)) (m ((c : Thread nD τ).loc main_arg8)) (m ((c : Thread nD τ).loc main_arg9))) := by
  have h : W11 m ρ c (Proc.devRef .tc main_v30) = KC1 (broadcastInDim S1x1x6144 ![0, 2] bcast_S1x6144_S1x1x6144_0_2 (addf (F := Ideal) (φ := .f32) (extractStridedSlice S1x6144 ![0, 0] (W10 m ρ c (Proc.devRef .tc main_v24)) slices_S8x6144_S1x6144_0_0) (broadcastInDim S1x6144 ![1] bcast_S6144_S1x6144_1 (W10 m ρ c (Proc.devRef .tc main_arg9))))) := by
    show StableHlo.after hostOps2 (W10 m ρ c) _ = _
    after_results_simp <;> rfl
  rw [h, v24_10, arg9_10]
  rfl

/-- The context tokens' modulation 2, counting from zero. -/
theorem v31_11 (c : Dev nD) : W11 m ρ c (Proc.devRef .tc main_v31) = KC2 (KC (m ((c : Thread nD τ).loc main_arg7)) (m ((c : Thread nD τ).loc main_arg8)) (m ((c : Thread nD τ).loc main_arg9))) := by
  have h : W11 m ρ c (Proc.devRef .tc main_v31) = KC2 (broadcastInDim S1x1x6144 ![0, 2] bcast_S1x6144_S1x1x6144_0_2 (addf (F := Ideal) (φ := .f32) (extractStridedSlice S1x6144 ![0, 0] (W10 m ρ c (Proc.devRef .tc main_v24)) slices_S8x6144_S1x6144_0_0) (broadcastInDim S1x6144 ![1] bcast_S6144_S1x6144_1 (W10 m ρ c (Proc.devRef .tc main_arg9))))) := by
    show StableHlo.after hostOps2 (W10 m ρ c) _ = _
    after_results_simp <;> rfl
  rw [h, v24_10, arg9_10]
  rfl

/-- The context tokens' modulation 3, counting from zero. -/
theorem v32_11 (c : Dev nD) : W11 m ρ c (Proc.devRef .tc main_v32) = KC3 (KC (m ((c : Thread nD τ).loc main_arg7)) (m ((c : Thread nD τ).loc main_arg8)) (m ((c : Thread nD τ).loc main_arg9))) := by
  have h : W11 m ρ c (Proc.devRef .tc main_v32) = KC3 (broadcastInDim S1x1x6144 ![0, 2] bcast_S1x6144_S1x1x6144_0_2 (addf (F := Ideal) (φ := .f32) (extractStridedSlice S1x6144 ![0, 0] (W10 m ρ c (Proc.devRef .tc main_v24)) slices_S8x6144_S1x6144_0_0) (broadcastInDim S1x6144 ![1] bcast_S6144_S1x6144_1 (W10 m ρ c (Proc.devRef .tc main_arg9))))) := by
    show StableHlo.after hostOps2 (W10 m ρ c) _ = _
    after_results_simp <;> rfl
  rw [h, v24_10, arg9_10]
  rfl

/-- The context tokens' modulation 4, counting from zero. -/
theorem v33_11 (c : Dev nD) : W11 m ρ c (Proc.devRef .tc main_v33) = KC4 (KC (m ((c : Thread nD τ).loc main_arg7)) (m ((c : Thread nD τ).loc main_arg8)) (m ((c : Thread nD τ).loc main_arg9))) := by
  have h : W11 m ρ c (Proc.devRef .tc main_v33) = KC4 (broadcastInDim S1x1x6144 ![0, 2] bcast_S1x6144_S1x1x6144_0_2 (addf (F := Ideal) (φ := .f32) (extractStridedSlice S1x6144 ![0, 0] (W10 m ρ c (Proc.devRef .tc main_v24)) slices_S8x6144_S1x6144_0_0) (broadcastInDim S1x6144 ![1] bcast_S6144_S1x6144_1 (W10 m ρ c (Proc.devRef .tc main_arg9))))) := by
    show StableHlo.after hostOps2 (W10 m ρ c) _ = _
    after_results_simp <;> rfl
  rw [h, v24_10, arg9_10]
  rfl

/-- The context tokens' modulation 5, counting from zero. -/
theorem v34_11 (c : Dev nD) : W11 m ρ c (Proc.devRef .tc main_v34) = KC5 (KC (m ((c : Thread nD τ).loc main_arg7)) (m ((c : Thread nD τ).loc main_arg8)) (m ((c : Thread nD τ).loc main_arg9))) := by
  have h : W11 m ρ c (Proc.devRef .tc main_v34) = KC5 (broadcastInDim S1x1x6144 ![0, 2] bcast_S1x6144_S1x1x6144_0_2 (addf (F := Ideal) (φ := .f32) (extractStridedSlice S1x6144 ![0, 0] (W10 m ρ c (Proc.devRef .tc main_v24)) slices_S8x6144_S1x6144_0_0) (broadcastInDim S1x6144 ![1] bcast_S6144_S1x6144_1 (W10 m ρ c (Proc.devRef .tc main_arg9))))) := by
    show StableHlo.after hostOps2 (W10 m ρ c) _ = _
    after_results_simp <;> rfl
  rw [h, v24_10, arg9_10]
  rfl

/-- The latent tokens' modulation before its selection. -/
theorem v15_11 (c : Dev nD) : W11 m ρ c (Proc.devRef .tc main_v15) = KL0 (KL (m ((c : Thread nD τ).loc main_arg6)) (m ((c : Thread nD τ).loc main_arg8)) (m ((c : Thread nD τ).loc main_arg9))) := by
  exact (W11_of m ρ c main_v15 (by decide)).trans ((W10_of m ρ c main_v15 (by decide)).trans ((W9_of m ρ c main_v15 (by decide)).trans ((W8_of m ρ c main_v15 (by decide)).trans ((W7_of m ρ c main_v15 (by decide)).trans (v15_6 m ρ c)))))

/-- Whether a token is a context token, unchanged. -/
theorem v5_11 (c : Dev nD) : W11 m ρ c (Proc.devRef .tc main_v5) = KI := by
  exact (W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans ((W2_of m ρ c main_v5 (by decide)).trans (v5_1 m ρ c))))))))))

/-- Modulation 0, counting from zero, token by token. -/
theorem v35_12 (c : Dev nD) : W12 m ρ c (Proc.devRef .tc main_v35) = KM (KC0 (KC (m ((c : Thread nD τ).loc main_arg7)) (m ((c : Thread nD τ).loc main_arg8)) (m ((c : Thread nD τ).loc main_arg9)))) (KL0 (KL (m ((c : Thread nD τ).loc main_arg6)) (m ((c : Thread nD τ).loc main_arg8)) (m ((c : Thread nD τ).loc main_arg9)))) := by
  have h : W12 m ρ c (Proc.devRef .tc main_v35) = select (broadcastInDim S8x4352x1024 ![0, 1, 2] bcast_S1x4352x1_S8x4352x1024_0_1_2 (W11 m ρ c (Proc.devRef .tc main_v5))) (broadcastInDim S8x4352x1024 ![0, 1, 2] bcast_S1x1x1024_S8x4352x1024_0_1_2 (W11 m ρ c (Proc.devRef .tc main_v29) : FVec Ideal S1x1x1024 .f32)) (broadcastInDim S8x4352x1024 ![0, 1, 2] bcast_S8x1x1024_S8x4352x1024_0_1_2 (W11 m ρ c (Proc.devRef .tc main_v15) : FVec Ideal S8x1x1024 .f32)) := by
    show StableHlo.after hostOps2_1 (W11 m ρ c) _ = _
    after_results_simp <;> rfl
  rw [h, v5_11, v29_11, v15_11]
  rfl

/-- The same after the last selection. -/
theorem v35_17 (c : Dev nD) : W17 m ρ c (Proc.devRef .tc main_v35) = KM (KC0 (KC (m ((c : Thread nD τ).loc main_arg7)) (m ((c : Thread nD τ).loc main_arg8)) (m ((c : Thread nD τ).loc main_arg9)))) (KL0 (KL (m ((c : Thread nD τ).loc main_arg6)) (m ((c : Thread nD τ).loc main_arg8)) (m ((c : Thread nD τ).loc main_arg9)))) := by
  exact (W17_of m ρ c main_v35 (by decide)).trans ((W16_of m ρ c main_v35 (by decide)).trans ((W15_of m ρ c main_v35 (by decide)).trans ((W14_of m ρ c main_v35 (by decide)).trans ((W13_of m ρ c main_v35 (by decide)).trans (v35_12 m ρ c)))))

/-- The latent tokens' modulation before its selection. -/
theorem v16_12 (c : Dev nD) : W12 m ρ c (Proc.devRef .tc main_v16) = KL1 (KL (m ((c : Thread nD τ).loc main_arg6)) (m ((c : Thread nD τ).loc main_arg8)) (m ((c : Thread nD τ).loc main_arg9))) := by
  exact (W12_of m ρ c main_v16 (by decide)).trans ((W11_of m ρ c main_v16 (by decide)).trans ((W10_of m ρ c main_v16 (by decide)).trans ((W9_of m ρ c main_v16 (by decide)).trans ((W8_of m ρ c main_v16 (by decide)).trans ((W7_of m ρ c main_v16 (by decide)).trans (v16_6 m ρ c))))))

/-- The context tokens' modulation before its selection. -/
theorem v30_12 (c : Dev nD) : W12 m ρ c (Proc.devRef .tc main_v30) = KC1 (KC (m ((c : Thread nD τ).loc main_arg7)) (m ((c : Thread nD τ).loc main_arg8)) (m ((c : Thread nD τ).loc main_arg9))) := by
  exact (W12_of m ρ c main_v30 (by decide)).trans (v30_11 m ρ c)

/-- Whether a token is a context token, unchanged. -/
theorem v5_12 (c : Dev nD) : W12 m ρ c (Proc.devRef .tc main_v5) = KI := by
  exact (W12_of m ρ c main_v5 (by decide)).trans (v5_11 m ρ c)

/-- Modulation 1, counting from zero, token by token. -/
theorem v36_13 (c : Dev nD) : W13 m ρ c (Proc.devRef .tc main_v36) = KM (KC1 (KC (m ((c : Thread nD τ).loc main_arg7)) (m ((c : Thread nD τ).loc main_arg8)) (m ((c : Thread nD τ).loc main_arg9)))) (KL1 (KL (m ((c : Thread nD τ).loc main_arg6)) (m ((c : Thread nD τ).loc main_arg8)) (m ((c : Thread nD τ).loc main_arg9)))) := by
  have h : W13 m ρ c (Proc.devRef .tc main_v36) = select (broadcastInDim S8x4352x1024 ![0, 1, 2] bcast_S1x4352x1_S8x4352x1024_0_1_2 (W12 m ρ c (Proc.devRef .tc main_v5))) (broadcastInDim S8x4352x1024 ![0, 1, 2] bcast_S1x1x1024_S8x4352x1024_0_1_2 (W12 m ρ c (Proc.devRef .tc main_v30) : FVec Ideal S1x1x1024 .f32)) (broadcastInDim S8x4352x1024 ![0, 1, 2] bcast_S8x1x1024_S8x4352x1024_0_1_2 (W12 m ρ c (Proc.devRef .tc main_v16) : FVec Ideal S8x1x1024 .f32)) := by
    show StableHlo.after hostOps2_2 (W12 m ρ c) _ = _
    after_results_simp <;> rfl
  rw [h, v5_12, v30_12, v16_12]
  rfl

/-- The same after the last selection. -/
theorem v36_17 (c : Dev nD) : W17 m ρ c (Proc.devRef .tc main_v36) = KM (KC1 (KC (m ((c : Thread nD τ).loc main_arg7)) (m ((c : Thread nD τ).loc main_arg8)) (m ((c : Thread nD τ).loc main_arg9)))) (KL1 (KL (m ((c : Thread nD τ).loc main_arg6)) (m ((c : Thread nD τ).loc main_arg8)) (m ((c : Thread nD τ).loc main_arg9)))) := by
  exact (W17_of m ρ c main_v36 (by decide)).trans ((W16_of m ρ c main_v36 (by decide)).trans ((W15_of m ρ c main_v36 (by decide)).trans ((W14_of m ρ c main_v36 (by decide)).trans (v36_13 m ρ c))))

/-- The latent tokens' modulation before its selection. -/
theorem v17_13 (c : Dev nD) : W13 m ρ c (Proc.devRef .tc main_v17) = KL2 (KL (m ((c : Thread nD τ).loc main_arg6)) (m ((c : Thread nD τ).loc main_arg8)) (m ((c : Thread nD τ).loc main_arg9))) := by
  exact (W13_of m ρ c main_v17 (by decide)).trans ((W12_of m ρ c main_v17 (by decide)).trans ((W11_of m ρ c main_v17 (by decide)).trans ((W10_of m ρ c main_v17 (by decide)).trans ((W9_of m ρ c main_v17 (by decide)).trans ((W8_of m ρ c main_v17 (by decide)).trans ((W7_of m ρ c main_v17 (by decide)).trans (v17_6 m ρ c)))))))

/-- The context tokens' modulation before its selection. -/
theorem v31_13 (c : Dev nD) : W13 m ρ c (Proc.devRef .tc main_v31) = KC2 (KC (m ((c : Thread nD τ).loc main_arg7)) (m ((c : Thread nD τ).loc main_arg8)) (m ((c : Thread nD τ).loc main_arg9))) := by
  exact (W13_of m ρ c main_v31 (by decide)).trans ((W12_of m ρ c main_v31 (by decide)).trans (v31_11 m ρ c))

/-- Whether a token is a context token, unchanged. -/
theorem v5_13 (c : Dev nD) : W13 m ρ c (Proc.devRef .tc main_v5) = KI := by
  exact (W13_of m ρ c main_v5 (by decide)).trans (v5_12 m ρ c)

/-- Modulation 2, counting from zero, token by token. -/
theorem v37_14 (c : Dev nD) : W14 m ρ c (Proc.devRef .tc main_v37) = KM (KC2 (KC (m ((c : Thread nD τ).loc main_arg7)) (m ((c : Thread nD τ).loc main_arg8)) (m ((c : Thread nD τ).loc main_arg9)))) (KL2 (KL (m ((c : Thread nD τ).loc main_arg6)) (m ((c : Thread nD τ).loc main_arg8)) (m ((c : Thread nD τ).loc main_arg9)))) := by
  have h : W14 m ρ c (Proc.devRef .tc main_v37) = select (broadcastInDim S8x4352x1024 ![0, 1, 2] bcast_S1x4352x1_S8x4352x1024_0_1_2 (W13 m ρ c (Proc.devRef .tc main_v5))) (broadcastInDim S8x4352x1024 ![0, 1, 2] bcast_S1x1x1024_S8x4352x1024_0_1_2 (W13 m ρ c (Proc.devRef .tc main_v31) : FVec Ideal S1x1x1024 .f32)) (broadcastInDim S8x4352x1024 ![0, 1, 2] bcast_S8x1x1024_S8x4352x1024_0_1_2 (W13 m ρ c (Proc.devRef .tc main_v17) : FVec Ideal S8x1x1024 .f32)) := by
    show StableHlo.after hostOps2_3 (W13 m ρ c) _ = _
    after_results_simp <;> rfl
  rw [h, v5_13, v31_13, v17_13]
  rfl

/-- The same after the last selection. -/
theorem v37_17 (c : Dev nD) : W17 m ρ c (Proc.devRef .tc main_v37) = KM (KC2 (KC (m ((c : Thread nD τ).loc main_arg7)) (m ((c : Thread nD τ).loc main_arg8)) (m ((c : Thread nD τ).loc main_arg9)))) (KL2 (KL (m ((c : Thread nD τ).loc main_arg6)) (m ((c : Thread nD τ).loc main_arg8)) (m ((c : Thread nD τ).loc main_arg9)))) := by
  exact (W17_of m ρ c main_v37 (by decide)).trans ((W16_of m ρ c main_v37 (by decide)).trans ((W15_of m ρ c main_v37 (by decide)).trans (v37_14 m ρ c)))

/-- The latent tokens' modulation before its selection. -/
theorem v18_14 (c : Dev nD) : W14 m ρ c (Proc.devRef .tc main_v18) = KL3 (KL (m ((c : Thread nD τ).loc main_arg6)) (m ((c : Thread nD τ).loc main_arg8)) (m ((c : Thread nD τ).loc main_arg9))) := by
  exact (W14_of m ρ c main_v18 (by decide)).trans ((W13_of m ρ c main_v18 (by decide)).trans ((W12_of m ρ c main_v18 (by decide)).trans ((W11_of m ρ c main_v18 (by decide)).trans ((W10_of m ρ c main_v18 (by decide)).trans ((W9_of m ρ c main_v18 (by decide)).trans ((W8_of m ρ c main_v18 (by decide)).trans ((W7_of m ρ c main_v18 (by decide)).trans (v18_6 m ρ c))))))))

/-- The context tokens' modulation before its selection. -/
theorem v32_14 (c : Dev nD) : W14 m ρ c (Proc.devRef .tc main_v32) = KC3 (KC (m ((c : Thread nD τ).loc main_arg7)) (m ((c : Thread nD τ).loc main_arg8)) (m ((c : Thread nD τ).loc main_arg9))) := by
  exact (W14_of m ρ c main_v32 (by decide)).trans ((W13_of m ρ c main_v32 (by decide)).trans ((W12_of m ρ c main_v32 (by decide)).trans (v32_11 m ρ c)))

/-- Whether a token is a context token, unchanged. -/
theorem v5_14 (c : Dev nD) : W14 m ρ c (Proc.devRef .tc main_v5) = KI := by
  exact (W14_of m ρ c main_v5 (by decide)).trans (v5_13 m ρ c)

/-- Modulation 3, counting from zero, token by token. -/
theorem v38_15 (c : Dev nD) : W15 m ρ c (Proc.devRef .tc main_v38) = KM (KC3 (KC (m ((c : Thread nD τ).loc main_arg7)) (m ((c : Thread nD τ).loc main_arg8)) (m ((c : Thread nD τ).loc main_arg9)))) (KL3 (KL (m ((c : Thread nD τ).loc main_arg6)) (m ((c : Thread nD τ).loc main_arg8)) (m ((c : Thread nD τ).loc main_arg9)))) := by
  have h : W15 m ρ c (Proc.devRef .tc main_v38) = select (broadcastInDim S8x4352x1024 ![0, 1, 2] bcast_S1x4352x1_S8x4352x1024_0_1_2 (W14 m ρ c (Proc.devRef .tc main_v5))) (broadcastInDim S8x4352x1024 ![0, 1, 2] bcast_S1x1x1024_S8x4352x1024_0_1_2 (W14 m ρ c (Proc.devRef .tc main_v32) : FVec Ideal S1x1x1024 .f32)) (broadcastInDim S8x4352x1024 ![0, 1, 2] bcast_S8x1x1024_S8x4352x1024_0_1_2 (W14 m ρ c (Proc.devRef .tc main_v18) : FVec Ideal S8x1x1024 .f32)) := by
    show StableHlo.after hostOps2_4 (W14 m ρ c) _ = _
    after_results_simp <;> rfl
  rw [h, v5_14, v32_14, v18_14]
  rfl

/-- The same after the last selection. -/
theorem v38_17 (c : Dev nD) : W17 m ρ c (Proc.devRef .tc main_v38) = KM (KC3 (KC (m ((c : Thread nD τ).loc main_arg7)) (m ((c : Thread nD τ).loc main_arg8)) (m ((c : Thread nD τ).loc main_arg9)))) (KL3 (KL (m ((c : Thread nD τ).loc main_arg6)) (m ((c : Thread nD τ).loc main_arg8)) (m ((c : Thread nD τ).loc main_arg9)))) := by
  exact (W17_of m ρ c main_v38 (by decide)).trans ((W16_of m ρ c main_v38 (by decide)).trans (v38_15 m ρ c))

/-- The latent tokens' modulation before its selection. -/
theorem v19_15 (c : Dev nD) : W15 m ρ c (Proc.devRef .tc main_v19) = KL4 (KL (m ((c : Thread nD τ).loc main_arg6)) (m ((c : Thread nD τ).loc main_arg8)) (m ((c : Thread nD τ).loc main_arg9))) := by
  exact (W15_of m ρ c main_v19 (by decide)).trans ((W14_of m ρ c main_v19 (by decide)).trans ((W13_of m ρ c main_v19 (by decide)).trans ((W12_of m ρ c main_v19 (by decide)).trans ((W11_of m ρ c main_v19 (by decide)).trans ((W10_of m ρ c main_v19 (by decide)).trans ((W9_of m ρ c main_v19 (by decide)).trans ((W8_of m ρ c main_v19 (by decide)).trans ((W7_of m ρ c main_v19 (by decide)).trans (v19_6 m ρ c)))))))))

/-- The context tokens' modulation before its selection. -/
theorem v33_15 (c : Dev nD) : W15 m ρ c (Proc.devRef .tc main_v33) = KC4 (KC (m ((c : Thread nD τ).loc main_arg7)) (m ((c : Thread nD τ).loc main_arg8)) (m ((c : Thread nD τ).loc main_arg9))) := by
  exact (W15_of m ρ c main_v33 (by decide)).trans ((W14_of m ρ c main_v33 (by decide)).trans ((W13_of m ρ c main_v33 (by decide)).trans ((W12_of m ρ c main_v33 (by decide)).trans (v33_11 m ρ c))))

/-- Whether a token is a context token, unchanged. -/
theorem v5_15 (c : Dev nD) : W15 m ρ c (Proc.devRef .tc main_v5) = KI := by
  exact (W15_of m ρ c main_v5 (by decide)).trans (v5_14 m ρ c)

/-- Modulation 4, counting from zero, token by token. -/
theorem v39_16 (c : Dev nD) : W16 m ρ c (Proc.devRef .tc main_v39) = KM (KC4 (KC (m ((c : Thread nD τ).loc main_arg7)) (m ((c : Thread nD τ).loc main_arg8)) (m ((c : Thread nD τ).loc main_arg9)))) (KL4 (KL (m ((c : Thread nD τ).loc main_arg6)) (m ((c : Thread nD τ).loc main_arg8)) (m ((c : Thread nD τ).loc main_arg9)))) := by
  have h : W16 m ρ c (Proc.devRef .tc main_v39) = select (broadcastInDim S8x4352x1024 ![0, 1, 2] bcast_S1x4352x1_S8x4352x1024_0_1_2 (W15 m ρ c (Proc.devRef .tc main_v5))) (broadcastInDim S8x4352x1024 ![0, 1, 2] bcast_S1x1x1024_S8x4352x1024_0_1_2 (W15 m ρ c (Proc.devRef .tc main_v33) : FVec Ideal S1x1x1024 .f32)) (broadcastInDim S8x4352x1024 ![0, 1, 2] bcast_S8x1x1024_S8x4352x1024_0_1_2 (W15 m ρ c (Proc.devRef .tc main_v19) : FVec Ideal S8x1x1024 .f32)) := by
    show StableHlo.after hostOps2_5 (W15 m ρ c) _ = _
    after_results_simp <;> rfl
  rw [h, v5_15, v33_15, v19_15]
  rfl

/-- The same after the last selection. -/
theorem v39_17 (c : Dev nD) : W17 m ρ c (Proc.devRef .tc main_v39) = KM (KC4 (KC (m ((c : Thread nD τ).loc main_arg7)) (m ((c : Thread nD τ).loc main_arg8)) (m ((c : Thread nD τ).loc main_arg9)))) (KL4 (KL (m ((c : Thread nD τ).loc main_arg6)) (m ((c : Thread nD τ).loc main_arg8)) (m ((c : Thread nD τ).loc main_arg9)))) := by
  exact (W17_of m ρ c main_v39 (by decide)).trans (v39_16 m ρ c)

/-- The latent tokens' modulation before its selection. -/
theorem v20_16 (c : Dev nD) : W16 m ρ c (Proc.devRef .tc main_v20) = KL5 (KL (m ((c : Thread nD τ).loc main_arg6)) (m ((c : Thread nD τ).loc main_arg8)) (m ((c : Thread nD τ).loc main_arg9))) := by
  exact (W16_of m ρ c main_v20 (by decide)).trans ((W15_of m ρ c main_v20 (by decide)).trans ((W14_of m ρ c main_v20 (by decide)).trans ((W13_of m ρ c main_v20 (by decide)).trans ((W12_of m ρ c main_v20 (by decide)).trans ((W11_of m ρ c main_v20 (by decide)).trans ((W10_of m ρ c main_v20 (by decide)).trans ((W9_of m ρ c main_v20 (by decide)).trans ((W8_of m ρ c main_v20 (by decide)).trans ((W7_of m ρ c main_v20 (by decide)).trans (v20_6 m ρ c))))))))))

/-- The context tokens' modulation before its selection. -/
theorem v34_16 (c : Dev nD) : W16 m ρ c (Proc.devRef .tc main_v34) = KC5 (KC (m ((c : Thread nD τ).loc main_arg7)) (m ((c : Thread nD τ).loc main_arg8)) (m ((c : Thread nD τ).loc main_arg9))) := by
  exact (W16_of m ρ c main_v34 (by decide)).trans ((W15_of m ρ c main_v34 (by decide)).trans ((W14_of m ρ c main_v34 (by decide)).trans ((W13_of m ρ c main_v34 (by decide)).trans ((W12_of m ρ c main_v34 (by decide)).trans (v34_11 m ρ c)))))

/-- Whether a token is a context token, unchanged. -/
theorem v5_16 (c : Dev nD) : W16 m ρ c (Proc.devRef .tc main_v5) = KI := by
  exact (W16_of m ρ c main_v5 (by decide)).trans (v5_15 m ρ c)

/-- Modulation 5, counting from zero, token by token. -/
theorem v40_17 (c : Dev nD) : W17 m ρ c (Proc.devRef .tc main_v40) = KM (KC5 (KC (m ((c : Thread nD τ).loc main_arg7)) (m ((c : Thread nD τ).loc main_arg8)) (m ((c : Thread nD τ).loc main_arg9)))) (KL5 (KL (m ((c : Thread nD τ).loc main_arg6)) (m ((c : Thread nD τ).loc main_arg8)) (m ((c : Thread nD τ).loc main_arg9)))) := by
  have h : W17 m ρ c (Proc.devRef .tc main_v40) = select (broadcastInDim S8x4352x1024 ![0, 1, 2] bcast_S1x4352x1_S8x4352x1024_0_1_2 (W16 m ρ c (Proc.devRef .tc main_v5))) (broadcastInDim S8x4352x1024 ![0, 1, 2] bcast_S1x1x1024_S8x4352x1024_0_1_2 (W16 m ρ c (Proc.devRef .tc main_v34) : FVec Ideal S1x1x1024 .f32)) (broadcastInDim S8x4352x1024 ![0, 1, 2] bcast_S8x1x1024_S8x4352x1024_0_1_2 (W16 m ρ c (Proc.devRef .tc main_v20) : FVec Ideal S8x1x1024 .f32)) := by
    show StableHlo.after hostOps2_6 (W16 m ρ c) _ = _
    after_results_simp <;> rfl
  rw [h, v5_16, v34_16, v20_16]
  rfl

/-- The same before the last operations. -/
theorem v0_17 (c : Dev nD) : W17 m ρ c (Proc.devRef .tc main_v0) = KX (m ((c : Thread nD τ).loc main_arg3)) (m ((c : Thread nD τ).loc main_arg2)) := by
  exact (W17_of m ρ c main_v0 (by decide)).trans ((W16_of m ρ c main_v0 (by decide)).trans ((W15_of m ρ c main_v0 (by decide)).trans ((W14_of m ρ c main_v0 (by decide)).trans ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (v0_1 m ρ c))))))))))))))))

/-- The same before the last operations. -/
theorem v1_17 (c : Dev nD) : W17 m ρ c (Proc.devRef .tc main_v1) = KX (m ((c : Thread nD τ).loc main_arg5)) (m ((c : Thread nD τ).loc main_arg4)) := by
  exact (W17_of m ρ c main_v1 (by decide)).trans ((W16_of m ρ c main_v1 (by decide)).trans ((W15_of m ρ c main_v1 (by decide)).trans ((W14_of m ρ c main_v1 (by decide)).trans ((W13_of m ρ c main_v1 (by decide)).trans ((W12_of m ρ c main_v1 (by decide)).trans ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide)).trans (v1_1 m ρ c))))))))))))))))

/-- The same before the last operations. -/
theorem v6_17 (c : Dev nD) : W17 m ρ c (Proc.devRef .tc main_v6) = KX (m ((c : Thread nD τ).loc main_arg1)) (m ((c : Thread nD τ).loc main_arg0)) := by
  exact (W17_of m ρ c main_v6 (by decide)).trans ((W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans ((W2_of m ρ c main_v6 (by decide)).trans (v6_1 m ρ c))))))))))))))))

/-- An argument is unchanged. -/
theorem arg10_17 (c : Dev nD) : W17 m ρ c (Proc.devRef .tc main_arg10) = (m ((c : Thread nD τ).loc main_arg10)) := by
  exact W17_args m ρ c main_arg10 (by decide)

/-- An argument is unchanged. -/
theorem arg11_17 (c : Dev nD) : W17 m ρ c (Proc.devRef .tc main_arg11) = (m ((c : Thread nD τ).loc main_arg11)) := by
  exact W17_args m ρ c main_arg11 (by decide)

/-- The first normed rows. -/
theorem v57_18 (c : Dev nD) : W18 m ρ c (Proc.devRef .tc main_v57) = KH (KX (m ((c : Thread nD τ).loc main_arg1)) (m ((c : Thread nD τ).loc main_arg0))) (m ((c : Thread nD τ).loc main_arg10)) (KM (KC0 (KC (m ((c : Thread nD τ).loc main_arg7)) (m ((c : Thread nD τ).loc main_arg8)) (m ((c : Thread nD τ).loc main_arg9)))) (KL0 (KL (m ((c : Thread nD τ).loc main_arg6)) (m ((c : Thread nD τ).loc main_arg8)) (m ((c : Thread nD τ).loc main_arg9))))) (KM (KC1 (KC (m ((c : Thread nD τ).loc main_arg7)) (m ((c : Thread nD τ).loc main_arg8)) (m ((c : Thread nD τ).loc main_arg9)))) (KL1 (KL (m ((c : Thread nD τ).loc main_arg6)) (m ((c : Thread nD τ).loc main_arg8)) (m ((c : Thread nD τ).loc main_arg9))))) := by
  have h : W18 m ρ c (Proc.devRef .tc main_v57) = KH (W17 m ρ c (Proc.devRef .tc main_v6)) (W17 m ρ c (Proc.devRef .tc main_arg10)) (W17 m ρ c (Proc.devRef .tc main_v35)) (W17 m ρ c (Proc.devRef .tc main_v36)) := by
    show StableHlo.after hostOps2_7 (W17 m ρ c) _ = _
    after_results_simp <;> rfl
  rw [h, v6_17, arg10_17, v35_17, v36_17]

/-- The second normed rows. -/
theorem v76_18 (c : Dev nD) : W18 m ρ c (Proc.devRef .tc main_v76) = KH (KR (KX (m ((c : Thread nD τ).loc main_arg1)) (m ((c : Thread nD τ).loc main_arg0))) (KM (KC2 (KC (m ((c : Thread nD τ).loc main_arg7)) (m ((c : Thread nD τ).loc main_arg8)) (m ((c : Thread nD τ).loc main_arg9)))) (KL2 (KL (m ((c : Thread nD τ).loc main_arg6)) (m ((c : Thread nD τ).loc main_arg8)) (m ((c : Thread nD τ).loc main_arg9))))) (KX (m ((c : Thread nD τ).loc main_arg3)) (m ((c : Thread nD τ).loc main_arg2)))) (m ((c : Thread nD τ).loc main_arg11)) (KM (KC3 (KC (m ((c : Thread nD τ).loc main_arg7)) (m ((c : Thread nD τ).loc main_arg8)) (m ((c : Thread nD τ).loc main_arg9)))) (KL3 (KL (m ((c : Thread nD τ).loc main_arg6)) (m ((c : Thread nD τ).loc main_arg8)) (m ((c : Thread nD τ).loc main_arg9))))) (KM (KC4 (KC (m ((c : Thread nD τ).loc main_arg7)) (m ((c : Thread nD τ).loc main_arg8)) (m ((c : Thread nD τ).loc main_arg9)))) (KL4 (KL (m ((c : Thread nD τ).loc main_arg6)) (m ((c : Thread nD τ).loc main_arg8)) (m ((c : Thread nD τ).loc main_arg9))))) := by
  have h : W18 m ρ c (Proc.devRef .tc main_v76) = KH (KR (W17 m ρ c (Proc.devRef .tc main_v6)) (W17 m ρ c (Proc.devRef .tc main_v37)) (W17 m ρ c (Proc.devRef .tc main_v0))) (W17 m ρ c (Proc.devRef .tc main_arg11)) (W17 m ρ c (Proc.devRef .tc main_v38)) (W17 m ρ c (Proc.devRef .tc main_v39)) := by
    show StableHlo.after hostOps2_7 (W17 m ρ c) _ = _
    after_results_simp <;> rfl
  rw [h, v6_17, v37_17, v0_17, arg11_17, v38_17, v39_17]

/-- The tokens after both parts. -/
theorem v78_18 (c : Dev nD) : W18 m ρ c (Proc.devRef .tc main_v78) = KR (KR (KX (m ((c : Thread nD τ).loc main_arg1)) (m ((c : Thread nD τ).loc main_arg0))) (KM (KC2 (KC (m ((c : Thread nD τ).loc main_arg7)) (m ((c : Thread nD τ).loc main_arg8)) (m ((c : Thread nD τ).loc main_arg9)))) (KL2 (KL (m ((c : Thread nD τ).loc main_arg6)) (m ((c : Thread nD τ).loc main_arg8)) (m ((c : Thread nD τ).loc main_arg9))))) (KX (m ((c : Thread nD τ).loc main_arg3)) (m ((c : Thread nD τ).loc main_arg2)))) (KM (KC5 (KC (m ((c : Thread nD τ).loc main_arg7)) (m ((c : Thread nD τ).loc main_arg8)) (m ((c : Thread nD τ).loc main_arg9)))) (KL5 (KL (m ((c : Thread nD τ).loc main_arg6)) (m ((c : Thread nD τ).loc main_arg8)) (m ((c : Thread nD τ).loc main_arg9))))) (KX (m ((c : Thread nD τ).loc main_arg5)) (m ((c : Thread nD τ).loc main_arg4))) := by
  have h : W18 m ρ c (Proc.devRef .tc main_v78) = KR (KR (W17 m ρ c (Proc.devRef .tc main_v6)) (W17 m ρ c (Proc.devRef .tc main_v37)) (W17 m ρ c (Proc.devRef .tc main_v0))) (W17 m ρ c (Proc.devRef .tc main_v40)) (W17 m ρ c (Proc.devRef .tc main_v1)) := by
    show StableHlo.after hostOps2_7 (W17 m ρ c) _ = _
    after_results_simp <;> rfl
  rw [h, v6_17, v37_17, v0_17, v40_17, v1_17]

end Cert.NormsIdeal.Value
-- ==== Proof.Norms.Claims.lean ====
/- The claims about the adaptive norms and the residuals. -/
module
public import proofs.«01_k».proof.Defs
public import proofs.«01_k».proof.Proof.Gen.Norms.Frame
public import proofs.«01_k».proof.Proof.Gen.NormsRefIdeal.Run
public import proofs.«01_k».proof.Proof.Norms.Run
public import proofs.«01_k».proof.Proof.Norms.Host
@[expose] public section
set_option maxRecDepth 16384
noncomputable section

/-! ## The reference's terms -/

namespace Cert.NormsRefIdeal.Value
open Idealize.ShloMosaic Idealize.ShloMosaic.TcCoe Idealize.SL.Sem
open Cert.NormsRefIdeal Cert.NormsRefIdeal.Gen

/-- The latent conditions times their logistic function. -/
def RSl (c : FVec Ideal S8x1024 .f32) : FVec Ideal S8x1024 .f32 :=
  mulf (F := Ideal) c (Host.divf (broadcastInDim S8x1024 ![] bcast_S_S8x1024 (constant S_ .f32 0x3F800000#32))
    (addf (broadcastInDim S8x1024 ![] bcast_S_S8x1024 (constant S_ .f32 0x3F800000#32)) (Host.exp (Host.negf c))))

/-- The context condition times its logistic function. -/
def RSc (c : FVec Ideal S1x1024 .f32) : FVec Ideal S1x1024 .f32 :=
  mulf (F := Ideal) c (Host.divf (broadcastInDim S1x1024 ![] bcast_S_S1x1024 (constant S_ .f32 0x3F800000#32))
    (addf (broadcastInDim S1x1024 ![] bcast_S_S1x1024 (constant S_ .f32 0x3F800000#32)) (Host.exp (Host.negf c))))

/-- The latent tokens' six modulations, one after another. -/
def RL (c : FVec Ideal S8x1024 .f32) (w : FVec Ideal S1024x6144 .f32) (b : FVec Ideal S6144 .f32) : FVec Ideal S8x1x6144 .f32 :=
  broadcastInDim S8x1x6144 ![0, 2] bcast_S8x6144_S8x1x6144_0_2 (addf (F := Ideal) (φ := .f32) (Host.dotGeneral dot_S8x1024_S1024x6144_S8x6144_1_0_0_1_n_n none (RSl c) w)
    (broadcastInDim S8x6144 ![0, 1] bcast_S1x6144_S8x6144_0_1 (broadcastInDim S1x6144 ![1] bcast_S6144_S1x6144_1 b)))

/-- The context tokens' six modulations, one after another. -/
def RC (c : FVec Ideal S1024 .f32) (w : FVec Ideal S1024x6144 .f32) (b : FVec Ideal S6144 .f32) : FVec Ideal S1x1x6144 .f32 :=
  broadcastInDim S1x1x6144 ![0, 2] bcast_S1x6144_S1x1x6144_0_2 (addf (F := Ideal) (φ := .f32)
    (Host.dotGeneral dot_S1x1024_S1024x6144_S1x6144_1_0_0_1_n_n none (RSc (broadcastInDim S1x1024 ![1] bcast_S1024_S1x1024_1 c)) w) (broadcastInDim S1x6144 ![1] bcast_S6144_S1x6144_1 b))

/-- The latent tokens' modulation 0, counting from zero. -/
def RL0 (L : FVec Ideal S8x1x6144 .f32) : FVec Ideal S8x1x1024 .f32 := extractStridedSlice S8x1x1024 ![0, 0, 0] L slices_S8x1x6144_S8x1x1024_0_0_0

/-- The context tokens' modulation 0, counting from zero. -/
def RC0 (C : FVec Ideal S1x1x6144 .f32) : FVec Ideal S1x1x1024 .f32 := extractStridedSlice S1x1x1024 ![0, 0, 0] C slices_S1x1x6144_S1x1x1024_0_0_0

/-- The latent tokens' modulation 1, counting from zero. -/
def RL1 (L : FVec Ideal S8x1x6144 .f32) : FVec Ideal S8x1x1024 .f32 := extractStridedSlice S8x1x1024 ![0, 0, 1024] L slices_S8x1x6144_S8x1x1024_0_0_1024

/-- The context tokens' modulation 1, counting from zero. -/
def RC1 (C : FVec Ideal S1x1x6144 .f32) : FVec Ideal S1x1x1024 .f32 := extractStridedSlice S1x1x1024 ![0, 0, 1024] C slices_S1x1x6144_S1x1x1024_0_0_1024

/-- The latent tokens' modulation 2, counting from zero. -/
def RL2 (L : FVec Ideal S8x1x6144 .f32) : FVec Ideal S8x1x1024 .f32 := extractStridedSlice S8x1x1024 ![0, 0, 2048] L slices_S8x1x6144_S8x1x1024_0_0_2048

/-- The context tokens' modulation 2, counting from zero. -/
def RC2 (C : FVec Ideal S1x1x6144 .f32) : FVec Ideal S1x1x1024 .f32 := extractStridedSlice S1x1x1024 ![0, 0, 2048] C slices_S1x1x6144_S1x1x1024_0_0_2048

/-- The latent tokens' modulation 3, counting from zero. -/
def RL3 (L : FVec Ideal S8x1x6144 .f32) : FVec Ideal S8x1x1024 .f32 := extractStridedSlice S8x1x1024 ![0, 0, 3072] L slices_S8x1x6144_S8x1x1024_0_0_3072

/-- The context tokens' modulation 3, counting from zero. -/
def RC3 (C : FVec Ideal S1x1x6144 .f32) : FVec Ideal S1x1x1024 .f32 := extractStridedSlice S1x1x1024 ![0, 0, 3072] C slices_S1x1x6144_S1x1x1024_0_0_3072

/-- The latent tokens' modulation 4, counting from zero. -/
def RL4 (L : FVec Ideal S8x1x6144 .f32) : FVec Ideal S8x1x1024 .f32 := extractStridedSlice S8x1x1024 ![0, 0, 4096] L slices_S8x1x6144_S8x1x1024_0_0_4096

/-- The context tokens' modulation 4, counting from zero. -/
def RC4 (C : FVec Ideal S1x1x6144 .f32) : FVec Ideal S1x1x1024 .f32 := extractStridedSlice S1x1x1024 ![0, 0, 4096] C slices_S1x1x6144_S1x1x1024_0_0_4096

/-- The latent tokens' modulation 5, counting from zero. -/
def RL5 (L : FVec Ideal S8x1x6144 .f32) : FVec Ideal S8x1x1024 .f32 := extractStridedSlice S8x1x1024 ![0, 0, 5120] L slices_S8x1x6144_S8x1x1024_0_0_5120

/-- The context tokens' modulation 5, counting from zero. -/
def RC5 (C : FVec Ideal S1x1x6144 .f32) : FVec Ideal S1x1x1024 .f32 := extractStridedSlice S1x1x1024 ![0, 0, 5120] C slices_S1x1x6144_S1x1x1024_0_0_5120

/-- The context rows over the root of their mean square, times a gain. -/
def RNC (x : FVec Ideal S8x256x1024 .f32) (g : FVec Ideal S1024 .f32) : FVec Ideal S8x256x1024 .f32 :=
  mulf (F := Ideal) (mulf (F := Ideal) x (broadcastInDim S8x256x1024 ![0, 1, 2] bcast_S8x256x1_S8x256x1024_0_1_2
    (Host.rsqrt (addf (Host.divf (broadcastInDim S8x256x1 ![0, 1] bcast_S8x256_S8x256x1_0_1
      (Host.reduceAdd (mulf x x) (constant S_ .f32 0x00000000#32) reducesTo_S8x256x1024_S8x256_d2 h_S_))
      (broadcastInDim S8x256x1 ![] bcast_S_S8x256x1 (constant S_ .f32 0x44800000#32)))
      (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))

/-- The context normed rows, scaled and shifted. -/
def RHC (x : FVec Ideal S8x256x1024 .f32) (g : FVec Ideal S1024 .f32) (m0 m1 : FVec Ideal S1x1x1024 .f32) : FVec Ideal S8x256x1024 .f32 :=
  addf (F := Ideal) (mulf (F := Ideal) (RNC x g) (broadcastInDim S8x256x1024 ![0, 1, 2] bcast_S1x1x1024_S8x256x1024_0_1_2
    (addf (broadcastInDim S1x1x1024 ![] bcast_S_S1x1x1024 (constant S_ .f32 0x3F800000#32)) m1))) (broadcastInDim S8x256x1024 ![0, 1, 2] bcast_S1x1x1024_S8x256x1024_0_1_2 m0)

/-- The context rows plus a gated part's result. -/
def RRC (x : FVec Ideal S8x256x1024 .f32) (m : FVec Ideal S1x1x1024 .f32) (y : FVec Ideal S8x256x1024 .f32) : FVec Ideal S8x256x1024 .f32 :=
  addf (F := Ideal) x (mulf (F := Ideal) (broadcastInDim S8x256x1024 ![0, 1, 2] bcast_S1x1x1024_S8x256x1024_0_1_2 m) y)

/-- The latent rows over the root of their mean square, times a gain. -/
def RNL (x : FVec Ideal S8x4096x1024 .f32) (g : FVec Ideal S1024 .f32) : FVec Ideal S8x4096x1024 .f32 :=
  mulf (F := Ideal) (mulf (F := Ideal) x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The latent normed rows, scaled and shifted. -/
def RHL (x : FVec Ideal S8x4096x1024 .f32) (g : FVec Ideal S1024 .f32) (m0 m1 : FVec Ideal S8x1x1024 .f32) : FVec Ideal S8x4096x1024 .f32 :=
  addf (F := Ideal) (mulf (F := Ideal) (RNL x g) (broadcastInDim S8x4096x1024 ![0, 1, 2] bcast_S8x1x1024_S8x4096x1024_0_1_2
    (addf (broadcastInDim S8x1x1024 ![] bcast_S_S8x1x1024 (constant S_ .f32 0x3F800000#32)) m1))) (broadcastInDim S8x4096x1024 ![0, 1, 2] bcast_S8x1x1024_S8x4096x1024_0_1_2 m0)

/-- The latent rows plus a gated part's result. -/
def RRL (x : FVec Ideal S8x4096x1024 .f32) (m : FVec Ideal S8x1x1024 .f32) (y : FVec Ideal S8x4096x1024 .f32) : FVec Ideal S8x4096x1024 .f32 :=
  addf (F := Ideal) x (mulf (F := Ideal) (broadcastInDim S8x4096x1024 ![0, 1, 2] bcast_S8x1x1024_S8x4096x1024_0_1_2 m) y)

/-- Context rows, then latent rows. -/
def RX (x : FVec Ideal S8x256x1024 .f32) (y : FVec Ideal S8x4096x1024 .f32) : FVec Ideal S8x4352x1024 .f32 :=
  concatenate S8x4352x1024 1 [⟨S8x256x1024, x⟩, ⟨S8x4096x1024, y⟩] concatenates_S8x256x1024_S8x4096x1024_S8x4352x1024_d1

/-- The first normed rows, over the modulations. -/
def RO0 (xl : FVec Ideal S8x4096x1024 .f32) (xc : FVec Ideal S8x256x1024 .f32) (g : FVec Ideal S1024 .f32) (L : FVec Ideal S8x1x6144 .f32) (C : FVec Ideal S1x1x6144 .f32) :
    FVec Ideal S8x4352x1024 .f32 := RX (RHC xc g (RC0 C) (RC1 C)) (RHL xl g (RL0 L) (RL1 L))

/-- The second normed rows, over the modulations. -/
def RO1 (xl : FVec Ideal S8x4096x1024 .f32) (xc : FVec Ideal S8x256x1024 .f32) (yl : FVec Ideal S8x4096x1024 .f32) (yc : FVec Ideal S8x256x1024 .f32) (g : FVec Ideal S1024 .f32)
    (L : FVec Ideal S8x1x6144 .f32) (C : FVec Ideal S1x1x6144 .f32) : FVec Ideal S8x4352x1024 .f32 :=
  RX (RHC (RRC xc (RC2 C) yc) g (RC3 C) (RC4 C)) (RHL (RRL xl (RL2 L) yl) g (RL3 L) (RL4 L))

/-- The rows after both parts, over the modulations. -/
def RO2 (xl : FVec Ideal S8x4096x1024 .f32) (xc : FVec Ideal S8x256x1024 .f32) (yl : FVec Ideal S8x4096x1024 .f32) (yc : FVec Ideal S8x256x1024 .f32)
    (fl : FVec Ideal S8x4096x1024 .f32) (fc : FVec Ideal S8x256x1024 .f32) (L : FVec Ideal S8x1x6144 .f32) (C : FVec Ideal S1x1x6144 .f32) : FVec Ideal S8x4352x1024 .f32 :=
  RX (RRC (RRC xc (RC2 C) yc) (RC5 C) fc) (RRL (RRL xl (RL2 L) yl) (RL5 L) fl)

/-- The reference's printed result 0, counting from zero, is that term. -/
theorem res0_eq (m : (ℓ : Loc nD τ sig) → Buf (Elt Ideal) ℓ) (c : Dev nD) : res_main_v112 (F := Ideal) m c
    = RO0 (m ((c.tc : Thread nD τ).loc main_arg0)) (m ((c.tc : Thread nD τ).loc main_arg1)) (m ((c.tc : Thread nD τ).loc main_arg10)) (RL (m ((c.tc : Thread nD τ).loc main_arg6)) (m ((c.tc : Thread nD τ).loc main_arg8)) (m ((c.tc : Thread nD τ).loc main_arg9))) (RC (m ((c.tc : Thread nD τ).loc main_arg7)) (m ((c.tc : Thread nD τ).loc main_arg8)) (m ((c.tc : Thread nD τ).loc main_arg9))) := by
  unfold res_main_v112 RO0 RX RHC RHL RNC RNL RL RC RSl RSc RL0 RL1 RC0 RC1
  rfl

/-- The reference's printed result 1, counting from zero, is that term. -/
theorem res1_eq (m : (ℓ : Loc nD τ sig) → Buf (Elt Ideal) ℓ) (c : Dev nD) : res_main_v113 (F := Ideal) m c
    = RO1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg11)) (RL (m ((c.tc : Thread nD τ).loc main_arg6)) (m ((c.tc : Thread nD τ).loc main_arg8)) (m ((c.tc : Thread nD τ).loc main_arg9))) (RC (m ((c.tc : Thread nD τ).loc main_arg7)) (m ((c.tc : Thread nD τ).loc main_arg8)) (m ((c.tc : Thread nD τ).loc main_arg9))) := by
  unfold res_main_v113 RO1 RX RHC RHL RNC RNL RRC RRL RL RC RSl RSc RL2 RL3 RL4 RC2 RC3 RC4
  rfl

end Cert.NormsRefIdeal.Value

namespace Cert.NormsClaims
open Idealize.ShloMosaic Idealize.ShloMosaic.TcCoe Idealize.SL.Sem
open Cert.NormsIdeal Cert.NormsIdeal.Gen Cert.NormsIdeal.Value
open Cert.NormsRefIdeal.Value (RL RC RSl RSc RX RO0 RO1 RO2 RHC RHL RNC RNL RRC RRL RL0 RL1 RL2 RL3 RL4 RL5 RC0 RC1 RC2 RC3 RC4 RC5)

/-- The latent tokens' modulations are the reference's. -/
theorem KL_eq (c : FVec Ideal S8x1024 .f32) (w : FVec Ideal S1024x6144 .f32) (b : FVec Ideal S6144 .f32) : KL c w b = RL c w b := by
  funext y
  obtain ⟨r, z, e, rfl⟩ : ∃ (r : Fin 8) (z : Fin 1) (e : Fin 6144), y = ix3 r z e := ⟨y 0, y 1, y 2, eq_ix3 y⟩
  pointwise [KL, RL, mm, KPl, KWt, KSl, RSl]

/-- The context tokens' modulations are the reference's. -/
theorem KC_eq (c : FVec Ideal S1024 .f32) (w : FVec Ideal S1024x6144 .f32) (b : FVec Ideal S6144 .f32) : KC c w b = RC c w b := by
  funext y
  obtain ⟨r, z, e, rfl⟩ : ∃ (r : Fin 1) (z : Fin 1) (e : Fin 6144), y = ix3 r z e := ⟨y 0, y 1, y 2, eq_ix3 y⟩
  pointwise [KC, RC, mm, KPc, KWt, KSc, RSc]

/-- A context token's row. -/
theorem KX_C (a0 : FVec Ideal S8x256x1024 .f32) (a1 : FVec Ideal S8x4096x1024 .f32) (b : Fin 8) (t : Fin 256) (e : Fin 1024) :
    KX a0 a1 (ix3 b ⟨t.val, by omega⟩ e) = a0 (ix3 b t e) := by
  pointwise [KX]

/-- A context token's modulation is its own kind's. -/
theorem KM_C (C : FVec Ideal S1x1x1024 .f32) (L : FVec Ideal S8x1x1024 .f32) (b : Fin 8) (t : Fin 256) (e : Fin 1024) :
    KM C L (ix3 b ⟨t.val, by omega⟩ e) = C (ix3 0 0 e) := by
  pointwise [KM, KI]
  exact WordCmp.select_of_eq_one ((WordCmp.cmpi_slt_ofNat_eq_one_iff (by omega) (by omega)).mpr (by omega)) _ _

/-- A context token's normed row is the reference's where its row and its modulations are. -/
theorem KH_C (X M0 M1 : FVec Ideal S8x4352x1024 .f32) (g : FVec Ideal S1024 .f32) (x : FVec Ideal S8x256x1024 .f32) (m0 m1 : FVec Ideal S1x1x1024 .f32) (b : Fin 8) (t : Fin 256)
    (hX : ∀ k, X (ix3 b ⟨t.val, by omega⟩ k) = x (ix3 b t k)) (h0 : ∀ k, M0 (ix3 b ⟨t.val, by omega⟩ k) = m0 (ix3 0 0 k)) (h1 : ∀ k, M1 (ix3 b ⟨t.val, by omega⟩ k) = m1 (ix3 0 0 k)) (e : Fin 1024) :
    KH X g M0 M1 (ix3 b ⟨t.val, by omega⟩ e) = RHC x g m0 m1 (ix3 b t e) := by
  pointwise [KH, KN, RHC, RNC]
  simp only [hX, h0, h1]

/-- A context token's row plus a gated part's result is the reference's where the three are. -/
theorem KR_C (X M0 Y : FVec Ideal S8x4352x1024 .f32) (x : FVec Ideal S8x256x1024 .f32) (m0 : FVec Ideal S1x1x1024 .f32) (y : FVec Ideal S8x256x1024 .f32) (b : Fin 8) (t : Fin 256)
    (hX : ∀ k, X (ix3 b ⟨t.val, by omega⟩ k) = x (ix3 b t k)) (h0 : ∀ k, M0 (ix3 b ⟨t.val, by omega⟩ k) = m0 (ix3 0 0 k)) (hY : ∀ k, Y (ix3 b ⟨t.val, by omega⟩ k) = y (ix3 b t k)) (e : Fin 1024) :
    KR X M0 Y (ix3 b ⟨t.val, by omega⟩ e) = RRC x m0 y (ix3 b t e) := by
  pointwise [KR, RRC]
  simp only [hX, h0, hY]

/-- A latent token's row. -/
theorem KX_L (a0 : FVec Ideal S8x256x1024 .f32) (a1 : FVec Ideal S8x4096x1024 .f32) (b : Fin 8) (t : Fin 4096) (e : Fin 1024) :
    KX a0 a1 (ix3 b ⟨256 + t.val, by omega⟩ e) = a1 (ix3 b t e) := by
  pointwise [KX]

/-- A latent token's modulation is its own kind's. -/
theorem KM_L (C : FVec Ideal S1x1x1024 .f32) (L : FVec Ideal S8x1x1024 .f32) (b : Fin 8) (t : Fin 4096) (e : Fin 1024) :
    KM C L (ix3 b ⟨256 + t.val, by omega⟩ e) = L (ix3 b 0 e) := by
  pointwise [KM, KI]
  exact WordCmp.select_of_eq_zero ((WordCmp.cmpi_slt_ofNat_eq_zero_iff (by omega) (by omega)).mpr (by omega)) _ _

/-- A latent token's normed row is the reference's where its row and its modulations are. -/
theorem KH_L (X M0 M1 : FVec Ideal S8x4352x1024 .f32) (g : FVec Ideal S1024 .f32) (x : FVec Ideal S8x4096x1024 .f32) (m0 m1 : FVec Ideal S8x1x1024 .f32) (b : Fin 8) (t : Fin 4096)
    (hX : ∀ k, X (ix3 b ⟨256 + t.val, by omega⟩ k) = x (ix3 b t k)) (h0 : ∀ k, M0 (ix3 b ⟨256 + t.val, by omega⟩ k) = m0 (ix3 b 0 k)) (h1 : ∀ k, M1 (ix3 b ⟨256 + t.val, by omega⟩ k) = m1 (ix3 b 0 k)) (e : Fin 1024) :
    KH X g M0 M1 (ix3 b ⟨256 + t.val, by omega⟩ e) = RHL x g m0 m1 (ix3 b t e) := by
  pointwise [KH, KN, RHL, RNL]
  simp only [hX, h0, h1]

/-- A latent token's row plus a gated part's result is the reference's where the three are. -/
theorem KR_L (X M0 Y : FVec Ideal S8x4352x1024 .f32) (x : FVec Ideal S8x4096x1024 .f32) (m0 : FVec Ideal S8x1x1024 .f32) (y : FVec Ideal S8x4096x1024 .f32) (b : Fin 8) (t : Fin 4096)
    (hX : ∀ k, X (ix3 b ⟨256 + t.val, by omega⟩ k) = x (ix3 b t k)) (h0 : ∀ k, M0 (ix3 b ⟨256 + t.val, by omega⟩ k) = m0 (ix3 b 0 k)) (hY : ∀ k, Y (ix3 b ⟨256 + t.val, by omega⟩ k) = y (ix3 b t k)) (e : Fin 1024) :
    KR X M0 Y (ix3 b ⟨256 + t.val, by omega⟩ e) = RRL x m0 y (ix3 b t e) := by
  pointwise [KR, RRL]
  simp only [hX, h0, hY]

/-- An array over all tokens whose context rows are one array's and whose latent rows are another's is the two joined. -/
theorem eq_RX (X : FVec Ideal S8x4352x1024 .f32) (x : FVec Ideal S8x256x1024 .f32) (y : FVec Ideal S8x4096x1024 .f32)
    (hC : ∀ (b : Fin 8) (t : Fin 256) (e : Fin 1024), X (ix3 b ⟨t.val, by omega⟩ e) = x (ix3 b t e))
    (hL : ∀ (b : Fin 8) (t : Fin 4096) (e : Fin 1024), X (ix3 b ⟨256 + t.val, by omega⟩ e) = y (ix3 b t e)) : X = RX x y := by
  funext i
  obtain ⟨b, t, e, rfl⟩ : ∃ (b : Fin 8) (t : Fin 4352) (e : Fin 1024), i = ix3 b t e := ⟨i 0, i 1, i 2, eq_ix3 i⟩
  pointwise [RX]
  by_cases h : t.val < 256
  · rw [dif_pos h]
    exact hC b ⟨t.val, h⟩ e
  · rw [dif_neg h]
    have ht : t = (⟨256 + (⟨t.val - 256, by omega⟩ : Fin 4096).val, by dsimp only; omega⟩ : Fin 4352) := Fin.ext (by dsimp only; omega)
    refine (congrArg (fun t : Fin 4352 => X (ix3 b t e)) ht).trans ?_
    exact hL b _ e

/-- The kernel's first normed rows are the reference's. -/
theorem out0_eq (xl : FVec Ideal S8x4096x1024 .f32) (xc : FVec Ideal S8x256x1024 .f32) (g : FVec Ideal S1024 .f32) (L : FVec Ideal S8x1x6144 .f32) (C : FVec Ideal S1x1x6144 .f32) :
    KH (KX xc xl) g (KM (KC0 C) (KL0 L)) (KM (KC1 C) (KL1 L)) = RO0 xl xc g L C :=
  eq_RX _ _ _ (fun b t e => KH_C _ _ _ g xc (RC0 C) (RC1 C) b t (KX_C xc xl b t) (KM_C _ _ b t) (KM_C _ _ b t) e)
    (fun b t e => KH_L _ _ _ g xl (RL0 L) (RL1 L) b t (KX_L xc xl b t) (KM_L _ _ b t) (KM_L _ _ b t) e)

/-- The kernel's second normed rows are the reference's. -/
theorem out1_eq (xl : FVec Ideal S8x4096x1024 .f32) (xc : FVec Ideal S8x256x1024 .f32) (yl : FVec Ideal S8x4096x1024 .f32) (yc : FVec Ideal S8x256x1024 .f32) (g : FVec Ideal S1024 .f32)
    (L : FVec Ideal S8x1x6144 .f32) (C : FVec Ideal S1x1x6144 .f32) :
    KH (KR (KX xc xl) (KM (KC2 C) (KL2 L)) (KX yc yl)) g (KM (KC3 C) (KL3 L)) (KM (KC4 C) (KL4 L)) = RO1 xl xc yl yc g L C :=
  eq_RX _ _ _ (fun b t e => KH_C _ _ _ g _ (RC3 C) (RC4 C) b t (KR_C _ _ _ xc (RC2 C) yc b t (KX_C xc xl b t) (KM_C _ _ b t) (KX_C yc yl b t)) (KM_C _ _ b t) (KM_C _ _ b t) e)
    (fun b t e => KH_L _ _ _ g _ (RL3 L) (RL4 L) b t (KR_L _ _ _ xl (RL2 L) yl b t (KX_L xc xl b t) (KM_L _ _ b t) (KX_L yc yl b t)) (KM_L _ _ b t) (KM_L _ _ b t) e)

/-- The kernel's rows after both parts are the reference's. -/
theorem out2_eq (xl : FVec Ideal S8x4096x1024 .f32) (xc : FVec Ideal S8x256x1024 .f32) (yl : FVec Ideal S8x4096x1024 .f32) (yc : FVec Ideal S8x256x1024 .f32)
    (fl : FVec Ideal S8x4096x1024 .f32) (fc : FVec Ideal S8x256x1024 .f32) (L : FVec Ideal S8x1x6144 .f32) (C : FVec Ideal S1x1x6144 .f32) :
    KR (KR (KX xc xl) (KM (KC2 C) (KL2 L)) (KX yc yl)) (KM (KC5 C) (KL5 L)) (KX fc fl) = RO2 xl xc yl yc fl fc L C :=
  eq_RX _ _ _ (fun b t e => KR_C _ _ _ _ (RC5 C) fc b t (KR_C _ _ _ xc (RC2 C) yc b t (KX_C xc xl b t) (KM_C _ _ b t) (KX_C yc yl b t)) (KM_C _ _ b t) (KX_C fc fl b t) e)
    (fun b t e => KR_L _ _ _ _ (RL5 L) fl b t (KR_L _ _ _ xl (RL2 L) yl b t (KX_L xc xl b t) (KM_L _ _ b t) (KX_L yc yl b t)) (KM_L _ _ b t) (KX_L fc fl b t) e)

/-- The printed program runs and leaves its arguments. -/
theorem frame_p : Cert.quiescent_Norms := fun m ρ _ => Cert.Norms.Gen.frame m ρ

/-- Its ideal twin runs and leaves its arguments. -/
theorem frame_pi : Cert.quiescent_NormsIdeal := fun m ρ _ => Cert.NormsIdeal.Gen.frame m ρ

/-- The reference runs and leaves its arguments. -/
theorem frame_ri : Cert.quiescent_NormsRefIdeal := fun m ρ _ =>
  (θ_run Cert.NormsRefIdeal.defs _ _).mono (fun r h => ⟨fun c => (h c).2.2.2, sem_eq_zero_of_no_sems (by decide) r.2⟩)
    (Cert.NormsRefIdeal.Value.run (F := Ideal) m ρ)

/-- The ideal twin's text is the program's. -/
theorem preserves : Cert.preserves_Norms_NormsIdeal := trivial

/-- The kernel's normed rows and its rows after both parts are the reference's, whatever the arguments. -/
theorem algebraic : Cert.algebraic_NormsIdeal_NormsRefIdeal := by
  intro m ρ m' ρ' _ hagree
  refine ⟨_, _, _, (θ_run Cert.NormsIdeal.defs _ _).mono (fun r h c =>
    ⟨h c _ (mem_uc main_v57 (by decide)),
     h c _ (mem_uc main_v76 (by decide)),
     h c _ (mem_uc main_v78 (by decide)),
     (h c _ (mem_uc main_arg0 (by decide))).trans (W18_main_arg0 m ρ c),
     (h c _ (mem_uc main_arg1 (by decide))).trans (W18_main_arg1 m ρ c),
     (h c _ (mem_uc main_arg2 (by decide))).trans (W18_main_arg2 m ρ c),
     (h c _ (mem_uc main_arg3 (by decide))).trans (W18_main_arg3 m ρ c),
     (h c _ (mem_uc main_arg4 (by decide))).trans (W18_main_arg4 m ρ c),
     (h c _ (mem_uc main_arg5 (by decide))).trans (W18_main_arg5 m ρ c),
     (h c _ (mem_uc main_arg6 (by decide))).trans (W18_main_arg6 m ρ c),
     (h c _ (mem_uc main_arg7 (by decide))).trans (W18_main_arg7 m ρ c),
     (h c _ (mem_uc main_arg8 (by decide))).trans (W18_main_arg8 m ρ c),
     (h c _ (mem_uc main_arg9 (by decide))).trans (W18_main_arg9 m ρ c),
     (h c _ (mem_uc main_arg10 (by decide))).trans (W18_main_arg10 m ρ c),
     (h c _ (mem_uc main_arg11 (by decide))).trans (W18_main_arg11 m ρ c)⟩) (run_all m ρ), ?_⟩
  refine (θ_run Cert.NormsRefIdeal.defs _ _).mono (fun _ h c => ?_) (Cert.NormsRefIdeal.Value.run (F := Ideal) m' ρ')
  obtain ⟨h0, h1, h2, hr⟩ := h c
  obtain ⟨e0, e1, e2, e3, e4, e5, e6, e7, e8, e9, e10, e11⟩ := hagree c
  refine ⟨h0.trans ?_, h1.trans ?_, h2.trans ?_, hr⟩
  · rw [Cert.NormsRefIdeal.Value.res0_eq, e0, e1, e6, e7, e8, e9, e10]
    refine ((v57_18 m ρ c).trans ?_).symm
    rw [KL_eq, KC_eq]
    exact out0_eq ..
  · rw [Cert.NormsRefIdeal.Value.res1_eq, e0, e1, e2, e3, e6, e7, e8, e9, e11]
    refine ((v76_18 m ρ c).trans ?_).symm
    rw [KL_eq, KC_eq]
    exact out1_eq ..
  · rw [e0, e1, e2, e3, e4, e5, e6, e7, e8, e9]
    refine ((v78_18 m ρ c).trans ?_).symm
    rw [KL_eq, KC_eq]
    refine (out2_eq ..).trans ?_
    rfl

end Cert.NormsClaims
-- ==== Proof.CtxAttn.Kernel.lean ====
/- The context tokens' launch of the attention kernel: the blocks a grid point reads, what it stores, the result array. -/
module
public import proofs.«01_k».proof.Proof.Gen.CtxAttnIdeal.Value
public import proofs.«01_k».proof.Proof.Attn.Block
public import proofs.«01_k».proof.Proof.Attn.Spec
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.CtxAttnIdeal.Value
open Cert.CtxAttnIdeal Cert.CtxAttnIdeal.Gen Cert.AttnMath
variable (m : (ℓ : Loc nD τ sig) → Buf (Elt Ideal) ℓ)

/-- The result at token `t`, head `h`, lane `e`, from the arrays the kernel is launched on. -/
def ctxRes (Q : FVec Ideal S8x256x1024 .f32) (K : FVec Ideal S8x1024x256 .bf16) (W : FVec Ideal S8x256x1024 .bf16)
    (lam : EReal) (g : FVec Ideal S1x128 .f32) (b : Fin 8) (t : Fin 256) (h : Fin 8) (e : Fin 128) : EReal :=
  finish (katt (fun d => Q (ix3 b t ⟨h.val * 128 + d.val, by omega⟩)) (fun d j => K (ix3 b ⟨h.val * 128 + d.val, by omega⟩ j))
    (fun j e => W (ix3 b j ⟨h.val * 128 + e.val, by omega⟩)) lam) (g (ix2 0 e)) e

/-- The result array. -/
def ctxOut (Q : FVec Ideal S8x256x1024 .f32) (K : FVec Ideal S8x1024x256 .bf16) (W : FVec Ideal S8x256x1024 .bf16)
    (lam : EReal) (g : FVec Ideal S1x128 .f32) : FVec Ideal S8x256x1024 .f32 := fun i =>
  ctxRes Q K W lam g (i 0) (i 1) ⟨(i 2).val / 128, Nat.div_lt_of_lt_mul (i 2).isLt⟩ ⟨(i 2).val % 128, Nat.mod_lt _ (by norm_num)⟩

/-- The block index of each window at each grid point: eight batches, eight heads. -/
theorem idx : ∀ t : Fin cfg0.N, win0_0.index t = ![0] ∧ win0_1.index t = ![t.val / 8, 0, t.val % 8]
    ∧ win0_2.index t = ![t.val / 8, t.val % 8, 0] ∧ win0_3.index t = ![t.val / 8, 0, t.val % 8]
    ∧ win0_4.index t = ![0, 0] ∧ win0_5.index t = ![t.val / 8, 0, t.val % 8] :=
  (by decide +kernel : ∀ t : Fin grid0.N, _)

/-- The number of grid points. -/
theorem tlt (t : Fin cfg0.N) : t.val < 64 := lt_of_lt_of_eq t.isLt (by decide +kernel)

/-- A query block's element, of any array. -/
theorem rd1 (A : FVec Ideal S8x256x1024 .f32) (t : Fin cfg0.N) (r : Fin 256) (d : Fin 128) :
    ((cfg0.win 1).blk t).view.read (Elt Ideal) A (ix3 0 r d)
      = A (ix3 ⟨t.val / 8, by have := tlt t; omega⟩ r ⟨t.val % 8 * 128 + d.val, by omega⟩) := by
  blk_ext [idx t]

/-- A key block's element, of any array. -/
theorem rd2 (A : FVec Ideal S8x1024x256 .bf16) (t : Fin cfg0.N) (d : Fin 128) (j : Fin 256) :
    ((cfg0.win 2).blk t).view.read (Elt Ideal) A (ix3 0 d j)
      = A (ix3 ⟨t.val / 8, by have := tlt t; omega⟩ ⟨t.val % 8 * 128 + d.val, by omega⟩ j) := by
  blk_ext [idx t]

/-- A value block's element, of any array. -/
theorem rd3 (A : FVec Ideal S8x256x1024 .bf16) (t : Fin cfg0.N) (j : Fin 256) (e : Fin 128) :
    ((cfg0.win 3).blk t).view.read (Elt Ideal) A (ix3 0 j e)
      = A (ix3 ⟨t.val / 8, by have := tlt t; omega⟩ j ⟨t.val % 8 * 128 + e.val, by omega⟩) := by
  blk_ext [idx t]

/-- The gain block's element, of any array. -/
theorem rd4 (A : FVec Ideal S1x128 .f32) (t : Fin cfg0.N) (e : Fin 128) :
    ((cfg0.win 4).blk t).view.read (Elt Ideal) A (ix2 0 e) = A (ix2 0 e) := by
  blk_ext [idx t]

/-- The factor's element, of any array. -/
theorem rd0 (A : FVec Ideal S1 .f32) (t : Fin cfg0.N) (h : 0 < S1.numel) :
    View.ld (((cfg0.win 0).blk t).view.read (Elt Ideal) A) (Rect.unit ![0] ![1] inb_S1_S1_0) (Shape.Idx.first h) = A (ix1 0) := by
  exact congrArg A (funext fun a => match a with | ⟨0, _⟩ => Subsingleton.elim (α := Fin 1) _ _)

/-- A query of a point's block. -/
theorem blk1 (c : Dev nD) (t : Fin cfg0.N) (r : Fin 256) (d : Fin 128) : (iblk m c 1 t : FVec Ideal S1x256x128 .f32) (ix3 0 r d)
    = V m c main_v160 (ix3 ⟨t.val / 8, by have := tlt t; omega⟩ r ⟨t.val % 8 * 128 + d.val, by omega⟩) := rd1 (V m c main_v160) t r d

/-- A key of a point's block. -/
theorem blk2 (c : Dev nD) (t : Fin cfg0.N) (d : Fin 128) (j : Fin 256) : (iblk m c 2 t : FVec Ideal S1x128x256 .bf16) (ix3 0 d j)
    = V m c main_v161 (ix3 ⟨t.val / 8, by have := tlt t; omega⟩ ⟨t.val % 8 * 128 + d.val, by omega⟩ j) := rd2 (V m c main_v161) t d j

/-- A value of a point's block. -/
theorem blk3 (c : Dev nD) (t : Fin cfg0.N) (j : Fin 256) (e : Fin 128) : (iblk m c 3 t : FVec Ideal S1x256x128 .bf16) (ix3 0 j e)
    = V m c main_v162 (ix3 ⟨t.val / 8, by have := tlt t; omega⟩ j ⟨t.val % 8 * 128 + e.val, by omega⟩) := rd3 (V m c main_v162) t j e

/-- The gain of a point's block. -/
theorem blk4 (c : Dev nD) (t : Fin cfg0.N) (e : Fin 128) : (iblk m c 4 t : FVec Ideal S1x128 .f32) (ix2 0 e)
    = V m c main_v164 (ix2 0 e) := rd4 (V m c main_v164) t e

/-- The factor of a point's block. -/
theorem blk0 (c : Dev nD) (t : Fin cfg0.N) (h : 0 < S1.numel) :
    View.ld (iblk m c 0 t : FVec Ideal S1 .f32) (Rect.unit ![0] ![1] inb_S1_S1_0) (Shape.Idx.first h)
      = V m c main_v163 (ix1 0) := rd0 (V m c main_v163) t h

/-- One lane of the block a grid point stores: the difference of the two softmax products, normed. -/
theorem point (x1 : Vec Ideal S1x256x128 .f32) (x2 : Vec Ideal S1x128x256 .bf16)
    (x3 : Vec Ideal S1x256x128 .bf16) (x4 : Vec Ideal S1x128 .f32) (lam : Elt Ideal .f32) (r : Fin 256) (e : Fin 128) :
    k0_pay1 (F := Ideal) (k0_pay4 x3) (k0_pay6 x1 x2 x3) lam (k0_pay7 x1 x2) x4 (ix3 0 r e)
      = finish (katt (fun d => x1 (ix3 0 r d)) (fun d j => x2 (ix3 0 d j)) (fun j e => x3 (ix3 0 j e)) lam) (x4 (ix2 0 e)) e := by
  pointwise [k0_pay1, k0_pay2, k0_pay3, k0_pay4, k0_pay5, k0_pay6, k0_pay7]
  simp only [Cert.AttnIdeal.Value.sel_lt, Cert.AttnIdeal.Value.sel_ge]
  rw [word_ninf]
  rfl

/-- The result array after the run, over the arrays the kernel is launched on. -/
theorem final (c : Dev nD) : (dats m 0 c).arrAt 5 (cfgs 0).N
    = ctxOut (V m c main_v160) (V m c main_v161) (V m c main_v162) (V m c main_v163 (ix1 0)) (V m c main_v164) := by
  refine (dats m 0 c).arrAt_eq_of_covers 5 _ (by decide +kernel) fun t _ y => ?_
  blk_simp
  rw [after0_5]
  unfold outsAt0
  frame_out
  rw [blk0]
  generalize hG : ctxOut (V m c main_v160) (V m c main_v161) (V m c main_v162) (V m c main_v163 (ix1 0)) (V m c main_v164) = G
  obtain ⟨r, e, rfl⟩ : ∃ (r : Fin 256) (e : Fin 128), y = ix3 0 r e := ⟨y 1, y 2, by blk_ext⟩
  have hemb : ((View.whole main_v165).slice (win0_5.rect t)).emb (ix3 0 r e)
      = (ix3 ⟨t.val / 8, by have := tlt t; omega⟩ r ⟨t.val % 8 * 128 + e.val, by omega⟩ : S8x256x1024.Idx) := by
    blk_ext [idx t]
  rw [hemb, ← hG]
  refine (point _ _ _ _ _ r e).trans ?_
  have e1 : ∀ p, (⟨(t.val % 8 * 128 + e.val) / 128, p⟩ : Fin 8) = ⟨t.val % 8, by omega⟩ := fun _ => Fin.ext (by simp only; omega)
  have e2 : ∀ p, (⟨(t.val % 8 * 128 + e.val) % 128, p⟩ : Fin 128) = e := fun _ => Fin.ext (by simp only; omega)
  have hk : ∀ Q K W l g, ctxOut Q K W l g (ix3 ⟨t.val / 8, by have := tlt t; omega⟩ r ⟨t.val % 8 * 128 + e.val, by omega⟩)
      = ctxRes Q K W l g ⟨t.val / 8, by have := tlt t; omega⟩ r ⟨t.val % 8, by omega⟩ e := by
    intro Q K W l g
    refine Eq.trans (b := ctxRes Q K W l g ⟨t.val / 8, by have := tlt t; omega⟩ r ⟨(t.val % 8 * 128 + e.val) / 128, by omega⟩ ⟨(t.val % 8 * 128 + e.val) % 128, by omega⟩) rfl ?_
    rw [e1, e2]
  refine Eq.trans ?_ (hk _ _ _ _ _).symm
  unfold ctxRes katt
  simp only [blk1, blk2, blk3, blk4]

end Cert.CtxAttnIdeal.Value
-- ==== Proof.CtxAttn.Host.lean ====
/- The arrays the context tokens' launch reads, element by element: the first 256 tokens of the queries, keys and values of
   all tokens, which are normed and not rotated. -/
module
public import proofs.«01_k».proof.Proof.Gen.CtxAttnIdeal.Value
public import proofs.«01_k».proof.Proof.Attn.Kernel
public import proofs.«01_k».proof.Proof.Attn.Bridge
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.CtxAttnIdeal.Value
open Cert.CtxAttnIdeal Cert.CtxAttnIdeal.Gen Cert.AttnMath
open Cert.AttnIdeal.Value (KQ KQ_at cat cat_lo)
variable (m : (ℓ : Loc nD τ sig) → Buf (Elt Ideal) ℓ)

variable (A0 : FVec Ideal S8x256x3072 .f32) (A1 : FVec Ideal S8x4096x3072 .f32) (g : FVec Ideal S64 .f32)

/-- The query of context token `t`, head and branch `n`: normed, not rotated. -/
def cq (b : Fin 8) (t : Fin 256) (n : Fin 16) (d : Fin 64) : EReal :=
  nrm (fun d => A0 (ix3 b t ⟨n.val * 64 + d.val, by omega⟩)) (fun d => g (ix1 d)) d

/-- The key of context token `j`, head and branch `n`: normed, not rotated. -/
def ck (b : Fin 8) (j : Fin 256) (n : Fin 16) (d : Fin 64) : EReal :=
  nrm (fun d => A0 (ix3 b j ⟨1024 + (n.val * 64 + d.val), by omega⟩)) (fun d => g (ix1 d)) d

/-- Lane `l` of the values of context token `j`. -/
def cv (b : Fin 8) (j : Fin 256) (l : Fin 1024) : EReal := A0 (ix3 b j ⟨2048 + l.val, by omega⟩)

/-- The queries of all tokens, over any arrays. -/
abbrev allQ : FVec Ideal S8x4352x1024 .f32 :=
  KQ (extractStridedSlice S8x4352x1024 ![0, 0, 0] (cat A0 A1) slices_S8x4352x3072_S8x4352x1024_0_0_0) g

/-- The keys of all tokens, over any arrays. -/
abbrev allK : FVec Ideal S8x4352x1024 .f32 :=
  KQ (extractStridedSlice S8x4352x1024 ![0, 0, 1024] (cat A0 A1) slices_S8x4352x3072_S8x4352x1024_0_0_1024) g

/-- The values of all tokens, over any arrays. -/
abbrev allV : FVec Ideal S8x4352x1024 .f32 :=
  extractStridedSlice S8x4352x1024 ![0, 0, 2048] (cat A0 A1) slices_S8x4352x3072_S8x4352x1024_0_0_2048

/-- A context token's query among those of all tokens. -/
theorem allQ_at (b : Fin 8) (t : Fin 256) (l : Fin 1024) :
    allQ A0 A1 g (ix3 b ⟨t.val, by omega⟩ l) = cq A0 g b t ⟨l.val / 64, by omega⟩ ⟨l.val % 64, by omega⟩ := by
  have e : ∀ l : Fin 1024, extractStridedSlice S8x4352x1024 ![0, 0, 0] (cat A0 A1) slices_S8x4352x3072_S8x4352x1024_0_0_0
      (ix3 b ⟨t.val, by omega⟩ l) = cat A0 A1 (ix3 b ⟨t.val, by omega⟩ ⟨l.val, by omega⟩) := fun l => by pointwise
  have hc : ∀ l : Fin 3072, cat A0 A1 (ix3 b ⟨t.val, by omega⟩ l) = A0 (ix3 b t l) :=
    fun l => cat_lo A0 A1 b ⟨t.val, by omega⟩ l t.isLt
  unfold allQ cq
  rw [KQ_at, dif_pos t.isLt]
  simp only [e, hc]

/-- A context token's key among those of all tokens. -/
theorem allK_at (b : Fin 8) (t : Fin 256) (l : Fin 1024) :
    allK A0 A1 g (ix3 b ⟨t.val, by omega⟩ l) = ck A0 g b t ⟨l.val / 64, by omega⟩ ⟨l.val % 64, by omega⟩ := by
  refine (Cert.AttnIdeal.Value.k_gen A0 A1 g b ⟨t.val, by omega⟩ l).trans ?_
  unfold kv
  rw [dif_pos t.isLt]
  rfl

/-- A context token's values among those of all tokens. -/
theorem allV_at (b : Fin 8) (t : Fin 256) (l : Fin 1024) : allV A0 A1 (ix3 b ⟨t.val, by omega⟩ l) = cv A0 b t l := by
  refine (Cert.AttnIdeal.Value.v_gen A0 A1 b ⟨t.val, by omega⟩ l).trans ?_
  unfold vv
  rw [dif_pos t.isLt]
  rfl

/-- The queries the kernel reads. -/
theorem q_term (c : Dev nD) : V m c main_v160
    = extractStridedSlice S8x256x1024 ![0, 0, 0] (allQ (m ((c : Thread nD τ).loc main_arg0)) (m ((c : Thread nD τ).loc main_arg1))
        (m ((c : Thread nD τ).loc main_arg2))) slices_S8x4352x1024_S8x256x1024_0_0_0 := by
  entry_read
  rfl

/-- The transposed keys the kernel reads. -/
theorem k_term (c : Dev nD) : V m c main_v161
    = extractStridedSlice S8x1024x256 ![0, 0, 0] (transpose S8x1024x4352 [0, 2, 1] (truncf (F := Ideal) .bf16
        (allK (m ((c : Thread nD τ).loc main_arg0)) (m ((c : Thread nD τ).loc main_arg1)) (m ((c : Thread nD τ).loc main_arg3))) bitsLt_bf16_f32)
        transposes_S8x4352x1024_S8x1024x4352_0_2_1) slices_S8x1024x4352_S8x1024x256_0_0_0 := by
  entry_read
  rfl

/-- The values the kernel reads. -/
theorem v_term (c : Dev nD) : V m c main_v162
    = extractStridedSlice S8x256x1024 ![0, 0, 0] (truncf (F := Ideal) .bf16
        (allV (m ((c : Thread nD τ).loc main_arg0)) (m ((c : Thread nD τ).loc main_arg1))) bitsLt_bf16_f32) slices_S8x4352x1024_S8x256x1024_0_0_0 := by
  entry_read
  rfl

/-- A query the kernel reads. -/
theorem q_at (c : Dev nD) (b : Fin 8) (t : Fin 256) (l : Fin 1024) : V m c main_v160 (ix3 b t l)
    = cq (m ((c : Thread nD τ).loc main_arg0)) (m ((c : Thread nD τ).loc main_arg2)) b t ⟨l.val / 64, by omega⟩ ⟨l.val % 64, by omega⟩ := by
  have e : ∀ X : FVec Ideal S8x4352x1024 .f32, extractStridedSlice S8x256x1024 ![0, 0, 0] X slices_S8x4352x1024_S8x256x1024_0_0_0 (ix3 b t l)
      = X (ix3 b ⟨t.val, by omega⟩ l) := fun X => by pointwise
  rw [q_term]
  exact (e _).trans (allQ_at _ _ _ b t l)

/-- A key the kernel reads. -/
theorem k_at (c : Dev nD) (b : Fin 8) (l : Fin 1024) (j : Fin 256) : V m c main_v161 (ix3 b l j)
    = ck (m ((c : Thread nD τ).loc main_arg0)) (m ((c : Thread nD τ).loc main_arg3)) b j ⟨l.val / 64, by omega⟩ ⟨l.val % 64, by omega⟩ := by
  have e : ∀ X : FVec Ideal S8x4352x1024 .f32, extractStridedSlice S8x1024x256 ![0, 0, 0] (transpose S8x1024x4352 [0, 2, 1]
      (truncf (F := Ideal) .bf16 X bitsLt_bf16_f32) transposes_S8x4352x1024_S8x1024x4352_0_2_1) slices_S8x1024x4352_S8x1024x256_0_0_0 (ix3 b l j)
      = X (ix3 b ⟨j.val, by omega⟩ l) := fun X => by pointwise
  rw [k_term]
  exact (e _).trans (allK_at _ _ _ b j l)

/-- A value the kernel reads. -/
theorem v_at (c : Dev nD) (b : Fin 8) (j : Fin 256) (l : Fin 1024) : V m c main_v162 (ix3 b j l)
    = cv (m ((c : Thread nD τ).loc main_arg0)) b j l := by
  have e : ∀ X : FVec Ideal S8x4352x1024 .f32, extractStridedSlice S8x256x1024 ![0, 0, 0] (truncf (F := Ideal) .bf16 X bitsLt_bf16_f32)
      slices_S8x4352x1024_S8x256x1024_0_0_0 (ix3 b j l) = X (ix3 b ⟨j.val, by omega⟩ l) := fun X => by pointwise
  rw [v_term]
  exact (e _).trans (allV_at _ _ b j l)

/-- The factor the kernel reads. -/
theorem lam_at (c : Dev nD) : V m c main_v163 (ix1 0)
    = lamv (m ((c : Thread nD τ).loc main_arg4)) (m ((c : Thread nD τ).loc main_arg5)) (m ((c : Thread nD τ).loc main_arg6))
        (m ((c : Thread nD τ).loc main_arg7)) := by
  entry_read
  pointwise
  rfl

/-- The gain the kernel reads. -/
theorem g_at (c : Dev nD) (e : Fin 128) : V m c main_v164 (ix2 0 e) = m ((c : Thread nD τ).loc main_arg8) (ix1 e) := by
  entry_read
  pointwise

end Cert.CtxAttnIdeal.Value
-- ==== Proof.CtxAttn.Ref.lean ====
/- The reference's attention of the context tokens, read element by element. -/
module
public import proofs.«01_k».proof.Proof.Gen.CtxAttnRefIdeal.Run
public import proofs.«01_k».proof.Proof.CtxAttn.Host
public import proofs.«01_k».proof.Proof.Attn.Consts
public import Idealize.ShloMosaic.Lib.Pipeline.ValueKit
@[expose] public section
set_option maxRecDepth 16384
noncomputable section
open Idealize.ShloMosaic Idealize.ShloMosaic.TcCoe Idealize.SL.Sem
namespace Cert.CtxAttnRefIdeal.Value
open Cert.CtxAttnRefIdeal Cert.CtxAttnRefIdeal.Gen Cert.AttnMath
open Cert.CtxAttnIdeal.Value (cq ck cv)

/-- The norm of the queries or keys. -/
def CN (X : FVec Ideal S8x256x16x64 .f32) (g : FVec Ideal S64 .f32) : FVec Ideal S8x256x16x64 .f32 :=
  mulf (mulf X (broadcastInDim S8x256x16x64 ![0, 1, 2, 3] bcast_S8x256x16x1_S8x256x16x64_0_1_2_3 (Host.rsqrt (addf (Host.divf
    (broadcastInDim S8x256x16x1 ![0, 1, 2] bcast_S8x256x16_S8x256x16x1_0_1_2
      (Host.reduceAdd (mulf X X) (constant S_ .f32 0x00000000#32) reducesTo_S8x256x16x64_S8x256x16_d3 h_S_))
    (broadcastInDim S8x256x16x1 ![] bcast_S_S8x256x16x1 (constant S_ .f32 0x42800000#32)))
    (broadcastInDim S8x256x16x1 ![] bcast_S_S8x256x16x1 (constant S_ .f32 0x358637BD#32))))))
    (broadcastInDim S8x256x16x64 ![0, 1, 2, 3] bcast_S1x1x1x64_S8x256x16x64_0_1_2_3 (broadcastInDim S1x1x1x64 ![3] bcast_S64_S1x1x1x64_3 g))

/-- The norm, read at an element. -/
theorem CN_at (X : FVec Ideal S8x256x16x64 .f32) (g : FVec Ideal S64 .f32) (b : Fin 8) (t : Fin 256) (n : Fin 16) (d : Fin 64) :
    CN X g (ix4 b t n d) = nrm (fun d => X (ix4 b t n d)) (fun d => g (ix1 d)) d := by
  pointwise [CN]
  rfl

/-- The queries, by head and branch. -/
def CQ (A0 : FVec Ideal S8x256x3072 .f32) (g : FVec Ideal S64 .f32) : FVec Ideal S8x256x16x64 .f32 :=
  CN (shapeCast S8x256x16x64 (extractStridedSlice S8x256x1024 ![0, 0, 0] A0 slices_S8x256x3072_S8x256x1024_0_0_0) shapeCasts_S8x256x1024_S8x256x16x64) g

/-- The keys, by head and branch. -/
def CK (A0 : FVec Ideal S8x256x3072 .f32) (g : FVec Ideal S64 .f32) : FVec Ideal S8x256x16x64 .f32 :=
  CN (shapeCast S8x256x16x64 (extractStridedSlice S8x256x1024 ![0, 0, 1024] A0 slices_S8x256x3072_S8x256x1024_0_0_1024) shapeCasts_S8x256x1024_S8x256x16x64) g

/-- The values, by head. -/
def CV (A0 : FVec Ideal S8x256x3072 .f32) : FVec Ideal S8x256x8x128 .f32 :=
  shapeCast S8x256x8x128 (extractStridedSlice S8x256x1024 ![0, 0, 2048] A0 slices_S8x256x3072_S8x256x1024_0_0_2048) shapeCasts_S8x256x1024_S8x256x8x128

/-- The queries, read at an element. -/
theorem CQ_at (A0 : FVec Ideal S8x256x3072 .f32) (g : FVec Ideal S64 .f32) (b : Fin 8) (t : Fin 256) (n : Fin 16) (d : Fin 64) :
    CQ A0 g (ix4 b t n d) = cq A0 g b t n d := by
  have e : ∀ d : Fin 64, shapeCast S8x256x16x64 (extractStridedSlice S8x256x1024 ![0, 0, 0] A0 slices_S8x256x3072_S8x256x1024_0_0_0)
      shapeCasts_S8x256x1024_S8x256x16x64 (ix4 b t n d) = A0 (ix3 b t ⟨n.val * 64 + d.val, by omega⟩) := fun d => by pointwise
  unfold CQ cq
  rw [CN_at]
  simp only [e]

/-- The keys, read at an element. -/
theorem CK_at (A0 : FVec Ideal S8x256x3072 .f32) (g : FVec Ideal S64 .f32) (b : Fin 8) (t : Fin 256) (n : Fin 16) (d : Fin 64) :
    CK A0 g (ix4 b t n d) = ck A0 g b t n d := by
  have e : ∀ d : Fin 64, shapeCast S8x256x16x64 (extractStridedSlice S8x256x1024 ![0, 0, 1024] A0 slices_S8x256x3072_S8x256x1024_0_0_1024)
      shapeCasts_S8x256x1024_S8x256x16x64 (ix4 b t n d) = A0 (ix3 b t ⟨1024 + (n.val * 64 + d.val), by omega⟩) := fun d => by pointwise
  unfold CK ck
  rw [CN_at]
  simp only [e]

/-- The values, read at an element. -/
theorem CV_at (A0 : FVec Ideal S8x256x3072 .f32) (b : Fin 8) (j : Fin 256) (h : Fin 8) (e : Fin 128) :
    CV A0 (ix4 b j h e) = cv A0 b j ⟨h.val * 128 + e.val, by omega⟩ := by
  pointwise [CV]
  rfl

/-- The scores over any queries and keys. -/
def CS (q k : FVec Ideal S8x256x16x64 .f32) : FVec Ideal S8x16x256x256 .f32 :=
  mulf (Host.dotGeneral dot_S8x256x16x64_S8x256x16x64_S8x16x256x256_3_3_1_1_02_02 none q k)
    (broadcastInDim S8x16x256x256 ![] bcast_S_S8x16x256x256 (constant S_ .f32 0x3E000000#32))

/-- The scores, read at an element. -/
theorem CS_at (q k : FVec Ideal S8x256x16x64 .f32) (b : Fin 8) (n : Fin 16) (t j : Fin 256) :
    CS q k (ix4 b n t j) = (∑ d : Fin 64, q (ix4 b t n d) * k (ix4 b j n d)) * Ideal.ofBits .f32 0x3E000000#32 := by
  pointwise [CS]

/-- The greatest score, from a start, read at an element. -/
theorem CM0_at (s : FVec Ideal S8x16x256x256 .f32) (b : Fin 8) (n : Fin 16) (t : Fin 256) :
    Host.reduce (FloatOps.maximumf (F := Ideal)) s (constant S_ .f32 0xFF800000#32) reducesTo_S8x16x256x256_S8x16x256_d3 h_S_ (ix3 b n t)
      = Finset.univ.fold max (Ideal.ofBits .f32 0xFF800000#32) fun j => s (ix4 b n t j) := by
  pointwise

/-- The greater of the least element and numbers is the numbers. -/
theorem ninf_max (y : FVec Ideal S8x16x256 .f32) (i : S8x16x256.Idx) :
    maximumf (broadcastInDim S8x16x256 ![] bcast_S_S8x16x256 (constant S_ .f32 0xFF800000#32)) y i = y i := by
  have e : maximumf (broadcastInDim S8x16x256 ![] bcast_S_S8x16x256 (constant S_ .f32 0xFF800000#32)) y i
      = max (Ideal.ofBits .f32 0xFF800000#32) (y i) := rfl
  rw [e, word_ninf]
  exact max_bot_left (α := EReal) (y i)

/-- The greatest score of each query. -/
def CM (s : FVec Ideal S8x16x256x256 .f32) : FVec Ideal S8x16x256 .f32 :=
  maximumf (broadcastInDim S8x16x256 ![] bcast_S_S8x16x256 (constant S_ .f32 0xFF800000#32))
    (Host.reduce FloatOps.maximumf s (constant S_ .f32 0xFF800000#32) reducesTo_S8x16x256x256_S8x16x256_d3 h_S_)

/-- The greatest score, read at an element. -/
theorem CM_at (s : FVec Ideal S8x16x256x256 .f32) (b : Fin 8) (n : Fin 16) (t : Fin 256) :
    CM s (ix3 b n t) = Finset.univ.fold max (⊥ : EReal) fun j => s (ix4 b n t j) := by
  unfold CM
  rw [ninf_max, CM0_at, word_ninf]

/-- One number per query, along the keys. -/
abbrev CL (x : FVec Ideal S8x16x256 .f32) : FVec Ideal S8x16x256x256 .f32 :=
  broadcastInDim S8x16x256x256 ![0, 1, 2, 3] bcast_S8x16x256x1_S8x16x256x256_0_1_2_3
    (broadcastInDim S8x16x256x1 ![0, 1, 2] bcast_S8x16x256_S8x16x256x1_0_1_2 x)

/-- The exponentials of scores less a number per query. -/
def CE (s : FVec Ideal S8x16x256x256 .f32) (M : FVec Ideal S8x16x256 .f32) : FVec Ideal S8x16x256x256 .f32 :=
  Host.exp (subf s (CL M))

/-- The exponentials, read at an element. -/
theorem CE_at (s : FVec Ideal S8x16x256x256 .f32) (M : FVec Ideal S8x16x256 .f32) (b : Fin 8) (n : Fin 16) (t j : Fin 256) :
    CE s M (ix4 b n t j) = Ideal.exp (s (ix4 b n t j) - M (ix3 b n t)) := by
  pointwise [CE]

/-- Numbers over their sum along the keys, a head and a branch apart. -/
def CD (e : FVec Ideal S8x16x256x256 .f32) : FVec Ideal S8x8x2x256x256 .f32 :=
  shapeCast S8x8x2x256x256 (Host.divf e (CL (Host.reduceAdd e (constant S_ .f32 0x00000000#32) reducesTo_S8x16x256x256_S8x16x256_d3 h_S_)))
    shapeCasts_S8x16x256x256_S8x8x2x256x256

/-- Numbers over their sum, read at an element. -/
theorem CD_at (e : FVec Ideal S8x16x256x256 .f32) (b h : Fin 8) (c : Fin 2) (t j : Fin 256) :
    CD e (ix5 b h c t j) = Ideal.div (e (ix4 b ⟨h.val * 2 + c.val, by omega⟩ t j)) (∑ x, e (ix4 b ⟨h.val * 2 + c.val, by omega⟩ t x)) := by
  pointwise [CD]

/-- The softmax weights over any scores. -/
def CP (s : FVec Ideal S8x16x256x256 .f32) : FVec Ideal S8x8x2x256x256 .f32 := CD (CE s (CM s))

/-- The softmax weights, read at an element. -/
theorem CP_at (s : FVec Ideal S8x16x256x256 .f32) (b h : Fin 8) (c : Fin 2) (t j : Fin 256) :
    CP s (ix5 b h c t j) = smw (fun j => s (ix4 b ⟨h.val * 2 + c.val, by omega⟩ t j)) j := by
  unfold CP smw
  rw [CD_at]
  simp only [CE_at, CM_at]

/-- The factor of the second branch. -/
def CLam (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The factor, read. -/
theorem CLam_at (a b c d : FVec Ideal S64 .f32) (i : S_.Idx) : CLam a b c d i = lamv a b c d := by
  pointwise [CLam]
  rfl

/-- The difference of the two branches' weights. -/
def CW (p : FVec Ideal S8x8x2x256x256 .f32) (lam : FVec Ideal S_ .f32) : FVec Ideal S8x8x256x256 .f32 :=
  subf (shapeCast S8x8x256x256 (extractStridedSlice S8x8x1x256x256 ![0, 0, 0, 0, 0] p slices_S8x8x2x256x256_S8x8x1x256x256_0_0_0_0_0)
      shapeCasts_S8x8x1x256x256_S8x8x256x256)
    (mulf (broadcastInDim S8x8x256x256 ![] bcast_S_S8x8x256x256 lam)
      (shapeCast S8x8x256x256 (extractStridedSlice S8x8x1x256x256 ![0, 0, 1, 0, 0] p slices_S8x8x2x256x256_S8x8x1x256x256_0_0_1_0_0)
        shapeCasts_S8x8x1x256x256_S8x8x256x256))

/-- The difference of the weights, read at an element. -/
theorem CW_at (p : FVec Ideal S8x8x2x256x256 .f32) (lam : FVec Ideal S_ .f32) (b h : Fin 8) (t j : Fin 256) :
    CW p lam (ix4 b h t j) = p (ix5 b h 0 t j) - lam ix0 * p (ix5 b h 1 t j) := by
  pointwise [CW]

/-- The weighted values. -/
def CO (v : FVec Ideal S8x256x8x128 .f32) (w : FVec Ideal S8x8x256x256 .f32) : FVec Ideal S8x256x8x128 .f32 :=
  transpose S8x256x8x128 [0, 3, 1, 2] (Host.dotGeneral dot_S8x256x8x128_S8x8x256x256_S8x8x128x256_1_3_3_2_02_01 none v w)
    transposes_S8x8x128x256_S8x256x8x128_0_3_1_2

/-- The weighted values, read at an element. -/
theorem CO_at (v : FVec Ideal S8x256x8x128 .f32) (w : FVec Ideal S8x8x256x256 .f32) (b : Fin 8) (t : Fin 256) (h : Fin 8) (e : Fin 128) :
    CO v w (ix4 b t h e) = ∑ j : Fin 256, v (ix4 b j h e) * w (ix4 b h t j) := by
  pointwise [CO]

/-- The last norm and its factors. -/
def CF (o : FVec Ideal S8x256x8x128 .f32) (g : FVec Ideal S128 .f32) : FVec Ideal S8x256x1024 .f32 :=
  shapeCast S8x256x1024 (mulf (mulf (mulf o (broadcastInDim S8x256x8x128 ![0, 1, 2, 3] bcast_S8x256x8x1_S8x256x8x128_0_1_2_3
    (Host.rsqrt (addf (Host.divf (broadcastInDim S8x256x8x1 ![0, 1, 2] bcast_S8x256x8_S8x256x8x1_0_1_2
      (Host.reduceAdd (mulf o o) (constant S_ .f32 0x00000000#32) reducesTo_S8x256x8x128_S8x256x8_d3 h_S_))
      (broadcastInDim S8x256x8x1 ![] bcast_S_S8x256x8x1 (constant S_ .f32 0x43000000#32)))
      (broadcastInDim S8x256x8x1 ![] bcast_S_S8x256x8x1 (constant S_ .f32 0x358637BD#32))))))
    (broadcastInDim S8x256x8x128 ![0, 1, 2, 3] bcast_S1x1x1x128_S8x256x8x128_0_1_2_3 (broadcastInDim S1x1x1x128 ![3] bcast_S128_S1x1x1x128_3 g)))
    (broadcastInDim S8x256x8x128 ![] bcast_S_S8x256x8x128 (constant S_ .f32 0x3F4CCCCD#32))) shapeCasts_S8x256x8x128_S8x256x1024

/-- The last norm, read at an element. -/
theorem CF_at (o : FVec Ideal S8x256x8x128 .f32) (g : FVec Ideal S128 .f32) (b : Fin 8) (t : Fin 256) (l : Fin 1024) :
    CF o g (ix3 b t l) = finish (fun e => o (ix4 b t ⟨l.val / 128, by omega⟩ e)) (g (ix1 ⟨l.val % 128, by omega⟩)) ⟨l.val % 128, by omega⟩ := by
  pointwise [CF]
  rfl

/-- The reference's attention, over any arrays. -/
def cout (A0 : FVec Ideal S8x256x3072 .f32) (g2 g3 a4 a5 a6 a7 : FVec Ideal S64 .f32) (g8 : FVec Ideal S128 .f32) :
    FVec Ideal S8x256x1024 .f32 :=
  CF (CO (CV A0) (CW (CP (CS (CQ A0 g2) (CK A0 g3))) (CLam a4 a5 a6 a7))) g8

/-- The reference's scores. -/
def csc (A0 : FVec Ideal S8x256x3072 .f32) (g2 g3 : FVec Ideal S64 .f32) (b : Fin 8) (t : Fin 256) (n : Fin 16) (j : Fin 256) : EReal :=
  (∑ d : Fin 64, cq A0 g2 b t n d * ck A0 g3 b j n d) * Ideal.ofBits .f32 0x3E000000#32

/-- The reference's result, from the arguments. -/
def cres (A0 : FVec Ideal S8x256x3072 .f32) (g2 g3 a4 a5 a6 a7 : FVec Ideal S64 .f32) (g8 : FVec Ideal S128 .f32)
    (b : Fin 8) (t : Fin 256) (h : Fin 8) (e : Fin 128) : EReal :=
  finish (fun e => ∑ j : Fin 256, cv A0 b j ⟨h.val * 128 + e.val, by omega⟩
    * (smw (csc A0 g2 g3 b t ⟨h.val * 2, by omega⟩) j
      - lamv a4 a5 a6 a7 * smw (csc A0 g2 g3 b t ⟨h.val * 2 + 1, by omega⟩) j)) (g8 (ix1 e)) e

/-- The reference's attention before its last norm, read at an element. -/
theorem mid_at (A0 : FVec Ideal S8x256x3072 .f32) (g2 g3 a4 a5 a6 a7 : FVec Ideal S64 .f32)
    (b : Fin 8) (t : Fin 256) (h : Fin 8) (e : Fin 128) :
    CO (CV A0) (CW (CP (CS (CQ A0 g2) (CK A0 g3))) (CLam a4 a5 a6 a7)) (ix4 b t h e)
      = ∑ j : Fin 256, cv A0 b j ⟨h.val * 128 + e.val, by omega⟩
          * (smw (csc A0 g2 g3 b t ⟨h.val * 2, by omega⟩) j
            - lamv a4 a5 a6 a7 * smw (csc A0 g2 g3 b t ⟨h.val * 2 + 1, by omega⟩) j) := by
  rw [CO_at]
  refine Finset.sum_congr rfl fun j _ => ?_
  rw [CV_at, CW_at, CLam_at, CP_at, CP_at]
  simp only [CS_at, CQ_at, CK_at]
  rfl

/-- The reference's attention, read at an element. -/
theorem cout_at (A0 : FVec Ideal S8x256x3072 .f32) (g2 g3 a4 a5 a6 a7 : FVec Ideal S64 .f32) (g8 : FVec Ideal S128 .f32)
    (b : Fin 8) (t : Fin 256) (l : Fin 1024) : cout A0 g2 g3 a4 a5 a6 a7 g8 (ix3 b t l)
      = cres A0 g2 g3 a4 a5 a6 a7 g8 b t ⟨l.val / 128, by omega⟩ ⟨l.val % 128, by omega⟩ := by
  unfold cout cres
  rw [CF_at]
  simp only [mid_at]

/-- The value the reference's program computes is the attention of its arguments. -/
theorem res_term (m : (ℓ : Loc nD τ sig) → Buf (Elt Ideal) ℓ) (c : Dev nD) : res_out0 m c
    = cout (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) := by
  unfold res_out0 res_main_v79 cout CF CO CV CW CP CD CE CM CS CQ CK CN CLam
  rfl

end Cert.CtxAttnRefIdeal.Value
-- ==== Proof.CtxAttn.Claims.lean ====
/- The claims about the context tokens' attention. -/
module

public import proofs.«01_k».proof.Defs
public import proofs.«01_k».proof.Proof.Gen.CtxAttn.Frame
public import proofs.«01_k».proof.Proof.Gen.CtxAttnIdeal.Frame
public import proofs.«01_k».proof.Proof.Gen.Pre_ctx_finite
public import proofs.«01_k».proof.Proof.CtxAttn.Kernel
public import proofs.«01_k».proof.Proof.CtxAttn.Host
public import proofs.«01_k».proof.Proof.CtxAttn.Ref
public import proofs.«01_k».proof.Proof.Attn.Finite

@[expose] public section

set_option maxRecDepth 16384

noncomputable section

namespace Cert.CtxAttnClaims

open Idealize.ShloMosaic Idealize.ShloMosaic.TcCoe Idealize.SL.Sem Cert.AttnMath
open Cert.CtxAttnIdeal (S8x256x3072 S8x4096x3072 S8x256x1024 S8x1024x256 S64 S128 S1x128)
open Cert.CtxAttnIdeal.Value (cq ck cv ctxRes ctxOut)
open Cert.CtxAttnRefIdeal.Value (cres cout csc)

/-- The printed program runs and leaves its arguments. -/
theorem frame_p : Cert.quiescent_CtxAttn := fun m ρ _ => Cert.CtxAttn.Gen.frame m ρ

/-- Its ideal twin runs and leaves its arguments. -/
theorem frame_pi : Cert.quiescent_CtxAttnIdeal := fun m ρ _ => Cert.CtxAttnIdeal.Gen.frame m ρ

/-- The same under the precondition. -/
theorem frame_pi' : Cert.quiescent_CtxAttnIdeal_pre_ctx_finite := fun m ρ _ => Cert.CtxAttnIdeal.Gen.frame m ρ

/-- The reference runs and leaves its arguments. -/
theorem frame_ri : Cert.quiescent_CtxAttnRefIdeal := fun m ρ _ =>
  (θ_run Cert.CtxAttnRefIdeal.defs _ _).mono (fun r h => ⟨fun c => (h c).2, sem_eq_zero_of_no_sems (by decide) r.2⟩)
    (Cert.CtxAttnRefIdeal.Value.run (F := Ideal) m ρ)

/-- The same under the precondition. -/
theorem frame_ri' : Cert.quiescent_CtxAttnRefIdeal_pre_ctx_finite := fun m ρ _ => frame_ri m ρ trivial

/-- The scale of the queries is the number its name stands for. -/
theorem preserves : Cert.preserves_CtxAttn_CtxAttnIdeal :=
  IdealRules.named_const.statement Cert.CtxAttnIdeal.κ "qscale" .f32 0x3E38AA3B#32 (((1 / 8) * (Real.log 2)⁻¹ : ℝ) : EReal) rfl

/-- The precondition makes the context's projections, the two gains and the vectors of lambda real. -/
theorem finite_args (a0 : FVec Ideal S8x256x3072 .f32) (a1 : FVec Ideal S8x4096x3072 .f32) (a2 a3 a4 a5 a6 a7 : FVec Ideal S64 .f32)
    (a8 : FVec Ideal S128 .f32) (h : Cert.Pre_ctx_finite.fn (F := Ideal) a0 a1 a2 a3 a4 a5 a6 a7 a8 = fun _ => 1#1) :
    (∀ i, IsR (a0 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) := by
  have h0 := congrFun h (fun i => i.elim0)
  dsimp only [Cert.Pre_ctx_finite.fn, Cert.Pre_ctx_finite.fn_part1] at h0
  obtain ⟨h0, e7⟩ := and_one _ _ h0
  obtain ⟨h0, e6⟩ := and_one _ _ h0
  obtain ⟨h0, e5⟩ := and_one _ _ h0
  obtain ⟨h0, e4⟩ := and_one _ _ h0
  obtain ⟨h0, e3⟩ := and_one _ _ h0
  obtain ⟨e0, e2⟩ := and_one _ _ h0
  exact ⟨isR_of_all a0 _ _ _ e0, isR_of_all a2 _ _ _ e2, isR_of_all a3 _ _ _ e3, isR_of_all a4 _ _ _ e4,
    isR_of_all a5 _ _ _ e5, isR_of_all a6 _ _ _ e6, isR_of_all a7 _ _ _ e7⟩

section
variable (A0 : FVec Ideal S8x256x3072 .f32) (g2 g3 a4 a5 a6 a7 : FVec Ideal S64 .f32) (g8 : FVec Ideal S128 .f32)

/-- The kernel's result at an element, from launched arrays that hold queries, keys, values, the factor and the gain, is the
    reference's. -/
theorem ctxRes_eq (Q : FVec Ideal S8x256x1024 .f32) (K : FVec Ideal S8x1024x256 .bf16) (W : FVec Ideal S8x256x1024 .bf16)
    (lam : EReal) (g : FVec Ideal S1x128 .f32)
    (hQ : ∀ b t (l : Fin 1024), Q (ix3 b t l) = cq A0 g2 b t ⟨l.val / 64, by omega⟩ ⟨l.val % 64, by omega⟩)
    (hK : ∀ b (l : Fin 1024) j, K (ix3 b l j) = ck A0 g3 b j ⟨l.val / 64, by omega⟩ ⟨l.val % 64, by omega⟩)
    (hW : ∀ b j l, W (ix3 b j l) = cv A0 b j l) (hlam : lam = lamv a4 a5 a6 a7) (hg : ∀ e, g (ix2 0 e) = g8 (ix1 e))
    (r0 : ∀ i, IsR (A0 i)) (r2 : ∀ i, IsR (g2 i)) (r3 : ∀ i, IsR (g3 i)) (r4 : ∀ i, IsR (a4 i))
    (r5 : ∀ i, IsR (a5 i)) (r6 : ∀ i, IsR (a6 i)) (r7 : ∀ i, IsR (a7 i)) (b : Fin 8) (t : Fin 256) (h : Fin 8) (e : Fin 128) :
    ctxRes Q K W lam g b t h e = cres A0 g2 g3 a4 a5 a6 a7 g8 b t h e := by
  unfold ctxRes cres
  rw [hg]
  congr 1
  funext e
  have n0 : ∀ (d : Fin 64), (⟨(h.val * 128 + d.val) / 64, by omega⟩ : Fin 16) = ⟨h.val * 2, by omega⟩ := fun d => Fin.ext (by simp only; omega)
  have d0 : ∀ (d : Fin 64), (⟨(h.val * 128 + d.val) % 64, by omega⟩ : Fin 64) = d := fun d => Fin.ext (by simp only; omega)
  have n1 : ∀ (d : Fin 64), (⟨(h.val * 128 + (64 + d.val)) / 64, by omega⟩ : Fin 16) = ⟨h.val * 2 + 1, by omega⟩ := fun d => Fin.ext (by simp only; omega)
  have d1 : ∀ (d : Fin 64), (⟨(h.val * 128 + (64 + d.val)) % 64, by omega⟩ : Fin 64) = d := fun d => Fin.ext (by simp only; omega)
  rw [bridge _ _ _ _ e (cq A0 g2 b t ⟨h.val * 2, by omega⟩) (cq A0 g2 b t ⟨h.val * 2 + 1, by omega⟩)
    (fun j => ck A0 g3 b j ⟨h.val * 2, by omega⟩) (fun j => ck A0 g3 b j ⟨h.val * 2 + 1, by omega⟩)
    (fun d => by rw [hQ]; simp only [n0, d0]) (fun d => by rw [hQ]; simp only [n1, d1])
    (fun d j => by rw [hK]; simp only [n0, d0]) (fun d j => by rw [hK]; simp only [n1, d1])
    (fun d => isR_nrm _ _ (fun _ => r0 _) (fun _ => r2 _) d) (fun d => isR_nrm _ _ (fun _ => r0 _) (fun _ => r2 _) d)
    (fun j d => isR_nrm _ _ (fun _ => r0 _) (fun _ => r3 _) d) (fun j d => isR_nrm _ _ (fun _ => r0 _) (fun _ => r3 _) d)
    (fun j => by rw [hW]; exact r0 _) (by rw [hlam]; exact isR_lamv a4 a5 a6 a7 r4 r5 r6 r7)]
  rw [hlam]
  refine Finset.sum_congr rfl fun j _ => ?_
  rw [hW]
  rfl

/-- The kernel's result array is the reference's, given what the launched arrays hold. -/
theorem ctxOut_eq (Q : FVec Ideal S8x256x1024 .f32) (K : FVec Ideal S8x1024x256 .bf16) (W : FVec Ideal S8x256x1024 .bf16)
    (lam : EReal) (g : FVec Ideal S1x128 .f32)
    (hQ : ∀ b t (l : Fin 1024), Q (ix3 b t l) = cq A0 g2 b t ⟨l.val / 64, by omega⟩ ⟨l.val % 64, by omega⟩)
    (hK : ∀ b (l : Fin 1024) j, K (ix3 b l j) = ck A0 g3 b j ⟨l.val / 64, by omega⟩ ⟨l.val % 64, by omega⟩)
    (hW : ∀ b j l, W (ix3 b j l) = cv A0 b j l) (hlam : lam = lamv a4 a5 a6 a7) (hg : ∀ e, g (ix2 0 e) = g8 (ix1 e))
    (r0 : ∀ i, IsR (A0 i)) (r2 : ∀ i, IsR (g2 i)) (r3 : ∀ i, IsR (g3 i)) (r4 : ∀ i, IsR (a4 i))
    (r5 : ∀ i, IsR (a5 i)) (r6 : ∀ i, IsR (a6 i)) (r7 : ∀ i, IsR (a7 i)) :
    ctxOut Q K W lam g = cout A0 g2 g3 a4 a5 a6 a7 g8 := by
  funext i
  obtain ⟨b, t, l, rfl⟩ : ∃ (b : Fin 8) (t : Fin 256) (l : Fin 1024), i = ix3 b t l := ⟨i 0, i 1, i 2, by
    funext a; match a with | ⟨0, _⟩ => rfl | ⟨1, _⟩ => rfl | ⟨2, _⟩ => rfl⟩
  rw [Cert.CtxAttnRefIdeal.Value.cout_at]
  refine Eq.trans (b := ctxRes Q K W lam g b t ⟨l.val / 128, by omega⟩ ⟨l.val % 128, by omega⟩) rfl ?_
  exact ctxRes_eq A0 g2 g3 a4 a5 a6 a7 g8 Q K W lam g hQ hK hW hlam hg r0 r2 r3 r4 r5 r6 r7 b t _ _

end

/-- For finite arguments the kernel's result is the reference's. -/
theorem algebraic : Cert.algebraic_CtxAttnIdeal_CtxAttnRefIdeal_pre_ctx_finite := by
  intro m ρ m' ρ' hpre hagree
  refine ⟨_, Cert.CtxAttnIdeal.Value.run_blocks m ρ, ?_⟩
  refine (θ_run Cert.CtxAttnRefIdeal.defs _ _).mono (fun _ h c => ⟨(h c).1.trans ?_, (h c).2⟩) (Cert.CtxAttnRefIdeal.Value.run (F := Ideal) m' ρ')
  obtain ⟨r0, r2, r3, r4, r5, r6, r7⟩ := finite_args _ _ _ _ _ _ _ _ _ (hpre c)
  obtain ⟨e0, e1, e2, e3, e4, e5, e6, e7, e8⟩ := hagree c
  have hk := ctxOut_eq _ _ _ _ _ _ _ _ _ _ _ _ _ (Cert.CtxAttnIdeal.Value.q_at m c) (Cert.CtxAttnIdeal.Value.k_at m c)
    (Cert.CtxAttnIdeal.Value.v_at m c) (Cert.CtxAttnIdeal.Value.lam_at m c) (Cert.CtxAttnIdeal.Value.g_at m c) r0 r2 r3 r4 r5 r6 r7
  refine (Cert.CtxAttnRefIdeal.Value.res_term m' c).trans ?_
  rw [e0, e2, e3, e4, e5, e6, e7, e8]
  exact ((Cert.CtxAttnIdeal.Value.final m c).trans hk).symm

end Cert.CtxAttnClaims

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal
public import proofs.«01_k».proof.Proof.Gen.Pre_attn_finite
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryRefIdeal
public import proofs.«01_k».proof.Proof.Gen.QueryRefIdeal.Run
public import proofs.«01_k».proof.Proof.Gen.QueryIdeal.Value
public import proofs.«01_k».proof.Proof.Gen.Norms
public import proofs.«01_k».proof.Proof.Gen.Norms.Frame
public import proofs.«01_k».proof.Proof.Gen.NormsIdeal
public import proofs.«01_k».proof.Proof.Gen.NormsIdeal.Frame
public import proofs.«01_k».proof.Proof.Gen.NormsRefIdeal
public import proofs.«01_k».proof.Proof.Gen.NormsRefIdeal.Run
public import proofs.«01_k».proof.Proof.Gen.CtxAttn
public import proofs.«01_k».proof.Proof.Gen.CtxAttn.Frame
public import proofs.«01_k».proof.Proof.Gen.CtxAttnIdeal
public import proofs.«01_k».proof.Proof.Gen.CtxAttnIdeal.Frame
public import proofs.«01_k».proof.Proof.Gen.CtxAttnIdeal.Value
public import proofs.«01_k».proof.Proof.Gen.CtxAttnRefIdeal
public import proofs.«01_k».proof.Proof.Gen.CtxAttnRefIdeal.Run
public import proofs.«01_k».proof.Proof.Gen.Pre_ctx_finite
public import proofs.«01_k».proof.Proof.Attn.Claims
public import proofs.«01_k».proof.Proof.InProj.Claims
public import proofs.«01_k».proof.Proof.Merge.Claims
public import proofs.«01_k».proof.Proof.Query.Claims
public import proofs.«01_k».proof.Proof.Norms.Claims
public import proofs.«01_k».proof.Proof.CtxAttn.Claims
public import Idealize.ShloMosaic.Adequacy
public import Idealize.ShloMosaic.Init

@[expose] public section

noncomputable section

namespace Cert.Proof

open Idealize.ShloMosaic Idealize.SL.Sem Cert.Attn

/-- The certificate's claim. -/
theorem claim : Cert.Claim :=
  ⟨Cert.Attn.Gen.facts, Cert.AttnIdeal.Gen.facts, Cert.AttnRefIdeal.Gen.facts,
    Cert.InProj.Gen.facts, Cert.InProjIdeal.Gen.facts, Cert.InProjRefIdeal.Gen.facts,
    Cert.Merge.Gen.facts, Cert.MergeIdeal.Gen.facts, Cert.MergeRefIdeal.Gen.facts,
    Cert.Query.Gen.facts, Cert.QueryIdeal.Gen.facts, Cert.QueryRefIdeal.Gen.facts,
    Cert.Norms.Gen.facts, Cert.NormsIdeal.Gen.facts, Cert.NormsRefIdeal.Gen.facts,
    Cert.CtxAttn.Gen.facts, Cert.CtxAttnIdeal.Gen.facts, Cert.CtxAttnRefIdeal.Gen.facts,
    Cert.Pre_attn_finite.Gen.facts, Cert.Pre_ctx_finite.Gen.facts,
    Cert.AttnClaims.frame_p, Cert.AttnClaims.frame_pi, Cert.AttnClaims.frame_pi', Cert.AttnClaims.frame_ri, Cert.AttnClaims.frame_ri',
    Cert.InProjClaims.frame_p, Cert.InProjClaims.frame_pi, Cert.InProjClaims.frame_ri,
    Cert.MergeClaims.frame_p, Cert.MergeClaims.frame_pi, Cert.MergeClaims.frame_ri,
    Cert.QueryClaims.frame_p, Cert.QueryClaims.frame_pi, Cert.QueryClaims.frame_ri,
    Cert.NormsClaims.frame_p, Cert.NormsClaims.frame_pi, Cert.NormsClaims.frame_ri,
    Cert.CtxAttnClaims.frame_p, Cert.CtxAttnClaims.frame_pi, Cert.CtxAttnClaims.frame_pi', Cert.CtxAttnClaims.frame_ri, Cert.CtxAttnClaims.frame_ri',
    Cert.AttnClaims.preserves, Cert.AttnClaims.algebraic,
    Cert.InProjClaims.preserves, Cert.InProjClaims.algebraic,
    Cert.MergeClaims.preserves, Cert.MergeClaims.algebraic,
    Cert.QueryClaims.preserves, Cert.QueryClaims.algebraic,
    Cert.NormsClaims.preserves, Cert.NormsClaims.algebraic,
    Cert.CtxAttnClaims.preserves, Cert.CtxAttnClaims.algebraic⟩

end Cert.Proof

end
